-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 64]⟩ ⟨2, ![1024, 1024]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![64, 1024]⟩ ⟨2, ![1024, 1024]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x64 : Shape := ⟨2, ![1024, 64]⟩
abbrev S64x1024 : Shape := ⟨2, ![64, 1024]⟩
abbrev S1024x1024 : Shape := ⟨2, ![1024, 1024]⟩
abbrev S16x64x1024 : Shape := ⟨3, ![16, 64, 1024]⟩
abbrev S8x64x1024 : Shape := ⟨3, ![8, 64, 1024]⟩
abbrev S8 : Shape := ⟨1, ![8]⟩
abbrev S1 : Shape := ⟨1, ![1]⟩
abbrev S_ : Shape := ⟨0, ![]⟩
abbrev S64x64 : Shape := ⟨2, ![64, 64]⟩
abbrev S1x64x1024 : Shape := ⟨3, ![1, 64, 1024]⟩

abbrev nBuf : Space → Nat
  | .hbm => 3
  | .vmem => 12
  | .smem => 0
  | _ => 0

abbrev bufTy : (tb : Table) → Fin (tcTables nBuf tb) → BufTy
  | .hbm, ⟨0, _⟩ => ⟨S1024x64, .bf16⟩
  | .hbm, ⟨1, _⟩ => ⟨S64x1024, .bf16⟩
  | .hbm, ⟨2, _⟩ => ⟨S1024x1024, .f32⟩
  | .local _ .vmem, ⟨0, _⟩ => ⟨S1024x64, .bf16⟩
  | .local _ .vmem, ⟨1, _⟩ => ⟨S64x1024, .bf16⟩
  | .local _ .vmem, ⟨2, _⟩ => ⟨S1024x1024, .f32⟩
  | .local _ .vmem, ⟨3, _⟩ => ⟨S16x64x1024, .bf16⟩
  | .local _ .vmem, ⟨4, _⟩ => ⟨S8x64x1024, .bf16⟩
  | .local _ .vmem, ⟨5, _⟩ => ⟨S8x64x1024, .bf16⟩
  | .local _ .vmem, ⟨6, _⟩ => ⟨S64x1024, .bf16⟩
  | .local _ .vmem, ⟨7, _⟩ => ⟨S64x1024, .bf16⟩
  | .local _ .vmem, ⟨8, _⟩ => ⟨S64x1024, .bf16⟩
  | .local _ .vmem, ⟨9, _⟩ => ⟨S64x1024, .bf16⟩
  | .local _ .vmem, ⟨10, _⟩ => ⟨S8x64x1024, .bf16⟩
  | .local _ .vmem, ⟨11, _⟩ => ⟨S8x64x1024, .bf16⟩
  | _, _ => ⟨S1024x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  (ofTc nBuf bufTy 1 71 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_48 : BitVec 32 := 0#32
  let c4_i32_39 : BitVec 32 := 4#32
  let c2_i32_31 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v74 : BitVec 32 := Scalar.muli c2_i32_31 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c1_i32_25 : BitVec 32 := 1#32
  let v63 : BitVec 32 := Scalar.addi v58 c1_i32_25
  let c8_i32 : BitVec 32 := 8#32
  let c0_i32_26 : BitVec 32 := 0#32
  let v64 : BitVec 1 := Scalar.cmpi .eq c8_i32 c0_i32_26
  let c1_i32_27 : BitVec 32 := 1#32
  let v65 : BitVec 32 := Scalar.select v64 c1_i32_27 c8_i32
  let v66 : BitVec 32 := Scalar.remsi v63 v65
  let c0_i32_29 : BitVec 32 := 0#32
  let v68 : BitVec 1 := Scalar.cmpi .slt v66 c0_i32_29
  let c0_i32_30 : BitVec 32 := 0#32
  let v69 : BitVec 1 := Scalar.cmpi .slt v65 c0_i32_30
  let v70 : BitVec 1 := Scalar.xori v68 v69
  let c0_i32_28 : BitVec 32 := 0#32
  let v67 : BitVec 1 := Scalar.cmpi .ne v66 c0_i32_28
  let v71 : BitVec 1 := Scalar.andi v70 v67
  let v72 : BitVec 32 := Scalar.addi v66 v65
  let v73 : BitVec 32 := Scalar.select v71 v72 v66
  let c0_i32_33 : BitVec 32 := 0#32
  let v76 : BitVec 1 := Scalar.cmpi .sgt v73 c0_i32_33
  let v77 : BitVec 32 := Scalar.extui v76
  let c0_i32_34 : BitVec 32 := 0#32
  let v78 : BitVec 1 := Scalar.cmpi .slt v73 c0_i32_34
  let v79 : BitVec 32 := Scalar.extui v78
  let v80 : BitVec 32 := Scalar.subi v77 v79
  let c4_i32_32 : BitVec 32 := 4#32
  let c0_i32_35 : BitVec 32 := 0#32
  let v81 : BitVec 1 := Scalar.cmpi .sgt c4_i32_32 c0_i32_35
  let v82 : BitVec 32 := Scalar.extui v81
  let c0_i32_36 : BitVec 32 := 0#32
  let v83 : BitVec 1 := Scalar.cmpi .slt c4_i32_32 c0_i32_36
  let v84 : BitVec 32 := Scalar.extui v83
  let v85 : BitVec 32 := Scalar.subi v82 v84
  let v86 : BitVec 1 := Scalar.cmpi .ne v80 v85
  let v87 : BitVec 32 := Scalar.remsi v73 c4_i32_32
  let c0_i32_37 : BitVec 32 := 0#32
  let v88 : BitVec 1 := Scalar.cmpi .ne v87 c0_i32_37
  let v89 : BitVec 1 := Scalar.andi v86 v88
  let v75 : BitVec 32 := Scalar.divsi v73 c4_i32_32
  let c1_i32_38 : BitVec 32 := 1#32
  let v90 : BitVec 32 := Scalar.subi v75 c1_i32_38
  let v91 : BitVec 32 := Scalar.select v89 v90 v75
  let v92 : BitVec 32 := Scalar.addi v74 v91
  let v93 : BitVec 32 := Scalar.muli c4_i32_39 v92
  let c4_i32_40 : BitVec 32 := 4#32
  let c0_i32_41 : BitVec 32 := 0#32
  let v94 : BitVec 1 := Scalar.cmpi .eq c4_i32_40 c0_i32_41
  let c1_i32_42 : BitVec 32 := 1#32
  let v95 : BitVec 32 := Scalar.select v94 c1_i32_42 c4_i32_40
  let v96 : BitVec 32 := Scalar.remsi v73 v95
  let c0_i32_44 : BitVec 32 := 0#32
  let v98 : BitVec 1 := Scalar.cmpi .slt v96 c0_i32_44
  let c0_i32_45 : BitVec 32 := 0#32
  let v99 : BitVec 1 := Scalar.cmpi .slt v95 c0_i32_45
  let v100 : BitVec 1 := Scalar.xori v98 v99
  let c0_i32_43 : BitVec 32 := 0#32
  let v97 : BitVec 1 := Scalar.cmpi .ne v96 c0_i32_43
  let v101 : BitVec 1 := Scalar.andi v100 v97
  let v102 : BitVec 32 := Scalar.addi v96 v95
  let v103 : BitVec 32 := Scalar.select v101 v102 v96
  let v104 : BitVec 32 := Scalar.addi v93 v103
  let c1_i32_47 : BitVec 32 := 1#32
  let v105 : BitVec 32 := Scalar.muli v104 c1_i32_47
  let v106 : BitVec 32 := Scalar.addi c0_i32_48 v105
  v106.toNat
def k0_dev2 (d0 : Dev nD) : Nat :=
  let c0_i32_73 : BitVec 32 := 0#32
  let c4_i32_64 : BitVec 32 := 4#32
  let c2_i32_56 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v118 : BitVec 32 := Scalar.muli c2_i32_56 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c2_i32_49 : BitVec 32 := 2#32
  let v107 : BitVec 32 := Scalar.addi v58 c2_i32_49
  let c8_i32_50 : BitVec 32 := 8#32
  let c0_i32_51 : BitVec 32 := 0#32
  let v108 : BitVec 1 := Scalar.cmpi .eq c8_i32_50 c0_i32_51
  let c1_i32_52 : BitVec 32 := 1#32
  let v109 : BitVec 32 := Scalar.select v108 c1_i32_52 c8_i32_50
  let v110 : BitVec 32 := Scalar.remsi v107 v109
  let c0_i32_54 : BitVec 32 := 0#32
  let v112 : BitVec 1 := Scalar.cmpi .slt v110 c0_i32_54
  let c0_i32_55 : BitVec 32 := 0#32
  let v113 : BitVec 1 := Scalar.cmpi .slt v109 c0_i32_55
  let v114 : BitVec 1 := Scalar.xori v112 v113
  let c0_i32_53 : BitVec 32 := 0#32
  let v111 : BitVec 1 := Scalar.cmpi .ne v110 c0_i32_53
  let v115 : BitVec 1 := Scalar.andi v114 v111
  let v116 : BitVec 32 := Scalar.addi v110 v109
  let v117 : BitVec 32 := Scalar.select v115 v116 v110
  let c0_i32_58 : BitVec 32 := 0#32
  let v120 : BitVec 1 := Scalar.cmpi .sgt v117 c0_i32_58
  let v121 : BitVec 32 := Scalar.extui v120
  let c0_i32_59 : BitVec 32 := 0#32
  let v122 : BitVec 1 := Scalar.cmpi .slt v117 c0_i32_59
  let v123 : BitVec 32 := Scalar.extui v122
  let v124 : BitVec 32 := Scalar.subi v121 v123
  let c4_i32_57 : BitVec 32 := 4#32
  let c0_i32_60 : BitVec 32 := 0#32
  let v125 : BitVec 1 := Scalar.cmpi .sgt c4_i32_57 c0_i32_60
  let v126 : BitVec 32 := Scalar.extui v125
  let c0_i32_61 : BitVec 32 := 0#32
  let v127 : BitVec 1 := Scalar.cmpi .slt c4_i32_57 c0_i32_61
  let v128 : BitVec 32 := Scalar.extui v127
  let v129 : BitVec 32 := Scalar.subi v126 v128
  let v130 : BitVec 1 := Scalar.cmpi .ne v124 v129
  let v131 : BitVec 32 := Scalar.remsi v117 c4_i32_57
  let c0_i32_62 : BitVec 32 := 0#32
  let v132 : BitVec 1 := Scalar.cmpi .ne v131 c0_i32_62
  let v133 : BitVec 1 := Scalar.andi v130 v132
  let v119 : BitVec 32 := Scalar.divsi v117 c4_i32_57
  let c1_i32_63 : BitVec 32 := 1#32
  let v134 : BitVec 32 := Scalar.subi v119 c1_i32_63
  let v135 : BitVec 32 := Scalar.select v133 v134 v119
  let v136 : BitVec 32 := Scalar.addi v118 v135
  let v137 : BitVec 32 := Scalar.muli c4_i32_64 v136
  let c4_i32_65 : BitVec 32 := 4#32
  let c0_i32_66 : BitVec 32 := 0#32
  let v138 : BitVec 1 := Scalar.cmpi .eq c4_i32_65 c0_i32_66
  let c1_i32_67 : BitVec 32 := 1#32
  let v139 : BitVec 32 := Scalar.select v138 c1_i32_67 c4_i32_65
  let v140 : BitVec 32 := Scalar.remsi v117 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v148 : BitVec 32 := Scalar.addi v137 v147
  let c1_i32_72 : BitVec 32 := 1#32
  let v149 : BitVec 32 := Scalar.muli v148 c1_i32_72
  let v150 : BitVec 32 := Scalar.addi c0_i32_73 v149
  v150.toNat
def k0_dev3 (d0 : Dev nD) : Nat :=
  let c0_i32_98 : BitVec 32 := 0#32
  let c4_i32_89 : BitVec 32 := 4#32
  let c2_i32_81 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v162 : BitVec 32 := Scalar.muli c2_i32_81 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c3_i32_74 : BitVec 32 := 3#32
  let v151 : BitVec 32 := Scalar.addi v58 c3_i32_74
  let c8_i32_75 : BitVec 32 := 8#32
  let c0_i32_76 : BitVec 32 := 0#32
  let v152 : BitVec 1 := Scalar.cmpi .eq c8_i32_75 c0_i32_76
  let c1_i32_77 : BitVec 32 := 1#32
  let v153 : BitVec 32 := Scalar.select v152 c1_i32_77 c8_i32_75
  let v154 : BitVec 32 := Scalar.remsi v151 v153
  let c0_i32_79 : BitVec 32 := 0#32
  let v156 : BitVec 1 := Scalar.cmpi .slt v154 c0_i32_79
  let c0_i32_80 : BitVec 32 := 0#32
  let v157 : BitVec 1 := Scalar.cmpi .slt v153 c0_i32_80
  let v158 : BitVec 1 := Scalar.xori v156 v157
  let c0_i32_78 : BitVec 32 := 0#32
  let v155 : BitVec 1 := Scalar.cmpi .ne v154 c0_i32_78
  let v159 : BitVec 1 := Scalar.andi v158 v155
  let v160 : BitVec 32 := Scalar.addi v154 v153
  let v161 : BitVec 32 := Scalar.select v159 v160 v154
  let c0_i32_83 : BitVec 32 := 0#32
  let v164 : BitVec 1 := Scalar.cmpi .sgt v161 c0_i32_83
  let v165 : BitVec 32 := Scalar.extui v164
  let c0_i32_84 : BitVec 32 := 0#32
  let v166 : BitVec 1 := Scalar.cmpi .slt v161 c0_i32_84
  let v167 : BitVec 32 := Scalar.extui v166
  let v168 : BitVec 32 := Scalar.subi v165 v167
  let c4_i32_82 : BitVec 32 := 4#32
  let c0_i32_85 : BitVec 32 := 0#32
  let v169 : BitVec 1 := Scalar.cmpi .sgt c4_i32_82 c0_i32_85
  let v170 : BitVec 32 := Scalar.extui v169
  let c0_i32_86 : BitVec 32 := 0#32
  let v171 : BitVec 1 := Scalar.cmpi .slt c4_i32_82 c0_i32_86
  let v172 : BitVec 32 := Scalar.extui v171
  let v173 : BitVec 32 := Scalar.subi v170 v172
  let v174 : BitVec 1 := Scalar.cmpi .ne v168 v173
  let v175 : BitVec 32 := Scalar.remsi v161 c4_i32_82
  let c0_i32_87 : BitVec 32 := 0#32
  let v176 : BitVec 1 := Scalar.cmpi .ne v175 c0_i32_87
  let v177 : BitVec 1 := Scalar.andi v174 v176
  let v163 : BitVec 32 := Scalar.divsi v161 c4_i32_82
  let c1_i32_88 : BitVec 32 := 1#32
  let v178 : BitVec 32 := Scalar.subi v163 c1_i32_88
  let v179 : BitVec 32 := Scalar.select v177 v178 v163
  let v180 : BitVec 32 := Scalar.addi v162 v179
  let v181 : BitVec 32 := Scalar.muli c4_i32_89 v180
  let c4_i32_90 : BitVec 32 := 4#32
  let c0_i32_91 : BitVec 32 := 0#32
  let v182 : BitVec 1 := Scalar.cmpi .eq c4_i32_90 c0_i32_91
  let c1_i32_92 : BitVec 32 := 1#32
  let v183 : BitVec 32 := Scalar.select v182 c1_i32_92 c4_i32_90
  let v184 : BitVec 32 := Scalar.remsi v161 v183
  let c0_i32_94 : BitVec 32 := 0#32
  let v186 : BitVec 1 := Scalar.cmpi .slt v184 c0_i32_94
  let c0_i32_95 : BitVec 32 := 0#32
  let v187 : BitVec 1 := Scalar.cmpi .slt v183 c0_i32_95
  let v188 : BitVec 1 := Scalar.xori v186 v187
  let c0_i32_93 : BitVec 32 := 0#32
  let v185 : BitVec 1 := Scalar.cmpi .ne v184 c0_i32_93
  let v189 : BitVec 1 := Scalar.andi v188 v185
  let v190 : BitVec 32 := Scalar.addi v184 v183
  let v191 : BitVec 32 := Scalar.select v189 v190 v184
  let v192 : BitVec 32 := Scalar.addi v181 v191
  let c1_i32_97 : BitVec 32 := 1#32
  let v193 : BitVec 32 := Scalar.muli v192 c1_i32_97
  let v194 : BitVec 32 := Scalar.addi c0_i32_98 v193
  v194.toNat
def k0_dev4 (d0 : Dev nD) : Nat :=
  let c0_i32_123 : BitVec 32 := 0#32
  let c4_i32_114 : BitVec 32 := 4#32
  let c2_i32_106 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v206 : BitVec 32 := Scalar.muli c2_i32_106 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c4_i32_99 : BitVec 32 := 4#32
  let v195 : BitVec 32 := Scalar.addi v58 c4_i32_99
  let c8_i32_100 : BitVec 32 := 8#32
  let c0_i32_101 : BitVec 32 := 0#32
  let v196 : BitVec 1 := Scalar.cmpi .eq c8_i32_100 c0_i32_101
  let c1_i32_102 : BitVec 32 := 1#32
  let v197 : BitVec 32 := Scalar.select v196 c1_i32_102 c8_i32_100
  let v198 : BitVec 32 := Scalar.remsi v195 v197
  let c0_i32_104 : BitVec 32 := 0#32
  let v200 : BitVec 1 := Scalar.cmpi .slt v198 c0_i32_104
  let c0_i32_105 : BitVec 32 := 0#32
  let v201 : BitVec 1 := Scalar.cmpi .slt v197 c0_i32_105
  let v202 : BitVec 1 := Scalar.xori v200 v201
  let c0_i32_103 : BitVec 32 := 0#32
  let v199 : BitVec 1 := Scalar.cmpi .ne v198 c0_i32_103
  let v203 : BitVec 1 := Scalar.andi v202 v199
  let v204 : BitVec 32 := Scalar.addi v198 v197
  let v205 : BitVec 32 := Scalar.select v203 v204 v198
  let c0_i32_108 : BitVec 32 := 0#32
  let v208 : BitVec 1 := Scalar.cmpi .sgt v205 c0_i32_108
  let v209 : BitVec 32 := Scalar.extui v208
  let c0_i32_109 : BitVec 32 := 0#32
  let v210 : BitVec 1 := Scalar.cmpi .slt v205 c0_i32_109
  let v211 : BitVec 32 := Scalar.extui v210
  let v212 : BitVec 32 := Scalar.subi v209 v211
  let c4_i32_107 : BitVec 32 := 4#32
  let c0_i32_110 : BitVec 32 := 0#32
  let v213 : BitVec 1 := Scalar.cmpi .sgt c4_i32_107 c0_i32_110
  let v214 : BitVec 32 := Scalar.extui v213
  let c0_i32_111 : BitVec 32 := 0#32
  let v215 : BitVec 1 := Scalar.cmpi .slt c4_i32_107 c0_i32_111
  let v216 : BitVec 32 := Scalar.extui v215
  let v217 : BitVec 32 := Scalar.subi v214 v216
  let v218 : BitVec 1 := Scalar.cmpi .ne v212 v217
  let v219 : BitVec 32 := Scalar.remsi v205 c4_i32_107
  let c0_i32_112 : BitVec 32 := 0#32
  let v220 : BitVec 1 := Scalar.cmpi .ne v219 c0_i32_112
  let v221 : BitVec 1 := Scalar.andi v218 v220
  let v207 : BitVec 32 := Scalar.divsi v205 c4_i32_107
  let c1_i32_113 : BitVec 32 := 1#32
  let v222 : BitVec 32 := Scalar.subi v207 c1_i32_113
  let v223 : BitVec 32 := Scalar.select v221 v222 v207
  let v224 : BitVec 32 := Scalar.addi v206 v223
  let v225 : BitVec 32 := Scalar.muli c4_i32_114 v224
  let c4_i32_115 : BitVec 32 := 4#32
  let c0_i32_116 : BitVec 32 := 0#32
  let v226 : BitVec 1 := Scalar.cmpi .eq c4_i32_115 c0_i32_116
  let c1_i32_117 : BitVec 32 := 1#32
  let v227 : BitVec 32 := Scalar.select v226 c1_i32_117 c4_i32_115
  let v228 : BitVec 32 := Scalar.remsi v205 v227
  let c0_i32_119 : BitVec 32 := 0#32
  let v230 : BitVec 1 := Scalar.cmpi .slt v228 c0_i32_119
  let c0_i32_120 : BitVec 32 := 0#32
  let v231 : BitVec 1 := Scalar.cmpi .slt v227 c0_i32_120
  let v232 : BitVec 1 := Scalar.xori v230 v231
  let c0_i32_118 : BitVec 32 := 0#32
  let v229 : BitVec 1 := Scalar.cmpi .ne v228 c0_i32_118
  let v233 : BitVec 1 := Scalar.andi v232 v229
  let v234 : BitVec 32 := Scalar.addi v228 v227
  let v235 : BitVec 32 := Scalar.select v233 v234 v228
  let v236 : BitVec 32 := Scalar.addi v225 v235
  let c1_i32_122 : BitVec 32 := 1#32
  let v237 : BitVec 32 := Scalar.muli v236 c1_i32_122
  let v238 : BitVec 32 := Scalar.addi c0_i32_123 v237
  v238.toNat
def k0_dev5 (d0 : Dev nD) : Nat :=
  let c0_i32_147 : BitVec 32 := 0#32
  let c4_i32_138 : BitVec 32 := 4#32
  let c2_i32_130 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v250 : BitVec 32 := Scalar.muli c2_i32_130 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c5_i32 : BitVec 32 := 5#32
  let v239 : BitVec 32 := Scalar.addi v58 c5_i32
  let c8_i32_124 : BitVec 32 := 8#32
  let c0_i32_125 : BitVec 32 := 0#32
  let v240 : BitVec 1 := Scalar.cmpi .eq c8_i32_124 c0_i32_125
  let c1_i32_126 : BitVec 32 := 1#32
  let v241 : BitVec 32 := Scalar.select v240 c1_i32_126 c8_i32_124
  let v242 : BitVec 32 := Scalar.remsi v239 v241
  let c0_i32_128 : BitVec 32 := 0#32
  let v244 : BitVec 1 := Scalar.cmpi .slt v242 c0_i32_128
  let c0_i32_129 : BitVec 32 := 0#32
  let v245 : BitVec 1 := Scalar.cmpi .slt v241 c0_i32_129
  let v246 : BitVec 1 := Scalar.xori v244 v245
  let c0_i32_127 : BitVec 32 := 0#32
  let v243 : BitVec 1 := Scalar.cmpi .ne v242 c0_i32_127
  let v247 : BitVec 1 := Scalar.andi v246 v243
  let v248 : BitVec 32 := Scalar.addi v242 v241
  let v249 : BitVec 32 := Scalar.select v247 v248 v242
  let c0_i32_132 : BitVec 32 := 0#32
  let v252 : BitVec 1 := Scalar.cmpi .sgt v249 c0_i32_132
  let v253 : BitVec 32 := Scalar.extui v252
  let c0_i32_133 : BitVec 32 := 0#32
  let v254 : BitVec 1 := Scalar.cmpi .slt v249 c0_i32_133
  let v255 : BitVec 32 := Scalar.extui v254
  let v256 : BitVec 32 := Scalar.subi v253 v255
  let c4_i32_131 : BitVec 32 := 4#32
  let c0_i32_134 : BitVec 32 := 0#32
  let v257 : BitVec 1 := Scalar.cmpi .sgt c4_i32_131 c0_i32_134
  let v258 : BitVec 32 := Scalar.extui v257
  let c0_i32_135 : BitVec 32 := 0#32
  let v259 : BitVec 1 := Scalar.cmpi .slt c4_i32_131 c0_i32_135
  let v260 : BitVec 32 := Scalar.extui v259
  let v261 : BitVec 32 := Scalar.subi v258 v260
  let v262 : BitVec 1 := Scalar.cmpi .ne v256 v261
  let v263 : BitVec 32 := Scalar.remsi v249 c4_i32_131
  let c0_i32_136 : BitVec 32 := 0#32
  let v264 : BitVec 1 := Scalar.cmpi .ne v263 c0_i32_136
  let v265 : BitVec 1 := Scalar.andi v262 v264
  let v251 : BitVec 32 := Scalar.divsi v249 c4_i32_131
  let c1_i32_137 : BitVec 32 := 1#32
  let v266 : BitVec 32 := Scalar.subi v251 c1_i32_137
  let v267 : BitVec 32 := Scalar.select v265 v266 v251
  let v268 : BitVec 32 := Scalar.addi v250 v267
  let v269 : BitVec 32 := Scalar.muli c4_i32_138 v268
  let c4_i32_139 : BitVec 32 := 4#32
  let c0_i32_140 : BitVec 32 := 0#32
  let v270 : BitVec 1 := Scalar.cmpi .eq c4_i32_139 c0_i32_140
  let c1_i32_141 : BitVec 32 := 1#32
  let v271 : BitVec 32 := Scalar.select v270 c1_i32_141 c4_i32_139
  let v272 : BitVec 32 := Scalar.remsi v249 v271
  let c0_i32_143 : BitVec 32 := 0#32
  let v274 : BitVec 1 := Scalar.cmpi .slt v272 c0_i32_143
  let c0_i32_144 : BitVec 32 := 0#32
  let v275 : BitVec 1 := Scalar.cmpi .slt v271 c0_i32_144
  let v276 : BitVec 1 := Scalar.xori v274 v275
  let c0_i32_142 : BitVec 32 := 0#32
  let v273 : BitVec 1 := Scalar.cmpi .ne v272 c0_i32_142
  let v277 : BitVec 1 := Scalar.andi v276 v273
  let v278 : BitVec 32 := Scalar.addi v272 v271
  let v279 : BitVec 32 := Scalar.select v277 v278 v272
  let v280 : BitVec 32 := Scalar.addi v269 v279
  let c1_i32_146 : BitVec 32 := 1#32
  let v281 : BitVec 32 := Scalar.muli v280 c1_i32_146
  let v282 : BitVec 32 := Scalar.addi c0_i32_147 v281
  v282.toNat
def k0_dev6 (d0 : Dev nD) : Nat :=
  let c0_i32_171 : BitVec 32 := 0#32
  let c4_i32_162 : BitVec 32 := 4#32
  let c2_i32_154 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v294 : BitVec 32 := Scalar.muli c2_i32_154 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c6_i32 : BitVec 32 := 6#32
  let v283 : BitVec 32 := Scalar.addi v58 c6_i32
  let c8_i32_148 : BitVec 32 := 8#32
  let c0_i32_149 : BitVec 32 := 0#32
  let v284 : BitVec 1 := Scalar.cmpi .eq c8_i32_148 c0_i32_149
  let c1_i32_150 : BitVec 32 := 1#32
  let v285 : BitVec 32 := Scalar.select v284 c1_i32_150 c8_i32_148
  let v286 : BitVec 32 := Scalar.remsi v283 v285
  let c0_i32_152 : BitVec 32 := 0#32
  let v288 : BitVec 1 := Scalar.cmpi .slt v286 c0_i32_152
  let c0_i32_153 : BitVec 32 := 0#32
  let v289 : BitVec 1 := Scalar.cmpi .slt v285 c0_i32_153
  let v290 : BitVec 1 := Scalar.xori v288 v289
  let c0_i32_151 : BitVec 32 := 0#32
  let v287 : BitVec 1 := Scalar.cmpi .ne v286 c0_i32_151
  let v291 : BitVec 1 := Scalar.andi v290 v287
  let v292 : BitVec 32 := Scalar.addi v286 v285
  let v293 : BitVec 32 := Scalar.select v291 v292 v286
  let c0_i32_156 : BitVec 32 := 0#32
  let v296 : BitVec 1 := Scalar.cmpi .sgt v293 c0_i32_156
  let v297 : BitVec 32 := Scalar.extui v296
  let c0_i32_157 : BitVec 32 := 0#32
  let v298 : BitVec 1 := Scalar.cmpi .slt v293 c0_i32_157
  let v299 : BitVec 32 := Scalar.extui v298
  let v300 : BitVec 32 := Scalar.subi v297 v299
  let c4_i32_155 : BitVec 32 := 4#32
  let c0_i32_158 : BitVec 32 := 0#32
  let v301 : BitVec 1 := Scalar.cmpi .sgt c4_i32_155 c0_i32_158
  let v302 : BitVec 32 := Scalar.extui v301
  let c0_i32_159 : BitVec 32 := 0#32
  let v303 : BitVec 1 := Scalar.cmpi .slt c4_i32_155 c0_i32_159
  let v304 : BitVec 32 := Scalar.extui v303
  let v305 : BitVec 32 := Scalar.subi v302 v304
  let v306 : BitVec 1 := Scalar.cmpi .ne v300 v305
  let v307 : BitVec 32 := Scalar.remsi v293 c4_i32_155
  let c0_i32_160 : BitVec 32 := 0#32
  let v308 : BitVec 1 := Scalar.cmpi .ne v307 c0_i32_160
  let v309 : BitVec 1 := Scalar.andi v306 v308
  let v295 : BitVec 32 := Scalar.divsi v293 c4_i32_155
  let c1_i32_161 : BitVec 32 := 1#32
  let v310 : BitVec 32 := Scalar.subi v295 c1_i32_161
  let v311 : BitVec 32 := Scalar.select v309 v310 v295
  let v312 : BitVec 32 := Scalar.addi v294 v311
  let v313 : BitVec 32 := Scalar.muli c4_i32_162 v312
  let c4_i32_163 : BitVec 32 := 4#32
  let c0_i32_164 : BitVec 32 := 0#32
  let v314 : BitVec 1 := Scalar.cmpi .eq c4_i32_163 c0_i32_164
  let c1_i32_165 : BitVec 32 := 1#32
  let v315 : BitVec 32 := Scalar.select v314 c1_i32_165 c4_i32_163
  let v316 : BitVec 32 := Scalar.remsi v293 v315
  let c0_i32_167 : BitVec 32 := 0#32
  let v318 : BitVec 1 := Scalar.cmpi .slt v316 c0_i32_167
  let c0_i32_168 : BitVec 32 := 0#32
  let v319 : BitVec 1 := Scalar.cmpi .slt v315 c0_i32_168
  let v320 : BitVec 1 := Scalar.xori v318 v319
  let c0_i32_166 : BitVec 32 := 0#32
  let v317 : BitVec 1 := Scalar.cmpi .ne v316 c0_i32_166
  let v321 : BitVec 1 := Scalar.andi v320 v317
  let v322 : BitVec 32 := Scalar.addi v316 v315
  let v323 : BitVec 32 := Scalar.select v321 v322 v316
  let v324 : BitVec 32 := Scalar.addi v313 v323
  let c1_i32_170 : BitVec 32 := 1#32
  let v325 : BitVec 32 := Scalar.muli v324 c1_i32_170
  let v326 : BitVec 32 := Scalar.addi c0_i32_171 v325
  v326.toNat
def k0_dev7 (d0 : Dev nD) : Nat :=
  let c0_i32_195 : BitVec 32 := 0#32
  let c4_i32_186 : BitVec 32 := 4#32
  let c2_i32_178 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v338 : BitVec 32 := Scalar.muli c2_i32_178 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c7_i32 : BitVec 32 := 7#32
  let v327 : BitVec 32 := Scalar.addi v58 c7_i32
  let c8_i32_172 : BitVec 32 := 8#32
  let c0_i32_173 : BitVec 32 := 0#32
  let v328 : BitVec 1 := Scalar.cmpi .eq c8_i32_172 c0_i32_173
  let c1_i32_174 : BitVec 32 := 1#32
  let v329 : BitVec 32 := Scalar.select v328 c1_i32_174 c8_i32_172
  let v330 : BitVec 32 := Scalar.remsi v327 v329
  let c0_i32_176 : BitVec 32 := 0#32
  let v332 : BitVec 1 := Scalar.cmpi .slt v330 c0_i32_176
  let c0_i32_177 : BitVec 32 := 0#32
  let v333 : BitVec 1 := Scalar.cmpi .slt v329 c0_i32_177
  let v334 : BitVec 1 := Scalar.xori v332 v333
  let c0_i32_175 : BitVec 32 := 0#32
  let v331 : BitVec 1 := Scalar.cmpi .ne v330 c0_i32_175
  let v335 : BitVec 1 := Scalar.andi v334 v331
  let v336 : BitVec 32 := Scalar.addi v330 v329
  let v337 : BitVec 32 := Scalar.select v335 v336 v330
  let c0_i32_180 : BitVec 32 := 0#32
  let v340 : BitVec 1 := Scalar.cmpi .sgt v337 c0_i32_180
  let v341 : BitVec 32 := Scalar.extui v340
  let c0_i32_181 : BitVec 32 := 0#32
  let v342 : BitVec 1 := Scalar.cmpi .slt v337 c0_i32_181
  let v343 : BitVec 32 := Scalar.extui v342
  let v344 : BitVec 32 := Scalar.subi v341 v343
  let c4_i32_179 : BitVec 32 := 4#32
  let c0_i32_182 : BitVec 32 := 0#32
  let v345 : BitVec 1 := Scalar.cmpi .sgt c4_i32_179 c0_i32_182
  let v346 : BitVec 32 := Scalar.extui v345
  let c0_i32_183 : BitVec 32 := 0#32
  let v347 : BitVec 1 := Scalar.cmpi .slt c4_i32_179 c0_i32_183
  let v348 : BitVec 32 := Scalar.extui v347
  let v349 : BitVec 32 := Scalar.subi v346 v348
  let v350 : BitVec 1 := Scalar.cmpi .ne v344 v349
  let v351 : BitVec 32 := Scalar.remsi v337 c4_i32_179
  let c0_i32_184 : BitVec 32 := 0#32
  let v352 : BitVec 1 := Scalar.cmpi .ne v351 c0_i32_184
  let v353 : BitVec 1 := Scalar.andi v350 v352
  let v339 : BitVec 32 := Scalar.divsi v337 c4_i32_179
  let c1_i32_185 : BitVec 32 := 1#32
  let v354 : BitVec 32 := Scalar.subi v339 c1_i32_185
  let v355 : BitVec 32 := Scalar.select v353 v354 v339
  let v356 : BitVec 32 := Scalar.addi v338 v355
  let v357 : BitVec 32 := Scalar.muli c4_i32_186 v356
  let c4_i32_187 : BitVec 32 := 4#32
  let c0_i32_188 : BitVec 32 := 0#32
  let v358 : BitVec 1 := Scalar.cmpi .eq c4_i32_187 c0_i32_188
  let c1_i32_189 : BitVec 32 := 1#32
  let v359 : BitVec 32 := Scalar.select v358 c1_i32_189 c4_i32_187
  let v360 : BitVec 32 := Scalar.remsi v337 v359
  let c0_i32_191 : BitVec 32 := 0#32
  let v362 : BitVec 1 := Scalar.cmpi .slt v360 c0_i32_191
  let c0_i32_192 : BitVec 32 := 0#32
  let v363 : BitVec 1 := Scalar.cmpi .slt v359 c0_i32_192
  let v364 : BitVec 1 := Scalar.xori v362 v363
  let c0_i32_190 : BitVec 32 := 0#32
  let v361 : BitVec 1 := Scalar.cmpi .ne v360 c0_i32_190
  let v365 : BitVec 1 := Scalar.andi v364 v361
  let v366 : BitVec 32 := Scalar.addi v360 v359
  let v367 : BitVec 32 := Scalar.select v365 v366 v360
  let v368 : BitVec 32 := Scalar.addi v357 v367
  let c1_i32_194 : BitVec 32 := 1#32
  let v369 : BitVec 32 := Scalar.muli v368 c1_i32_194
  let v370 : BitVec 32 := Scalar.addi c0_i32_195 v369
  v370.toNat
def k0_dev8 (d0 : Dev nD) : Nat :=
  let c0_i32_198 : BitVec 32 := 0#32
  let c4_i32_24 : BitVec 32 := 4#32
  let c3_i32 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v59 : BitVec 32 := Scalar.subi c3_i32 v19
  let v60 : BitVec 32 := Scalar.muli c4_i32_24 v59
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v61 : BitVec 32 := Scalar.addi v60 v29
  let c1_i32_197 : BitVec 32 := 1#32
  let v371 : BitVec 32 := Scalar.muli v61 c1_i32_197
  let v372 : BitVec 32 := Scalar.addi c0_i32_198 v371
  v372.toNat
def k0_off1 (d0 : Dev nD) (c4_i32_200 : BitVec 32) : Fin 2 → Nat :=
  let c4_i32_230 : BitVec 32 := 4#32
  let c3_i32_229 : BitVec 32 := 3#32
  let c4_i32_215 : BitVec 32 := 4#32
  let c2_i32_207 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v384 : BitVec 32 := Scalar.muli c2_i32_207 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let v373 : BitVec 32 := Scalar.addi v58 c4_i32_200
  let c8_i32_201 : BitVec 32 := 8#32
  let c0_i32_202 : BitVec 32 := 0#32
  let v374 : BitVec 1 := Scalar.cmpi .eq c8_i32_201 c0_i32_202
  let c1_i32_203 : BitVec 32 := 1#32
  let v375 : BitVec 32 := Scalar.select v374 c1_i32_203 c8_i32_201
  let v376 : BitVec 32 := Scalar.remsi v373 v375
  let c0_i32_205 : BitVec 32 := 0#32
  let v378 : BitVec 1 := Scalar.cmpi .slt v376 c0_i32_205
  let c0_i32_206 : BitVec 32 := 0#32
  let v379 : BitVec 1 := Scalar.cmpi .slt v375 c0_i32_206
  let v380 : BitVec 1 := Scalar.xori v378 v379
  let c0_i32_204 : BitVec 32 := 0#32
  let v377 : BitVec 1 := Scalar.cmpi .ne v376 c0_i32_204
  let v381 : BitVec 1 := Scalar.andi v380 v377
  let v382 : BitVec 32 := Scalar.addi v376 v375
  let v383 : BitVec 32 := Scalar.select v381 v382 v376
  let c0_i32_209 : BitVec 32 := 0#32
  let v386 : BitVec 1 := Scalar.cmpi .sgt v383 c0_i32_209
  let v387 : BitVec 32 := Scalar.extui v386
  let c0_i32_210 : BitVec 32 := 0#32
  let v388 : BitVec 1 := Scalar.cmpi .slt v383 c0_i32_210
  let v389 : BitVec 32 := Scalar.extui v388
  let v390 : BitVec 32 := Scalar.subi v387 v389
  let c4_i32_208 : BitVec 32 := 4#32
  let c0_i32_211 : BitVec 32 := 0#32
  let v391 : BitVec 1 := Scalar.cmpi .sgt c4_i32_208 c0_i32_211
  let v392 : BitVec 32 := Scalar.extui v391
  let c0_i32_212 : BitVec 32 := 0#32
  let v393 : BitVec 1 := Scalar.cmpi .slt c4_i32_208 c0_i32_212
  let v394 : BitVec 32 := Scalar.extui v393
  let v395 : BitVec 32 := Scalar.subi v392 v394
  let v396 : BitVec 1 := Scalar.cmpi .ne v390 v395
  let v397 : BitVec 32 := Scalar.remsi v383 c4_i32_208
  let c0_i32_213 : BitVec 32 := 0#32
  let v398 : BitVec 1 := Scalar.cmpi .ne v397 c0_i32_213
  let v399 : BitVec 1 := Scalar.andi v396 v398
  let v385 : BitVec 32 := Scalar.divsi v383 c4_i32_208
  let c1_i32_214 : BitVec 32 := 1#32
  let v400 : BitVec 32 := Scalar.subi v385 c1_i32_214
  let v401 : BitVec 32 := Scalar.select v399 v400 v385
  let v402 : BitVec 32 := Scalar.addi v384 v401
  let v403 : BitVec 32 := Scalar.muli c4_i32_215 v402
  let c4_i32_216 : BitVec 32 := 4#32
  let c0_i32_217 : BitVec 32 := 0#32
  let v404 : BitVec 1 := Scalar.cmpi .eq c4_i32_216 c0_i32_217
  let c1_i32_218 : BitVec 32 := 1#32
  let v405 : BitVec 32 := Scalar.select v404 c1_i32_218 c4_i32_216
  let v406 : BitVec 32 := Scalar.remsi v383 v405
  let c0_i32_220 : BitVec 32 := 0#32
  let v408 : BitVec 1 := Scalar.cmpi .slt v406 c0_i32_220
  let c0_i32_221 : BitVec 32 := 0#32
  let v409 : BitVec 1 := Scalar.cmpi .slt v405 c0_i32_221
  let v410 : BitVec 1 := Scalar.xori v408 v409
  let c0_i32_219 : BitVec 32 := 0#32
  let v407 : BitVec 1 := Scalar.cmpi .ne v406 c0_i32_219
  let v411 : BitVec 1 := Scalar.andi v410 v407
  let v412 : BitVec 32 := Scalar.addi v406 v405
  let v413 : BitVec 32 := Scalar.select v411 v412 v406
  let v414 : BitVec 32 := Scalar.addi v403 v413
  let c0_i32_223 : BitVec 32 := 0#32
  let v416 : BitVec 1 := Scalar.cmpi .sgt v414 c0_i32_223
  let v417 : BitVec 32 := Scalar.extui v416
  let c0_i32_224 : BitVec 32 := 0#32
  let v418 : BitVec 1 := Scalar.cmpi .slt v414 c0_i32_224
  let v419 : BitVec 32 := Scalar.extui v418
  let v420 : BitVec 32 := Scalar.subi v417 v419
  let c4_i32_222 : BitVec 32 := 4#32
  let c0_i32_225 : BitVec 32 := 0#32
  let v421 : BitVec 1 := Scalar.cmpi .sgt c4_i32_222 c0_i32_225
  let v422 : BitVec 32 := Scalar.extui v421
  let c0_i32_226 : BitVec 32 := 0#32
  let v423 : BitVec 1 := Scalar.cmpi .slt c4_i32_222 c0_i32_226
  let v424 : BitVec 32 := Scalar.extui v423
  let v425 : BitVec 32 := Scalar.subi v422 v424
  let v426 : BitVec 1 := Scalar.cmpi .ne v420 v425
  let v427 : BitVec 32 := Scalar.remsi v414 c4_i32_222
  let c0_i32_227 : BitVec 32 := 0#32
  let v428 : BitVec 1 := Scalar.cmpi .ne v427 c0_i32_227
  let v429 : BitVec 1 := Scalar.andi v426 v428
  let v415 : BitVec 32 := Scalar.divsi v414 c4_i32_222
  let c1_i32_228 : BitVec 32 := 1#32
  let v430 : BitVec 32 := Scalar.subi v415 c1_i32_228
  let v431 : BitVec 32 := Scalar.select v429 v430 v415
  let v432 : BitVec 32 := Scalar.subi c3_i32_229 v431
  let v433 : BitVec 32 := Scalar.muli c4_i32_230 v432
  let c4_i32_231 : BitVec 32 := 4#32
  let c0_i32_232 : BitVec 32 := 0#32
  let v434 : BitVec 1 := Scalar.cmpi .eq c4_i32_231 c0_i32_232
  let c1_i32_233 : BitVec 32 := 1#32
  let v435 : BitVec 32 := Scalar.select v434 c1_i32_233 c4_i32_231
  let v436 : BitVec 32 := Scalar.remsi v414 v435
  let c0_i32_235 : BitVec 32 := 0#32
  let v438 : BitVec 1 := Scalar.cmpi .slt v436 c0_i32_235
  let c0_i32_236 : BitVec 32 := 0#32
  let v439 : BitVec 1 := Scalar.cmpi .slt v435 c0_i32_236
  let v440 : BitVec 1 := Scalar.xori v438 v439
  let c0_i32_234 : BitVec 32 := 0#32
  let v437 : BitVec 1 := Scalar.cmpi .ne v436 c0_i32_234
  let v441 : BitVec 1 := Scalar.andi v440 v437
  let v442 : BitVec 32 := Scalar.addi v436 v435
  let v443 : BitVec 32 := Scalar.select v441 v442 v436
  let v444 : BitVec 32 := Scalar.addi v433 v443
  let c64_i32 : BitVec 32 := 64#32
  let v445 : BitVec 32 := Scalar.muli v444 c64_i32
  let v446 : Index := Scalar.indexCast v445
  let c0 : Index := 0#32
  ![v446.toNat, 0]
def k0_off2 (d0 : Dev nD) (c4_i32_200 : BitVec 32) : Fin 3 → Nat :=
  let c4_i32_230 : BitVec 32 := 4#32
  let c3_i32_229 : BitVec 32 := 3#32
  let c4_i32_215 : BitVec 32 := 4#32
  let c2_i32_207 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v384 : BitVec 32 := Scalar.muli c2_i32_207 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let v373 : BitVec 32 := Scalar.addi v58 c4_i32_200
  let c8_i32_201 : BitVec 32 := 8#32
  let c0_i32_202 : BitVec 32 := 0#32
  let v374 : BitVec 1 := Scalar.cmpi .eq c8_i32_201 c0_i32_202
  let c1_i32_203 : BitVec 32 := 1#32
  let v375 : BitVec 32 := Scalar.select v374 c1_i32_203 c8_i32_201
  let v376 : BitVec 32 := Scalar.remsi v373 v375
  let c0_i32_205 : BitVec 32 := 0#32
  let v378 : BitVec 1 := Scalar.cmpi .slt v376 c0_i32_205
  let c0_i32_206 : BitVec 32 := 0#32
  let v379 : BitVec 1 := Scalar.cmpi .slt v375 c0_i32_206
  let v380 : BitVec 1 := Scalar.xori v378 v379
  let c0_i32_204 : BitVec 32 := 0#32
  let v377 : BitVec 1 := Scalar.cmpi .ne v376 c0_i32_204
  let v381 : BitVec 1 := Scalar.andi v380 v377
  let v382 : BitVec 32 := Scalar.addi v376 v375
  let v383 : BitVec 32 := Scalar.select v381 v382 v376
  let c0_i32_209 : BitVec 32 := 0#32
  let v386 : BitVec 1 := Scalar.cmpi .sgt v383 c0_i32_209
  let v387 : BitVec 32 := Scalar.extui v386
  let c0_i32_210 : BitVec 32 := 0#32
  let v388 : BitVec 1 := Scalar.cmpi .slt v383 c0_i32_210
  let v389 : BitVec 32 := Scalar.extui v388
  let v390 : BitVec 32 := Scalar.subi v387 v389
  let c4_i32_208 : BitVec 32 := 4#32
  let c0_i32_211 : BitVec 32 := 0#32
  let v391 : BitVec 1 := Scalar.cmpi .sgt c4_i32_208 c0_i32_211
  let v392 : BitVec 32 := Scalar.extui v391
  let c0_i32_212 : BitVec 32 := 0#32
  let v393 : BitVec 1 := Scalar.cmpi .slt c4_i32_208 c0_i32_212
  let v394 : BitVec 32 := Scalar.extui v393
  let v395 : BitVec 32 := Scalar.subi v392 v394
  let v396 : BitVec 1 := Scalar.cmpi .ne v390 v395
  let v397 : BitVec 32 := Scalar.remsi v383 c4_i32_208
  let c0_i32_213 : BitVec 32 := 0#32
  let v398 : BitVec 1 := Scalar.cmpi .ne v397 c0_i32_213
  let v399 : BitVec 1 := Scalar.andi v396 v398
  let v385 : BitVec 32 := Scalar.divsi v383 c4_i32_208
  let c1_i32_214 : BitVec 32 := 1#32
  let v400 : BitVec 32 := Scalar.subi v385 c1_i32_214
  let v401 : BitVec 32 := Scalar.select v399 v400 v385
  let v402 : BitVec 32 := Scalar.addi v384 v401
  let v403 : BitVec 32 := Scalar.muli c4_i32_215 v402
  let c4_i32_216 : BitVec 32 := 4#32
  let c0_i32_217 : BitVec 32 := 0#32
  let v404 : BitVec 1 := Scalar.cmpi .eq c4_i32_216 c0_i32_217
  let c1_i32_218 : BitVec 32 := 1#32
  let v405 : BitVec 32 := Scalar.select v404 c1_i32_218 c4_i32_216
  let v406 : BitVec 32 := Scalar.remsi v383 v405
  let c0_i32_220 : BitVec 32 := 0#32
  let v408 : BitVec 1 := Scalar.cmpi .slt v406 c0_i32_220
  let c0_i32_221 : BitVec 32 := 0#32
  let v409 : BitVec 1 := Scalar.cmpi .slt v405 c0_i32_221
  let v410 : BitVec 1 := Scalar.xori v408 v409
  let c0_i32_219 : BitVec 32 := 0#32
  let v407 : BitVec 1 := Scalar.cmpi .ne v406 c0_i32_219
  let v411 : BitVec 1 := Scalar.andi v410 v407
  let v412 : BitVec 32 := Scalar.addi v406 v405
  let v413 : BitVec 32 := Scalar.select v411 v412 v406
  let v414 : BitVec 32 := Scalar.addi v403 v413
  let c0_i32_223 : BitVec 32 := 0#32
  let v416 : BitVec 1 := Scalar.cmpi .sgt v414 c0_i32_223
  let v417 : BitVec 32 := Scalar.extui v416
  let c0_i32_224 : BitVec 32 := 0#32
  let v418 : BitVec 1 := Scalar.cmpi .slt v414 c0_i32_224
  let v419 : BitVec 32 := Scalar.extui v418
  let v420 : BitVec 32 := Scalar.subi v417 v419
  let c4_i32_222 : BitVec 32 := 4#32
  let c0_i32_225 : BitVec 32 := 0#32
  let v421 : BitVec 1 := Scalar.cmpi .sgt c4_i32_222 c0_i32_225
  let v422 : BitVec 32 := Scalar.extui v421
  let c0_i32_226 : BitVec 32 := 0#32
  let v423 : BitVec 1 := Scalar.cmpi .slt c4_i32_222 c0_i32_226
  let v424 : BitVec 32 := Scalar.extui v423
  let v425 : BitVec 32 := Scalar.subi v422 v424
  let v426 : BitVec 1 := Scalar.cmpi .ne v420 v425
  let v427 : BitVec 32 := Scalar.remsi v414 c4_i32_222
  let c0_i32_227 : BitVec 32 := 0#32
  let v428 : BitVec 1 := Scalar.cmpi .ne v427 c0_i32_227
  let v429 : BitVec 1 := Scalar.andi v426 v428
  let v415 : BitVec 32 := Scalar.divsi v414 c4_i32_222
  let c1_i32_228 : BitVec 32 := 1#32
  let v430 : BitVec 32 := Scalar.subi v415 c1_i32_228
  let v431 : BitVec 32 := Scalar.select v429 v430 v415
  let v432 : BitVec 32 := Scalar.subi c3_i32_229 v431
  let v433 : BitVec 32 := Scalar.muli c4_i32_230 v432
  let c4_i32_231 : BitVec 32 := 4#32
  let c0_i32_232 : BitVec 32 := 0#32
  let v434 : BitVec 1 := Scalar.cmpi .eq c4_i32_231 c0_i32_232
  let c1_i32_233 : BitVec 32 := 1#32
  let v435 : BitVec 32 := Scalar.select v434 c1_i32_233 c4_i32_231
  let v436 : BitVec 32 := Scalar.remsi v414 v435
  let c0_i32_235 : BitVec 32 := 0#32
  let v438 : BitVec 1 := Scalar.cmpi .slt v436 c0_i32_235
  let c0_i32_236 : BitVec 32 := 0#32
  let v439 : BitVec 1 := Scalar.cmpi .slt v435 c0_i32_236
  let v440 : BitVec 1 := Scalar.xori v438 v439
  let c0_i32_234 : BitVec 32 := 0#32
  let v437 : BitVec 1 := Scalar.cmpi .ne v436 c0_i32_234
  let v441 : BitVec 1 := Scalar.andi v440 v437
  let v442 : BitVec 32 := Scalar.addi v436 v435
  let v443 : BitVec 32 := Scalar.select v441 v442 v436
  let v444 : BitVec 32 := Scalar.addi v433 v443
  let v454 : Index := Scalar.indexCast v444
  let c0_239 : Index := 0#32
  let c0_240 : Index := 0#32
  ![v454.toNat, 0, 0]
def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  ![v58.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c0_i32_244 : BitVec 32 := 0#32
  let c0_i32_245 : BitVec 32 := 0#32
  ![v58.toNat, 0, 0]
def k0_off5 (d0 : Dev nD) (c4_i32_200 : BitVec 32) : Fin 3 → Nat :=
  let c4_i32_230 : BitVec 32 := 4#32
  let c3_i32_229 : BitVec 32 := 3#32
  let c4_i32_215 : BitVec 32 := 4#32
  let c2_i32_207 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v384 : BitVec 32 := Scalar.muli c2_i32_207 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let v373 : BitVec 32 := Scalar.addi v58 c4_i32_200
  let c8_i32_201 : BitVec 32 := 8#32
  let c0_i32_202 : BitVec 32 := 0#32
  let v374 : BitVec 1 := Scalar.cmpi .eq c8_i32_201 c0_i32_202
  let c1_i32_203 : BitVec 32 := 1#32
  let v375 : BitVec 32 := Scalar.select v374 c1_i32_203 c8_i32_201
  let v376 : BitVec 32 := Scalar.remsi v373 v375
  let c0_i32_205 : BitVec 32 := 0#32
  let v378 : BitVec 1 := Scalar.cmpi .slt v376 c0_i32_205
  let c0_i32_206 : BitVec 32 := 0#32
  let v379 : BitVec 1 := Scalar.cmpi .slt v375 c0_i32_206
  let v380 : BitVec 1 := Scalar.xori v378 v379
  let c0_i32_204 : BitVec 32 := 0#32
  let v377 : BitVec 1 := Scalar.cmpi .ne v376 c0_i32_204
  let v381 : BitVec 1 := Scalar.andi v380 v377
  let v382 : BitVec 32 := Scalar.addi v376 v375
  let v383 : BitVec 32 := Scalar.select v381 v382 v376
  let c0_i32_209 : BitVec 32 := 0#32
  let v386 : BitVec 1 := Scalar.cmpi .sgt v383 c0_i32_209
  let v387 : BitVec 32 := Scalar.extui v386
  let c0_i32_210 : BitVec 32 := 0#32
  let v388 : BitVec 1 := Scalar.cmpi .slt v383 c0_i32_210
  let v389 : BitVec 32 := Scalar.extui v388
  let v390 : BitVec 32 := Scalar.subi v387 v389
  let c4_i32_208 : BitVec 32 := 4#32
  let c0_i32_211 : BitVec 32 := 0#32
  let v391 : BitVec 1 := Scalar.cmpi .sgt c4_i32_208 c0_i32_211
  let v392 : BitVec 32 := Scalar.extui v391
  let c0_i32_212 : BitVec 32 := 0#32
  let v393 : BitVec 1 := Scalar.cmpi .slt c4_i32_208 c0_i32_212
  let v394 : BitVec 32 := Scalar.extui v393
  let v395 : BitVec 32 := Scalar.subi v392 v394
  let v396 : BitVec 1 := Scalar.cmpi .ne v390 v395
  let v397 : BitVec 32 := Scalar.remsi v383 c4_i32_208
  let c0_i32_213 : BitVec 32 := 0#32
  let v398 : BitVec 1 := Scalar.cmpi .ne v397 c0_i32_213
  let v399 : BitVec 1 := Scalar.andi v396 v398
  let v385 : BitVec 32 := Scalar.divsi v383 c4_i32_208
  let c1_i32_214 : BitVec 32 := 1#32
  let v400 : BitVec 32 := Scalar.subi v385 c1_i32_214
  let v401 : BitVec 32 := Scalar.select v399 v400 v385
  let v402 : BitVec 32 := Scalar.addi v384 v401
  let v403 : BitVec 32 := Scalar.muli c4_i32_215 v402
  let c4_i32_216 : BitVec 32 := 4#32
  let c0_i32_217 : BitVec 32 := 0#32
  let v404 : BitVec 1 := Scalar.cmpi .eq c4_i32_216 c0_i32_217
  let c1_i32_218 : BitVec 32 := 1#32
  let v405 : BitVec 32 := Scalar.select v404 c1_i32_218 c4_i32_216
  let v406 : BitVec 32 := Scalar.remsi v383 v405
  let c0_i32_220 : BitVec 32 := 0#32
  let v408 : BitVec 1 := Scalar.cmpi .slt v406 c0_i32_220
  let c0_i32_221 : BitVec 32 := 0#32
  let v409 : BitVec 1 := Scalar.cmpi .slt v405 c0_i32_221
  let v410 : BitVec 1 := Scalar.xori v408 v409
  let c0_i32_219 : BitVec 32 := 0#32
  let v407 : BitVec 1 := Scalar.cmpi .ne v406 c0_i32_219
  let v411 : BitVec 1 := Scalar.andi v410 v407
  let v412 : BitVec 32 := Scalar.addi v406 v405
  let v413 : BitVec 32 := Scalar.select v411 v412 v406
  let v414 : BitVec 32 := Scalar.addi v403 v413
  let c0_i32_223 : BitVec 32 := 0#32
  let v416 : BitVec 1 := Scalar.cmpi .sgt v414 c0_i32_223
  let v417 : BitVec 32 := Scalar.extui v416
  let c0_i32_224 : BitVec 32 := 0#32
  let v418 : BitVec 1 := Scalar.cmpi .slt v414 c0_i32_224
  let v419 : BitVec 32 := Scalar.extui v418
  let v420 : BitVec 32 := Scalar.subi v417 v419
  let c4_i32_222 : BitVec 32 := 4#32
  let c0_i32_225 : BitVec 32 := 0#32
  let v421 : BitVec 1 := Scalar.cmpi .sgt c4_i32_222 c0_i32_225
  let v422 : BitVec 32 := Scalar.extui v421
  let c0_i32_226 : BitVec 32 := 0#32
  let v423 : BitVec 1 := Scalar.cmpi .slt c4_i32_222 c0_i32_226
  let v424 : BitVec 32 := Scalar.extui v423
  let v425 : BitVec 32 := Scalar.subi v422 v424
  let v426 : BitVec 1 := Scalar.cmpi .ne v420 v425
  let v427 : BitVec 32 := Scalar.remsi v414 c4_i32_222
  let c0_i32_227 : BitVec 32 := 0#32
  let v428 : BitVec 1 := Scalar.cmpi .ne v427 c0_i32_227
  let v429 : BitVec 1 := Scalar.andi v426 v428
  let v415 : BitVec 32 := Scalar.divsi v414 c4_i32_222
  let c1_i32_228 : BitVec 32 := 1#32
  let v430 : BitVec 32 := Scalar.subi v415 c1_i32_228
  let v431 : BitVec 32 := Scalar.select v429 v430 v415
  let v432 : BitVec 32 := Scalar.subi c3_i32_229 v431
  let v433 : BitVec 32 := Scalar.muli c4_i32_230 v432
  let c4_i32_231 : BitVec 32 := 4#32
  let c0_i32_232 : BitVec 32 := 0#32
  let v434 : BitVec 1 := Scalar.cmpi .eq c4_i32_231 c0_i32_232
  let c1_i32_233 : BitVec 32 := 1#32
  let v435 : BitVec 32 := Scalar.select v434 c1_i32_233 c4_i32_231
  let v436 : BitVec 32 := Scalar.remsi v414 v435
  let c0_i32_235 : BitVec 32 := 0#32
  let v438 : BitVec 1 := Scalar.cmpi .slt v436 c0_i32_235
  let c0_i32_236 : BitVec 32 := 0#32
  let v439 : BitVec 1 := Scalar.cmpi .slt v435 c0_i32_236
  let v440 : BitVec 1 := Scalar.xori v438 v439
  let c0_i32_234 : BitVec 32 := 0#32
  let v437 : BitVec 1 := Scalar.cmpi .ne v436 c0_i32_234
  let v441 : BitVec 1 := Scalar.andi v440 v437
  let v442 : BitVec 32 := Scalar.addi v436 v435
  let v443 : BitVec 32 := Scalar.select v441 v442 v436
  let v444 : BitVec 32 := Scalar.addi v433 v443
  let c0_i32_246 : BitVec 32 := 0#32
  let c0_i32_247 : BitVec 32 := 0#32
  ![v444.toNat, 0, 0]
def k0_dev9 (d0 : Dev nD) : Nat :=
  let c0_i32_243 : BitVec 32 := 0#32
  let c4_i32_215 : BitVec 32 := 4#32
  let c2_i32_207 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v384 : BitVec 32 := Scalar.muli c2_i32_207 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c4_i32_200 : BitVec 32 := 4#32
  let v373 : BitVec 32 := Scalar.addi v58 c4_i32_200
  let c8_i32_201 : BitVec 32 := 8#32
  let c0_i32_202 : BitVec 32 := 0#32
  let v374 : BitVec 1 := Scalar.cmpi .eq c8_i32_201 c0_i32_202
  let c1_i32_203 : BitVec 32 := 1#32
  let v375 : BitVec 32 := Scalar.select v374 c1_i32_203 c8_i32_201
  let v376 : BitVec 32 := Scalar.remsi v373 v375
  let c0_i32_205 : BitVec 32 := 0#32
  let v378 : BitVec 1 := Scalar.cmpi .slt v376 c0_i32_205
  let c0_i32_206 : BitVec 32 := 0#32
  let v379 : BitVec 1 := Scalar.cmpi .slt v375 c0_i32_206
  let v380 : BitVec 1 := Scalar.xori v378 v379
  let c0_i32_204 : BitVec 32 := 0#32
  let v377 : BitVec 1 := Scalar.cmpi .ne v376 c0_i32_204
  let v381 : BitVec 1 := Scalar.andi v380 v377
  let v382 : BitVec 32 := Scalar.addi v376 v375
  let v383 : BitVec 32 := Scalar.select v381 v382 v376
  let c0_i32_209 : BitVec 32 := 0#32
  let v386 : BitVec 1 := Scalar.cmpi .sgt v383 c0_i32_209
  let v387 : BitVec 32 := Scalar.extui v386
  let c0_i32_210 : BitVec 32 := 0#32
  let v388 : BitVec 1 := Scalar.cmpi .slt v383 c0_i32_210
  let v389 : BitVec 32 := Scalar.extui v388
  let v390 : BitVec 32 := Scalar.subi v387 v389
  let c4_i32_208 : BitVec 32 := 4#32
  let c0_i32_211 : BitVec 32 := 0#32
  let v391 : BitVec 1 := Scalar.cmpi .sgt c4_i32_208 c0_i32_211
  let v392 : BitVec 32 := Scalar.extui v391
  let c0_i32_212 : BitVec 32 := 0#32
  let v393 : BitVec 1 := Scalar.cmpi .slt c4_i32_208 c0_i32_212
  let v394 : BitVec 32 := Scalar.extui v393
  let v395 : BitVec 32 := Scalar.subi v392 v394
  let v396 : BitVec 1 := Scalar.cmpi .ne v390 v395
  let v397 : BitVec 32 := Scalar.remsi v383 c4_i32_208
  let c0_i32_213 : BitVec 32 := 0#32
  let v398 : BitVec 1 := Scalar.cmpi .ne v397 c0_i32_213
  let v399 : BitVec 1 := Scalar.andi v396 v398
  let v385 : BitVec 32 := Scalar.divsi v383 c4_i32_208
  let c1_i32_214 : BitVec 32 := 1#32
  let v400 : BitVec 32 := Scalar.subi v385 c1_i32_214
  let v401 : BitVec 32 := Scalar.select v399 v400 v385
  let v402 : BitVec 32 := Scalar.addi v384 v401
  let v403 : BitVec 32 := Scalar.muli c4_i32_215 v402
  let c4_i32_216 : BitVec 32 := 4#32
  let c0_i32_217 : BitVec 32 := 0#32
  let v404 : BitVec 1 := Scalar.cmpi .eq c4_i32_216 c0_i32_217
  let c1_i32_218 : BitVec 32 := 1#32
  let v405 : BitVec 32 := Scalar.select v404 c1_i32_218 c4_i32_216
  let v406 : BitVec 32 := Scalar.remsi v383 v405
  let c0_i32_220 : BitVec 32 := 0#32
  let v408 : BitVec 1 := Scalar.cmpi .slt v406 c0_i32_220
  let c0_i32_221 : BitVec 32 := 0#32
  let v409 : BitVec 1 := Scalar.cmpi .slt v405 c0_i32_221
  let v410 : BitVec 1 := Scalar.xori v408 v409
  let c0_i32_219 : BitVec 32 := 0#32
  let v407 : BitVec 1 := Scalar.cmpi .ne v406 c0_i32_219
  let v411 : BitVec 1 := Scalar.andi v410 v407
  let v412 : BitVec 32 := Scalar.addi v406 v405
  let v413 : BitVec 32 := Scalar.select v411 v412 v406
  let v414 : BitVec 32 := Scalar.addi v403 v413
  let c1_i32_242 : BitVec 32 := 1#32
  let v458 : BitVec 32 := Scalar.muli v414 c1_i32_242
  let v459 : BitVec 32 := Scalar.addi c0_i32_243 v458
  v459.toNat
def k0_off6 (d0 : Dev nD) (c4_i32_200 : BitVec 32) : Fin 2 → Nat :=
  let c4_i32_215 : BitVec 32 := 4#32
  let c2_i32_207 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v384 : BitVec 32 := Scalar.muli c2_i32_207 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let v373 : BitVec 32 := Scalar.addi v58 c4_i32_200
  let c8_i32_201 : BitVec 32 := 8#32
  let c0_i32_202 : BitVec 32 := 0#32
  let v374 : BitVec 1 := Scalar.cmpi .eq c8_i32_201 c0_i32_202
  let c1_i32_203 : BitVec 32 := 1#32
  let v375 : BitVec 32 := Scalar.select v374 c1_i32_203 c8_i32_201
  let v376 : BitVec 32 := Scalar.remsi v373 v375
  let c0_i32_205 : BitVec 32 := 0#32
  let v378 : BitVec 1 := Scalar.cmpi .slt v376 c0_i32_205
  let c0_i32_206 : BitVec 32 := 0#32
  let v379 : BitVec 1 := Scalar.cmpi .slt v375 c0_i32_206
  let v380 : BitVec 1 := Scalar.xori v378 v379
  let c0_i32_204 : BitVec 32 := 0#32
  let v377 : BitVec 1 := Scalar.cmpi .ne v376 c0_i32_204
  let v381 : BitVec 1 := Scalar.andi v380 v377
  let v382 : BitVec 32 := Scalar.addi v376 v375
  let v383 : BitVec 32 := Scalar.select v381 v382 v376
  let c0_i32_209 : BitVec 32 := 0#32
  let v386 : BitVec 1 := Scalar.cmpi .sgt v383 c0_i32_209
  let v387 : BitVec 32 := Scalar.extui v386
  let c0_i32_210 : BitVec 32 := 0#32
  let v388 : BitVec 1 := Scalar.cmpi .slt v383 c0_i32_210
  let v389 : BitVec 32 := Scalar.extui v388
  let v390 : BitVec 32 := Scalar.subi v387 v389
  let c4_i32_208 : BitVec 32 := 4#32
  let c0_i32_211 : BitVec 32 := 0#32
  let v391 : BitVec 1 := Scalar.cmpi .sgt c4_i32_208 c0_i32_211
  let v392 : BitVec 32 := Scalar.extui v391
  let c0_i32_212 : BitVec 32 := 0#32
  let v393 : BitVec 1 := Scalar.cmpi .slt c4_i32_208 c0_i32_212
  let v394 : BitVec 32 := Scalar.extui v393
  let v395 : BitVec 32 := Scalar.subi v392 v394
  let v396 : BitVec 1 := Scalar.cmpi .ne v390 v395
  let v397 : BitVec 32 := Scalar.remsi v383 c4_i32_208
  let c0_i32_213 : BitVec 32 := 0#32
  let v398 : BitVec 1 := Scalar.cmpi .ne v397 c0_i32_213
  let v399 : BitVec 1 := Scalar.andi v396 v398
  let v385 : BitVec 32 := Scalar.divsi v383 c4_i32_208
  let c1_i32_214 : BitVec 32 := 1#32
  let v400 : BitVec 32 := Scalar.subi v385 c1_i32_214
  let v401 : BitVec 32 := Scalar.select v399 v400 v385
  let v402 : BitVec 32 := Scalar.addi v384 v401
  let v403 : BitVec 32 := Scalar.muli c4_i32_215 v402
  let c4_i32_216 : BitVec 32 := 4#32
  let c0_i32_217 : BitVec 32 := 0#32
  let v404 : BitVec 1 := Scalar.cmpi .eq c4_i32_216 c0_i32_217
  let c1_i32_218 : BitVec 32 := 1#32
  let v405 : BitVec 32 := Scalar.select v404 c1_i32_218 c4_i32_216
  let v406 : BitVec 32 := Scalar.remsi v383 v405
  let c0_i32_220 : BitVec 32 := 0#32
  let v408 : BitVec 1 := Scalar.cmpi .slt v406 c0_i32_220
  let c0_i32_221 : BitVec 32 := 0#32
  let v409 : BitVec 1 := Scalar.cmpi .slt v405 c0_i32_221
  let v410 : BitVec 1 := Scalar.xori v408 v409
  let c0_i32_219 : BitVec 32 := 0#32
  let v407 : BitVec 1 := Scalar.cmpi .ne v406 c0_i32_219
  let v411 : BitVec 1 := Scalar.andi v410 v407
  let v412 : BitVec 32 := Scalar.addi v406 v405
  let v413 : BitVec 32 := Scalar.select v411 v412 v406
  let v414 : BitVec 32 := Scalar.addi v403 v413
  let c64_i32_248 : BitVec 32 := 64#32
  let v468 : BitVec 32 := Scalar.muli v414 c64_i32_248
  let v469 : Index := Scalar.indexCast v468
  let c0_249 : Index := 0#32
  ![v469.toNat, 0]
def k0_off7 (d0 : Dev nD) (c4_i32_200 : BitVec 32) : Fin 3 → Nat :=
  let c4_i32_215 : BitVec 32 := 4#32
  let c2_i32_207 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v384 : BitVec 32 := Scalar.muli c2_i32_207 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let v373 : BitVec 32 := Scalar.addi v58 c4_i32_200
  let c8_i32_201 : BitVec 32 := 8#32
  let c0_i32_202 : BitVec 32 := 0#32
  let v374 : BitVec 1 := Scalar.cmpi .eq c8_i32_201 c0_i32_202
  let c1_i32_203 : BitVec 32 := 1#32
  let v375 : BitVec 32 := Scalar.select v374 c1_i32_203 c8_i32_201
  let v376 : BitVec 32 := Scalar.remsi v373 v375
  let c0_i32_205 : BitVec 32 := 0#32
  let v378 : BitVec 1 := Scalar.cmpi .slt v376 c0_i32_205
  let c0_i32_206 : BitVec 32 := 0#32
  let v379 : BitVec 1 := Scalar.cmpi .slt v375 c0_i32_206
  let v380 : BitVec 1 := Scalar.xori v378 v379
  let c0_i32_204 : BitVec 32 := 0#32
  let v377 : BitVec 1 := Scalar.cmpi .ne v376 c0_i32_204
  let v381 : BitVec 1 := Scalar.andi v380 v377
  let v382 : BitVec 32 := Scalar.addi v376 v375
  let v383 : BitVec 32 := Scalar.select v381 v382 v376
  let c0_i32_209 : BitVec 32 := 0#32
  let v386 : BitVec 1 := Scalar.cmpi .sgt v383 c0_i32_209
  let v387 : BitVec 32 := Scalar.extui v386
  let c0_i32_210 : BitVec 32 := 0#32
  let v388 : BitVec 1 := Scalar.cmpi .slt v383 c0_i32_210
  let v389 : BitVec 32 := Scalar.extui v388
  let v390 : BitVec 32 := Scalar.subi v387 v389
  let c4_i32_208 : BitVec 32 := 4#32
  let c0_i32_211 : BitVec 32 := 0#32
  let v391 : BitVec 1 := Scalar.cmpi .sgt c4_i32_208 c0_i32_211
  let v392 : BitVec 32 := Scalar.extui v391
  let c0_i32_212 : BitVec 32 := 0#32
  let v393 : BitVec 1 := Scalar.cmpi .slt c4_i32_208 c0_i32_212
  let v394 : BitVec 32 := Scalar.extui v393
  let v395 : BitVec 32 := Scalar.subi v392 v394
  let v396 : BitVec 1 := Scalar.cmpi .ne v390 v395
  let v397 : BitVec 32 := Scalar.remsi v383 c4_i32_208
  let c0_i32_213 : BitVec 32 := 0#32
  let v398 : BitVec 1 := Scalar.cmpi .ne v397 c0_i32_213
  let v399 : BitVec 1 := Scalar.andi v396 v398
  let v385 : BitVec 32 := Scalar.divsi v383 c4_i32_208
  let c1_i32_214 : BitVec 32 := 1#32
  let v400 : BitVec 32 := Scalar.subi v385 c1_i32_214
  let v401 : BitVec 32 := Scalar.select v399 v400 v385
  let v402 : BitVec 32 := Scalar.addi v384 v401
  let v403 : BitVec 32 := Scalar.muli c4_i32_215 v402
  let c4_i32_216 : BitVec 32 := 4#32
  let c0_i32_217 : BitVec 32 := 0#32
  let v404 : BitVec 1 := Scalar.cmpi .eq c4_i32_216 c0_i32_217
  let c1_i32_218 : BitVec 32 := 1#32
  let v405 : BitVec 32 := Scalar.select v404 c1_i32_218 c4_i32_216
  let v406 : BitVec 32 := Scalar.remsi v383 v405
  let c0_i32_220 : BitVec 32 := 0#32
  let v408 : BitVec 1 := Scalar.cmpi .slt v406 c0_i32_220
  let c0_i32_221 : BitVec 32 := 0#32
  let v409 : BitVec 1 := Scalar.cmpi .slt v405 c0_i32_221
  let v410 : BitVec 1 := Scalar.xori v408 v409
  let c0_i32_219 : BitVec 32 := 0#32
  let v407 : BitVec 1 := Scalar.cmpi .ne v406 c0_i32_219
  let v411 : BitVec 1 := Scalar.andi v410 v407
  let v412 : BitVec 32 := Scalar.addi v406 v405
  let v413 : BitVec 32 := Scalar.select v411 v412 v406
  let v414 : BitVec 32 := Scalar.addi v403 v413
  let v477 : Index := Scalar.indexCast v414
  let c0_253 : Index := 0#32
  let c0_254 : Index := 0#32
  ![v477.toNat, 0, 0]
def k0_off8 (d0 : Dev nD) (c4_i32_200 : BitVec 32) : Fin 3 → Nat :=
  let c4_i32_215 : BitVec 32 := 4#32
  let c2_i32_207 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v384 : BitVec 32 := Scalar.muli c2_i32_207 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let v373 : BitVec 32 := Scalar.addi v58 c4_i32_200
  let c8_i32_201 : BitVec 32 := 8#32
  let c0_i32_202 : BitVec 32 := 0#32
  let v374 : BitVec 1 := Scalar.cmpi .eq c8_i32_201 c0_i32_202
  let c1_i32_203 : BitVec 32 := 1#32
  let v375 : BitVec 32 := Scalar.select v374 c1_i32_203 c8_i32_201
  let v376 : BitVec 32 := Scalar.remsi v373 v375
  let c0_i32_205 : BitVec 32 := 0#32
  let v378 : BitVec 1 := Scalar.cmpi .slt v376 c0_i32_205
  let c0_i32_206 : BitVec 32 := 0#32
  let v379 : BitVec 1 := Scalar.cmpi .slt v375 c0_i32_206
  let v380 : BitVec 1 := Scalar.xori v378 v379
  let c0_i32_204 : BitVec 32 := 0#32
  let v377 : BitVec 1 := Scalar.cmpi .ne v376 c0_i32_204
  let v381 : BitVec 1 := Scalar.andi v380 v377
  let v382 : BitVec 32 := Scalar.addi v376 v375
  let v383 : BitVec 32 := Scalar.select v381 v382 v376
  let c0_i32_209 : BitVec 32 := 0#32
  let v386 : BitVec 1 := Scalar.cmpi .sgt v383 c0_i32_209
  let v387 : BitVec 32 := Scalar.extui v386
  let c0_i32_210 : BitVec 32 := 0#32
  let v388 : BitVec 1 := Scalar.cmpi .slt v383 c0_i32_210
  let v389 : BitVec 32 := Scalar.extui v388
  let v390 : BitVec 32 := Scalar.subi v387 v389
  let c4_i32_208 : BitVec 32 := 4#32
  let c0_i32_211 : BitVec 32 := 0#32
  let v391 : BitVec 1 := Scalar.cmpi .sgt c4_i32_208 c0_i32_211
  let v392 : BitVec 32 := Scalar.extui v391
  let c0_i32_212 : BitVec 32 := 0#32
  let v393 : BitVec 1 := Scalar.cmpi .slt c4_i32_208 c0_i32_212
  let v394 : BitVec 32 := Scalar.extui v393
  let v395 : BitVec 32 := Scalar.subi v392 v394
  let v396 : BitVec 1 := Scalar.cmpi .ne v390 v395
  let v397 : BitVec 32 := Scalar.remsi v383 c4_i32_208
  let c0_i32_213 : BitVec 32 := 0#32
  let v398 : BitVec 1 := Scalar.cmpi .ne v397 c0_i32_213
  let v399 : BitVec 1 := Scalar.andi v396 v398
  let v385 : BitVec 32 := Scalar.divsi v383 c4_i32_208
  let c1_i32_214 : BitVec 32 := 1#32
  let v400 : BitVec 32 := Scalar.subi v385 c1_i32_214
  let v401 : BitVec 32 := Scalar.select v399 v400 v385
  let v402 : BitVec 32 := Scalar.addi v384 v401
  let v403 : BitVec 32 := Scalar.muli c4_i32_215 v402
  let c4_i32_216 : BitVec 32 := 4#32
  let c0_i32_217 : BitVec 32 := 0#32
  let v404 : BitVec 1 := Scalar.cmpi .eq c4_i32_216 c0_i32_217
  let c1_i32_218 : BitVec 32 := 1#32
  let v405 : BitVec 32 := Scalar.select v404 c1_i32_218 c4_i32_216
  let v406 : BitVec 32 := Scalar.remsi v383 v405
  let c0_i32_220 : BitVec 32 := 0#32
  let v408 : BitVec 1 := Scalar.cmpi .slt v406 c0_i32_220
  let c0_i32_221 : BitVec 32 := 0#32
  let v409 : BitVec 1 := Scalar.cmpi .slt v405 c0_i32_221
  let v410 : BitVec 1 := Scalar.xori v408 v409
  let c0_i32_219 : BitVec 32 := 0#32
  let v407 : BitVec 1 := Scalar.cmpi .ne v406 c0_i32_219
  let v411 : BitVec 1 := Scalar.andi v410 v407
  let v412 : BitVec 32 := Scalar.addi v406 v405
  let v413 : BitVec 32 := Scalar.select v411 v412 v406
  let v414 : BitVec 32 := Scalar.addi v403 v413
  let c0_i32_260 : BitVec 32 := 0#32
  let c0_i32_261 : BitVec 32 := 0#32
  ![v414.toNat, 0, 0]
def k0_dev10 (d0 : Dev nD) : Nat :=
  let c0_i32_257 : BitVec 32 := 0#32
  let c4_i32_215 : BitVec 32 := 4#32
  let c2_i32_207 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v384 : BitVec 32 := Scalar.muli c2_i32_207 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c4_i32_200 : BitVec 32 := 4#32
  let v373 : BitVec 32 := Scalar.addi v58 c4_i32_200
  let c8_i32_201 : BitVec 32 := 8#32
  let c0_i32_202 : BitVec 32 := 0#32
  let v374 : BitVec 1 := Scalar.cmpi .eq c8_i32_201 c0_i32_202
  let c1_i32_203 : BitVec 32 := 1#32
  let v375 : BitVec 32 := Scalar.select v374 c1_i32_203 c8_i32_201
  let v376 : BitVec 32 := Scalar.remsi v373 v375
  let c0_i32_205 : BitVec 32 := 0#32
  let v378 : BitVec 1 := Scalar.cmpi .slt v376 c0_i32_205
  let c0_i32_206 : BitVec 32 := 0#32
  let v379 : BitVec 1 := Scalar.cmpi .slt v375 c0_i32_206
  let v380 : BitVec 1 := Scalar.xori v378 v379
  let c0_i32_204 : BitVec 32 := 0#32
  let v377 : BitVec 1 := Scalar.cmpi .ne v376 c0_i32_204
  let v381 : BitVec 1 := Scalar.andi v380 v377
  let v382 : BitVec 32 := Scalar.addi v376 v375
  let v383 : BitVec 32 := Scalar.select v381 v382 v376
  let c0_i32_209 : BitVec 32 := 0#32
  let v386 : BitVec 1 := Scalar.cmpi .sgt v383 c0_i32_209
  let v387 : BitVec 32 := Scalar.extui v386
  let c0_i32_210 : BitVec 32 := 0#32
  let v388 : BitVec 1 := Scalar.cmpi .slt v383 c0_i32_210
  let v389 : BitVec 32 := Scalar.extui v388
  let v390 : BitVec 32 := Scalar.subi v387 v389
  let c4_i32_208 : BitVec 32 := 4#32
  let c0_i32_211 : BitVec 32 := 0#32
  let v391 : BitVec 1 := Scalar.cmpi .sgt c4_i32_208 c0_i32_211
  let v392 : BitVec 32 := Scalar.extui v391
  let c0_i32_212 : BitVec 32 := 0#32
  let v393 : BitVec 1 := Scalar.cmpi .slt c4_i32_208 c0_i32_212
  let v394 : BitVec 32 := Scalar.extui v393
  let v395 : BitVec 32 := Scalar.subi v392 v394
  let v396 : BitVec 1 := Scalar.cmpi .ne v390 v395
  let v397 : BitVec 32 := Scalar.remsi v383 c4_i32_208
  let c0_i32_213 : BitVec 32 := 0#32
  let v398 : BitVec 1 := Scalar.cmpi .ne v397 c0_i32_213
  let v399 : BitVec 1 := Scalar.andi v396 v398
  let v385 : BitVec 32 := Scalar.divsi v383 c4_i32_208
  let c1_i32_214 : BitVec 32 := 1#32
  let v400 : BitVec 32 := Scalar.subi v385 c1_i32_214
  let v401 : BitVec 32 := Scalar.select v399 v400 v385
  let v402 : BitVec 32 := Scalar.addi v384 v401
  let v403 : BitVec 32 := Scalar.muli c4_i32_215 v402
  let c4_i32_216 : BitVec 32 := 4#32
  let c0_i32_217 : BitVec 32 := 0#32
  let v404 : BitVec 1 := Scalar.cmpi .eq c4_i32_216 c0_i32_217
  let c1_i32_218 : BitVec 32 := 1#32
  let v405 : BitVec 32 := Scalar.select v404 c1_i32_218 c4_i32_216
  let v406 : BitVec 32 := Scalar.remsi v383 v405
  let c0_i32_220 : BitVec 32 := 0#32
  let v408 : BitVec 1 := Scalar.cmpi .slt v406 c0_i32_220
  let c0_i32_221 : BitVec 32 := 0#32
  let v409 : BitVec 1 := Scalar.cmpi .slt v405 c0_i32_221
  let v410 : BitVec 1 := Scalar.xori v408 v409
  let c0_i32_219 : BitVec 32 := 0#32
  let v407 : BitVec 1 := Scalar.cmpi .ne v406 c0_i32_219
  let v411 : BitVec 1 := Scalar.andi v410 v407
  let v412 : BitVec 32 := Scalar.addi v406 v405
  let v413 : BitVec 32 := Scalar.select v411 v412 v406
  let v414 : BitVec 32 := Scalar.addi v403 v413
  let c1_i32_256 : BitVec 32 := 1#32
  let v481 : BitVec 32 := Scalar.muli v414 c1_i32_256
  let v482 : BitVec 32 := Scalar.addi c0_i32_257 v481
  v482.toNat
def k0_dev11 (d0 : Dev nD) : Nat :=
  let c0_i32_308 : BitVec 32 := 0#32
  let c4_i32_277 : BitVec 32 := 4#32
  let c2_i32_269 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v502 : BitVec 32 := Scalar.muli c2_i32_269 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c5_i32_262 : BitVec 32 := 5#32
  let v491 : BitVec 32 := Scalar.addi v58 c5_i32_262
  let c8_i32_263 : BitVec 32 := 8#32
  let c0_i32_264 : BitVec 32 := 0#32
  let v492 : BitVec 1 := Scalar.cmpi .eq c8_i32_263 c0_i32_264
  let c1_i32_265 : BitVec 32 := 1#32
  let v493 : BitVec 32 := Scalar.select v492 c1_i32_265 c8_i32_263
  let v494 : BitVec 32 := Scalar.remsi v491 v493
  let c0_i32_267 : BitVec 32 := 0#32
  let v496 : BitVec 1 := Scalar.cmpi .slt v494 c0_i32_267
  let c0_i32_268 : BitVec 32 := 0#32
  let v497 : BitVec 1 := Scalar.cmpi .slt v493 c0_i32_268
  let v498 : BitVec 1 := Scalar.xori v496 v497
  let c0_i32_266 : BitVec 32 := 0#32
  let v495 : BitVec 1 := Scalar.cmpi .ne v494 c0_i32_266
  let v499 : BitVec 1 := Scalar.andi v498 v495
  let v500 : BitVec 32 := Scalar.addi v494 v493
  let v501 : BitVec 32 := Scalar.select v499 v500 v494
  let c0_i32_271 : BitVec 32 := 0#32
  let v504 : BitVec 1 := Scalar.cmpi .sgt v501 c0_i32_271
  let v505 : BitVec 32 := Scalar.extui v504
  let c0_i32_272 : BitVec 32 := 0#32
  let v506 : BitVec 1 := Scalar.cmpi .slt v501 c0_i32_272
  let v507 : BitVec 32 := Scalar.extui v506
  let v508 : BitVec 32 := Scalar.subi v505 v507
  let c4_i32_270 : BitVec 32 := 4#32
  let c0_i32_273 : BitVec 32 := 0#32
  let v509 : BitVec 1 := Scalar.cmpi .sgt c4_i32_270 c0_i32_273
  let v510 : BitVec 32 := Scalar.extui v509
  let c0_i32_274 : BitVec 32 := 0#32
  let v511 : BitVec 1 := Scalar.cmpi .slt c4_i32_270 c0_i32_274
  let v512 : BitVec 32 := Scalar.extui v511
  let v513 : BitVec 32 := Scalar.subi v510 v512
  let v514 : BitVec 1 := Scalar.cmpi .ne v508 v513
  let v515 : BitVec 32 := Scalar.remsi v501 c4_i32_270
  let c0_i32_275 : BitVec 32 := 0#32
  let v516 : BitVec 1 := Scalar.cmpi .ne v515 c0_i32_275
  let v517 : BitVec 1 := Scalar.andi v514 v516
  let v503 : BitVec 32 := Scalar.divsi v501 c4_i32_270
  let c1_i32_276 : BitVec 32 := 1#32
  let v518 : BitVec 32 := Scalar.subi v503 c1_i32_276
  let v519 : BitVec 32 := Scalar.select v517 v518 v503
  let v520 : BitVec 32 := Scalar.addi v502 v519
  let v521 : BitVec 32 := Scalar.muli c4_i32_277 v520
  let c4_i32_278 : BitVec 32 := 4#32
  let c0_i32_279 : BitVec 32 := 0#32
  let v522 : BitVec 1 := Scalar.cmpi .eq c4_i32_278 c0_i32_279
  let c1_i32_280 : BitVec 32 := 1#32
  let v523 : BitVec 32 := Scalar.select v522 c1_i32_280 c4_i32_278
  let v524 : BitVec 32 := Scalar.remsi v501 v523
  let c0_i32_282 : BitVec 32 := 0#32
  let v526 : BitVec 1 := Scalar.cmpi .slt v524 c0_i32_282
  let c0_i32_283 : BitVec 32 := 0#32
  let v527 : BitVec 1 := Scalar.cmpi .slt v523 c0_i32_283
  let v528 : BitVec 1 := Scalar.xori v526 v527
  let c0_i32_281 : BitVec 32 := 0#32
  let v525 : BitVec 1 := Scalar.cmpi .ne v524 c0_i32_281
  let v529 : BitVec 1 := Scalar.andi v528 v525
  let v530 : BitVec 32 := Scalar.addi v524 v523
  let v531 : BitVec 32 := Scalar.select v529 v530 v524
  let v532 : BitVec 32 := Scalar.addi v521 v531
  let c1_i32_307 : BitVec 32 := 1#32
  let v576 : BitVec 32 := Scalar.muli v532 c1_i32_307
  let v577 : BitVec 32 := Scalar.addi c0_i32_308 v576
  v577.toNat
def k0_dev12 (d0 : Dev nD) : Nat :=
  let c0_i32_322 : BitVec 32 := 0#32
  let c4_i32_277 : BitVec 32 := 4#32
  let c2_i32_269 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v502 : BitVec 32 := Scalar.muli c2_i32_269 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c5_i32_262 : BitVec 32 := 5#32
  let v491 : BitVec 32 := Scalar.addi v58 c5_i32_262
  let c8_i32_263 : BitVec 32 := 8#32
  let c0_i32_264 : BitVec 32 := 0#32
  let v492 : BitVec 1 := Scalar.cmpi .eq c8_i32_263 c0_i32_264
  let c1_i32_265 : BitVec 32 := 1#32
  let v493 : BitVec 32 := Scalar.select v492 c1_i32_265 c8_i32_263
  let v494 : BitVec 32 := Scalar.remsi v491 v493
  let c0_i32_267 : BitVec 32 := 0#32
  let v496 : BitVec 1 := Scalar.cmpi .slt v494 c0_i32_267
  let c0_i32_268 : BitVec 32 := 0#32
  let v497 : BitVec 1 := Scalar.cmpi .slt v493 c0_i32_268
  let v498 : BitVec 1 := Scalar.xori v496 v497
  let c0_i32_266 : BitVec 32 := 0#32
  let v495 : BitVec 1 := Scalar.cmpi .ne v494 c0_i32_266
  let v499 : BitVec 1 := Scalar.andi v498 v495
  let v500 : BitVec 32 := Scalar.addi v494 v493
  let v501 : BitVec 32 := Scalar.select v499 v500 v494
  let c0_i32_271 : BitVec 32 := 0#32
  let v504 : BitVec 1 := Scalar.cmpi .sgt v501 c0_i32_271
  let v505 : BitVec 32 := Scalar.extui v504
  let c0_i32_272 : BitVec 32 := 0#32
  let v506 : BitVec 1 := Scalar.cmpi .slt v501 c0_i32_272
  let v507 : BitVec 32 := Scalar.extui v506
  let v508 : BitVec 32 := Scalar.subi v505 v507
  let c4_i32_270 : BitVec 32 := 4#32
  let c0_i32_273 : BitVec 32 := 0#32
  let v509 : BitVec 1 := Scalar.cmpi .sgt c4_i32_270 c0_i32_273
  let v510 : BitVec 32 := Scalar.extui v509
  let c0_i32_274 : BitVec 32 := 0#32
  let v511 : BitVec 1 := Scalar.cmpi .slt c4_i32_270 c0_i32_274
  let v512 : BitVec 32 := Scalar.extui v511
  let v513 : BitVec 32 := Scalar.subi v510 v512
  let v514 : BitVec 1 := Scalar.cmpi .ne v508 v513
  let v515 : BitVec 32 := Scalar.remsi v501 c4_i32_270
  let c0_i32_275 : BitVec 32 := 0#32
  let v516 : BitVec 1 := Scalar.cmpi .ne v515 c0_i32_275
  let v517 : BitVec 1 := Scalar.andi v514 v516
  let v503 : BitVec 32 := Scalar.divsi v501 c4_i32_270
  let c1_i32_276 : BitVec 32 := 1#32
  let v518 : BitVec 32 := Scalar.subi v503 c1_i32_276
  let v519 : BitVec 32 := Scalar.select v517 v518 v503
  let v520 : BitVec 32 := Scalar.addi v502 v519
  let v521 : BitVec 32 := Scalar.muli c4_i32_277 v520
  let c4_i32_278 : BitVec 32 := 4#32
  let c0_i32_279 : BitVec 32 := 0#32
  let v522 : BitVec 1 := Scalar.cmpi .eq c4_i32_278 c0_i32_279
  let c1_i32_280 : BitVec 32 := 1#32
  let v523 : BitVec 32 := Scalar.select v522 c1_i32_280 c4_i32_278
  let v524 : BitVec 32 := Scalar.remsi v501 v523
  let c0_i32_282 : BitVec 32 := 0#32
  let v526 : BitVec 1 := Scalar.cmpi .slt v524 c0_i32_282
  let c0_i32_283 : BitVec 32 := 0#32
  let v527 : BitVec 1 := Scalar.cmpi .slt v523 c0_i32_283
  let v528 : BitVec 1 := Scalar.xori v526 v527
  let c0_i32_281 : BitVec 32 := 0#32
  let v525 : BitVec 1 := Scalar.cmpi .ne v524 c0_i32_281
  let v529 : BitVec 1 := Scalar.andi v528 v525
  let v530 : BitVec 32 := Scalar.addi v524 v523
  let v531 : BitVec 32 := Scalar.select v529 v530 v524
  let v532 : BitVec 32 := Scalar.addi v521 v531
  let c1_i32_321 : BitVec 32 := 1#32
  let v599 : BitVec 32 := Scalar.muli v532 c1_i32_321
  let v600 : BitVec 32 := Scalar.addi c0_i32_322 v599
  v600.toNat
def k0_dev13 (d0 : Dev nD) : Nat :=
  let c0_i32_373 : BitVec 32 := 0#32
  let c4_i32_342 : BitVec 32 := 4#32
  let c2_i32_334 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v620 : BitVec 32 := Scalar.muli c2_i32_334 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c3_i32_327 : BitVec 32 := 3#32
  let v609 : BitVec 32 := Scalar.addi v58 c3_i32_327
  let c8_i32_328 : BitVec 32 := 8#32
  let c0_i32_329 : BitVec 32 := 0#32
  let v610 : BitVec 1 := Scalar.cmpi .eq c8_i32_328 c0_i32_329
  let c1_i32_330 : BitVec 32 := 1#32
  let v611 : BitVec 32 := Scalar.select v610 c1_i32_330 c8_i32_328
  let v612 : BitVec 32 := Scalar.remsi v609 v611
  let c0_i32_332 : BitVec 32 := 0#32
  let v614 : BitVec 1 := Scalar.cmpi .slt v612 c0_i32_332
  let c0_i32_333 : BitVec 32 := 0#32
  let v615 : BitVec 1 := Scalar.cmpi .slt v611 c0_i32_333
  let v616 : BitVec 1 := Scalar.xori v614 v615
  let c0_i32_331 : BitVec 32 := 0#32
  let v613 : BitVec 1 := Scalar.cmpi .ne v612 c0_i32_331
  let v617 : BitVec 1 := Scalar.andi v616 v613
  let v618 : BitVec 32 := Scalar.addi v612 v611
  let v619 : BitVec 32 := Scalar.select v617 v618 v612
  let c0_i32_336 : BitVec 32 := 0#32
  let v622 : BitVec 1 := Scalar.cmpi .sgt v619 c0_i32_336
  let v623 : BitVec 32 := Scalar.extui v622
  let c0_i32_337 : BitVec 32 := 0#32
  let v624 : BitVec 1 := Scalar.cmpi .slt v619 c0_i32_337
  let v625 : BitVec 32 := Scalar.extui v624
  let v626 : BitVec 32 := Scalar.subi v623 v625
  let c4_i32_335 : BitVec 32 := 4#32
  let c0_i32_338 : BitVec 32 := 0#32
  let v627 : BitVec 1 := Scalar.cmpi .sgt c4_i32_335 c0_i32_338
  let v628 : BitVec 32 := Scalar.extui v627
  let c0_i32_339 : BitVec 32 := 0#32
  let v629 : BitVec 1 := Scalar.cmpi .slt c4_i32_335 c0_i32_339
  let v630 : BitVec 32 := Scalar.extui v629
  let v631 : BitVec 32 := Scalar.subi v628 v630
  let v632 : BitVec 1 := Scalar.cmpi .ne v626 v631
  let v633 : BitVec 32 := Scalar.remsi v619 c4_i32_335
  let c0_i32_340 : BitVec 32 := 0#32
  let v634 : BitVec 1 := Scalar.cmpi .ne v633 c0_i32_340
  let v635 : BitVec 1 := Scalar.andi v632 v634
  let v621 : BitVec 32 := Scalar.divsi v619 c4_i32_335
  let c1_i32_341 : BitVec 32 := 1#32
  let v636 : BitVec 32 := Scalar.subi v621 c1_i32_341
  let v637 : BitVec 32 := Scalar.select v635 v636 v621
  let v638 : BitVec 32 := Scalar.addi v620 v637
  let v639 : BitVec 32 := Scalar.muli c4_i32_342 v638
  let c4_i32_343 : BitVec 32 := 4#32
  let c0_i32_344 : BitVec 32 := 0#32
  let v640 : BitVec 1 := Scalar.cmpi .eq c4_i32_343 c0_i32_344
  let c1_i32_345 : BitVec 32 := 1#32
  let v641 : BitVec 32 := Scalar.select v640 c1_i32_345 c4_i32_343
  let v642 : BitVec 32 := Scalar.remsi v619 v641
  let c0_i32_347 : BitVec 32 := 0#32
  let v644 : BitVec 1 := Scalar.cmpi .slt v642 c0_i32_347
  let c0_i32_348 : BitVec 32 := 0#32
  let v645 : BitVec 1 := Scalar.cmpi .slt v641 c0_i32_348
  let v646 : BitVec 1 := Scalar.xori v644 v645
  let c0_i32_346 : BitVec 32 := 0#32
  let v643 : BitVec 1 := Scalar.cmpi .ne v642 c0_i32_346
  let v647 : BitVec 1 := Scalar.andi v646 v643
  let v648 : BitVec 32 := Scalar.addi v642 v641
  let v649 : BitVec 32 := Scalar.select v647 v648 v642
  let v650 : BitVec 32 := Scalar.addi v639 v649
  let c1_i32_372 : BitVec 32 := 1#32
  let v694 : BitVec 32 := Scalar.muli v650 c1_i32_372
  let v695 : BitVec 32 := Scalar.addi c0_i32_373 v694
  v695.toNat
def k0_dev14 (d0 : Dev nD) : Nat :=
  let c0_i32_387 : BitVec 32 := 0#32
  let c4_i32_342 : BitVec 32 := 4#32
  let c2_i32_334 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v620 : BitVec 32 := Scalar.muli c2_i32_334 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c3_i32_327 : BitVec 32 := 3#32
  let v609 : BitVec 32 := Scalar.addi v58 c3_i32_327
  let c8_i32_328 : BitVec 32 := 8#32
  let c0_i32_329 : BitVec 32 := 0#32
  let v610 : BitVec 1 := Scalar.cmpi .eq c8_i32_328 c0_i32_329
  let c1_i32_330 : BitVec 32 := 1#32
  let v611 : BitVec 32 := Scalar.select v610 c1_i32_330 c8_i32_328
  let v612 : BitVec 32 := Scalar.remsi v609 v611
  let c0_i32_332 : BitVec 32 := 0#32
  let v614 : BitVec 1 := Scalar.cmpi .slt v612 c0_i32_332
  let c0_i32_333 : BitVec 32 := 0#32
  let v615 : BitVec 1 := Scalar.cmpi .slt v611 c0_i32_333
  let v616 : BitVec 1 := Scalar.xori v614 v615
  let c0_i32_331 : BitVec 32 := 0#32
  let v613 : BitVec 1 := Scalar.cmpi .ne v612 c0_i32_331
  let v617 : BitVec 1 := Scalar.andi v616 v613
  let v618 : BitVec 32 := Scalar.addi v612 v611
  let v619 : BitVec 32 := Scalar.select v617 v618 v612
  let c0_i32_336 : BitVec 32 := 0#32
  let v622 : BitVec 1 := Scalar.cmpi .sgt v619 c0_i32_336
  let v623 : BitVec 32 := Scalar.extui v622
  let c0_i32_337 : BitVec 32 := 0#32
  let v624 : BitVec 1 := Scalar.cmpi .slt v619 c0_i32_337
  let v625 : BitVec 32 := Scalar.extui v624
  let v626 : BitVec 32 := Scalar.subi v623 v625
  let c4_i32_335 : BitVec 32 := 4#32
  let c0_i32_338 : BitVec 32 := 0#32
  let v627 : BitVec 1 := Scalar.cmpi .sgt c4_i32_335 c0_i32_338
  let v628 : BitVec 32 := Scalar.extui v627
  let c0_i32_339 : BitVec 32 := 0#32
  let v629 : BitVec 1 := Scalar.cmpi .slt c4_i32_335 c0_i32_339
  let v630 : BitVec 32 := Scalar.extui v629
  let v631 : BitVec 32 := Scalar.subi v628 v630
  let v632 : BitVec 1 := Scalar.cmpi .ne v626 v631
  let v633 : BitVec 32 := Scalar.remsi v619 c4_i32_335
  let c0_i32_340 : BitVec 32 := 0#32
  let v634 : BitVec 1 := Scalar.cmpi .ne v633 c0_i32_340
  let v635 : BitVec 1 := Scalar.andi v632 v634
  let v621 : BitVec 32 := Scalar.divsi v619 c4_i32_335
  let c1_i32_341 : BitVec 32 := 1#32
  let v636 : BitVec 32 := Scalar.subi v621 c1_i32_341
  let v637 : BitVec 32 := Scalar.select v635 v636 v621
  let v638 : BitVec 32 := Scalar.addi v620 v637
  let v639 : BitVec 32 := Scalar.muli c4_i32_342 v638
  let c4_i32_343 : BitVec 32 := 4#32
  let c0_i32_344 : BitVec 32 := 0#32
  let v640 : BitVec 1 := Scalar.cmpi .eq c4_i32_343 c0_i32_344
  let c1_i32_345 : BitVec 32 := 1#32
  let v641 : BitVec 32 := Scalar.select v640 c1_i32_345 c4_i32_343
  let v642 : BitVec 32 := Scalar.remsi v619 v641
  let c0_i32_347 : BitVec 32 := 0#32
  let v644 : BitVec 1 := Scalar.cmpi .slt v642 c0_i32_347
  let c0_i32_348 : BitVec 32 := 0#32
  let v645 : BitVec 1 := Scalar.cmpi .slt v641 c0_i32_348
  let v646 : BitVec 1 := Scalar.xori v644 v645
  let c0_i32_346 : BitVec 32 := 0#32
  let v643 : BitVec 1 := Scalar.cmpi .ne v642 c0_i32_346
  let v647 : BitVec 1 := Scalar.andi v646 v643
  let v648 : BitVec 32 := Scalar.addi v642 v641
  let v649 : BitVec 32 := Scalar.select v647 v648 v642
  let v650 : BitVec 32 := Scalar.addi v639 v649
  let c1_i32_386 : BitVec 32 := 1#32
  let v717 : BitVec 32 := Scalar.muli v650 c1_i32_386
  let v718 : BitVec 32 := Scalar.addi c0_i32_387 v717
  v718.toNat
def k0_dev15 (d0 : Dev nD) : Nat :=
  let c0_i32_438 : BitVec 32 := 0#32
  let c4_i32_407 : BitVec 32 := 4#32
  let c2_i32_399 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v738 : BitVec 32 := Scalar.muli c2_i32_399 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c6_i32_392 : BitVec 32 := 6#32
  let v727 : BitVec 32 := Scalar.addi v58 c6_i32_392
  let c8_i32_393 : BitVec 32 := 8#32
  let c0_i32_394 : BitVec 32 := 0#32
  let v728 : BitVec 1 := Scalar.cmpi .eq c8_i32_393 c0_i32_394
  let c1_i32_395 : BitVec 32 := 1#32
  let v729 : BitVec 32 := Scalar.select v728 c1_i32_395 c8_i32_393
  let v730 : BitVec 32 := Scalar.remsi v727 v729
  let c0_i32_397 : BitVec 32 := 0#32
  let v732 : BitVec 1 := Scalar.cmpi .slt v730 c0_i32_397
  let c0_i32_398 : BitVec 32 := 0#32
  let v733 : BitVec 1 := Scalar.cmpi .slt v729 c0_i32_398
  let v734 : BitVec 1 := Scalar.xori v732 v733
  let c0_i32_396 : BitVec 32 := 0#32
  let v731 : BitVec 1 := Scalar.cmpi .ne v730 c0_i32_396
  let v735 : BitVec 1 := Scalar.andi v734 v731
  let v736 : BitVec 32 := Scalar.addi v730 v729
  let v737 : BitVec 32 := Scalar.select v735 v736 v730
  let c0_i32_401 : BitVec 32 := 0#32
  let v740 : BitVec 1 := Scalar.cmpi .sgt v737 c0_i32_401
  let v741 : BitVec 32 := Scalar.extui v740
  let c0_i32_402 : BitVec 32 := 0#32
  let v742 : BitVec 1 := Scalar.cmpi .slt v737 c0_i32_402
  let v743 : BitVec 32 := Scalar.extui v742
  let v744 : BitVec 32 := Scalar.subi v741 v743
  let c4_i32_400 : BitVec 32 := 4#32
  let c0_i32_403 : BitVec 32 := 0#32
  let v745 : BitVec 1 := Scalar.cmpi .sgt c4_i32_400 c0_i32_403
  let v746 : BitVec 32 := Scalar.extui v745
  let c0_i32_404 : BitVec 32 := 0#32
  let v747 : BitVec 1 := Scalar.cmpi .slt c4_i32_400 c0_i32_404
  let v748 : BitVec 32 := Scalar.extui v747
  let v749 : BitVec 32 := Scalar.subi v746 v748
  let v750 : BitVec 1 := Scalar.cmpi .ne v744 v749
  let v751 : BitVec 32 := Scalar.remsi v737 c4_i32_400
  let c0_i32_405 : BitVec 32 := 0#32
  let v752 : BitVec 1 := Scalar.cmpi .ne v751 c0_i32_405
  let v753 : BitVec 1 := Scalar.andi v750 v752
  let v739 : BitVec 32 := Scalar.divsi v737 c4_i32_400
  let c1_i32_406 : BitVec 32 := 1#32
  let v754 : BitVec 32 := Scalar.subi v739 c1_i32_406
  let v755 : BitVec 32 := Scalar.select v753 v754 v739
  let v756 : BitVec 32 := Scalar.addi v738 v755
  let v757 : BitVec 32 := Scalar.muli c4_i32_407 v756
  let c4_i32_408 : BitVec 32 := 4#32
  let c0_i32_409 : BitVec 32 := 0#32
  let v758 : BitVec 1 := Scalar.cmpi .eq c4_i32_408 c0_i32_409
  let c1_i32_410 : BitVec 32 := 1#32
  let v759 : BitVec 32 := Scalar.select v758 c1_i32_410 c4_i32_408
  let v760 : BitVec 32 := Scalar.remsi v737 v759
  let c0_i32_412 : BitVec 32 := 0#32
  let v762 : BitVec 1 := Scalar.cmpi .slt v760 c0_i32_412
  let c0_i32_413 : BitVec 32 := 0#32
  let v763 : BitVec 1 := Scalar.cmpi .slt v759 c0_i32_413
  let v764 : BitVec 1 := Scalar.xori v762 v763
  let c0_i32_411 : BitVec 32 := 0#32
  let v761 : BitVec 1 := Scalar.cmpi .ne v760 c0_i32_411
  let v765 : BitVec 1 := Scalar.andi v764 v761
  let v766 : BitVec 32 := Scalar.addi v760 v759
  let v767 : BitVec 32 := Scalar.select v765 v766 v760
  let v768 : BitVec 32 := Scalar.addi v757 v767
  let c1_i32_437 : BitVec 32 := 1#32
  let v812 : BitVec 32 := Scalar.muli v768 c1_i32_437
  let v813 : BitVec 32 := Scalar.addi c0_i32_438 v812
  v813.toNat
def k0_dev16 (d0 : Dev nD) : Nat :=
  let c0_i32_452 : BitVec 32 := 0#32
  let c4_i32_407 : BitVec 32 := 4#32
  let c2_i32_399 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v738 : BitVec 32 := Scalar.muli c2_i32_399 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c6_i32_392 : BitVec 32 := 6#32
  let v727 : BitVec 32 := Scalar.addi v58 c6_i32_392
  let c8_i32_393 : BitVec 32 := 8#32
  let c0_i32_394 : BitVec 32 := 0#32
  let v728 : BitVec 1 := Scalar.cmpi .eq c8_i32_393 c0_i32_394
  let c1_i32_395 : BitVec 32 := 1#32
  let v729 : BitVec 32 := Scalar.select v728 c1_i32_395 c8_i32_393
  let v730 : BitVec 32 := Scalar.remsi v727 v729
  let c0_i32_397 : BitVec 32 := 0#32
  let v732 : BitVec 1 := Scalar.cmpi .slt v730 c0_i32_397
  let c0_i32_398 : BitVec 32 := 0#32
  let v733 : BitVec 1 := Scalar.cmpi .slt v729 c0_i32_398
  let v734 : BitVec 1 := Scalar.xori v732 v733
  let c0_i32_396 : BitVec 32 := 0#32
  let v731 : BitVec 1 := Scalar.cmpi .ne v730 c0_i32_396
  let v735 : BitVec 1 := Scalar.andi v734 v731
  let v736 : BitVec 32 := Scalar.addi v730 v729
  let v737 : BitVec 32 := Scalar.select v735 v736 v730
  let c0_i32_401 : BitVec 32 := 0#32
  let v740 : BitVec 1 := Scalar.cmpi .sgt v737 c0_i32_401
  let v741 : BitVec 32 := Scalar.extui v740
  let c0_i32_402 : BitVec 32 := 0#32
  let v742 : BitVec 1 := Scalar.cmpi .slt v737 c0_i32_402
  let v743 : BitVec 32 := Scalar.extui v742
  let v744 : BitVec 32 := Scalar.subi v741 v743
  let c4_i32_400 : BitVec 32 := 4#32
  let c0_i32_403 : BitVec 32 := 0#32
  let v745 : BitVec 1 := Scalar.cmpi .sgt c4_i32_400 c0_i32_403
  let v746 : BitVec 32 := Scalar.extui v745
  let c0_i32_404 : BitVec 32 := 0#32
  let v747 : BitVec 1 := Scalar.cmpi .slt c4_i32_400 c0_i32_404
  let v748 : BitVec 32 := Scalar.extui v747
  let v749 : BitVec 32 := Scalar.subi v746 v748
  let v750 : BitVec 1 := Scalar.cmpi .ne v744 v749
  let v751 : BitVec 32 := Scalar.remsi v737 c4_i32_400
  let c0_i32_405 : BitVec 32 := 0#32
  let v752 : BitVec 1 := Scalar.cmpi .ne v751 c0_i32_405
  let v753 : BitVec 1 := Scalar.andi v750 v752
  let v739 : BitVec 32 := Scalar.divsi v737 c4_i32_400
  let c1_i32_406 : BitVec 32 := 1#32
  let v754 : BitVec 32 := Scalar.subi v739 c1_i32_406
  let v755 : BitVec 32 := Scalar.select v753 v754 v739
  let v756 : BitVec 32 := Scalar.addi v738 v755
  let v757 : BitVec 32 := Scalar.muli c4_i32_407 v756
  let c4_i32_408 : BitVec 32 := 4#32
  let c0_i32_409 : BitVec 32 := 0#32
  let v758 : BitVec 1 := Scalar.cmpi .eq c4_i32_408 c0_i32_409
  let c1_i32_410 : BitVec 32 := 1#32
  let v759 : BitVec 32 := Scalar.select v758 c1_i32_410 c4_i32_408
  let v760 : BitVec 32 := Scalar.remsi v737 v759
  let c0_i32_412 : BitVec 32 := 0#32
  let v762 : BitVec 1 := Scalar.cmpi .slt v760 c0_i32_412
  let c0_i32_413 : BitVec 32 := 0#32
  let v763 : BitVec 1 := Scalar.cmpi .slt v759 c0_i32_413
  let v764 : BitVec 1 := Scalar.xori v762 v763
  let c0_i32_411 : BitVec 32 := 0#32
  let v761 : BitVec 1 := Scalar.cmpi .ne v760 c0_i32_411
  let v765 : BitVec 1 := Scalar.andi v764 v761
  let v766 : BitVec 32 := Scalar.addi v760 v759
  let v767 : BitVec 32 := Scalar.select v765 v766 v760
  let v768 : BitVec 32 := Scalar.addi v757 v767
  let c1_i32_451 : BitVec 32 := 1#32
  let v835 : BitVec 32 := Scalar.muli v768 c1_i32_451
  let v836 : BitVec 32 := Scalar.addi c0_i32_452 v835
  v836.toNat
def k0_dev17 (d0 : Dev nD) : Nat :=
  let c0_i32_503 : BitVec 32 := 0#32
  let c4_i32_472 : BitVec 32 := 4#32
  let c2_i32_464 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v856 : BitVec 32 := Scalar.muli c2_i32_464 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c2_i32_457 : BitVec 32 := 2#32
  let v845 : BitVec 32 := Scalar.addi v58 c2_i32_457
  let c8_i32_458 : BitVec 32 := 8#32
  let c0_i32_459 : BitVec 32 := 0#32
  let v846 : BitVec 1 := Scalar.cmpi .eq c8_i32_458 c0_i32_459
  let c1_i32_460 : BitVec 32 := 1#32
  let v847 : BitVec 32 := Scalar.select v846 c1_i32_460 c8_i32_458
  let v848 : BitVec 32 := Scalar.remsi v845 v847
  let c0_i32_462 : BitVec 32 := 0#32
  let v850 : BitVec 1 := Scalar.cmpi .slt v848 c0_i32_462
  let c0_i32_463 : BitVec 32 := 0#32
  let v851 : BitVec 1 := Scalar.cmpi .slt v847 c0_i32_463
  let v852 : BitVec 1 := Scalar.xori v850 v851
  let c0_i32_461 : BitVec 32 := 0#32
  let v849 : BitVec 1 := Scalar.cmpi .ne v848 c0_i32_461
  let v853 : BitVec 1 := Scalar.andi v852 v849
  let v854 : BitVec 32 := Scalar.addi v848 v847
  let v855 : BitVec 32 := Scalar.select v853 v854 v848
  let c0_i32_466 : BitVec 32 := 0#32
  let v858 : BitVec 1 := Scalar.cmpi .sgt v855 c0_i32_466
  let v859 : BitVec 32 := Scalar.extui v858
  let c0_i32_467 : BitVec 32 := 0#32
  let v860 : BitVec 1 := Scalar.cmpi .slt v855 c0_i32_467
  let v861 : BitVec 32 := Scalar.extui v860
  let v862 : BitVec 32 := Scalar.subi v859 v861
  let c4_i32_465 : BitVec 32 := 4#32
  let c0_i32_468 : BitVec 32 := 0#32
  let v863 : BitVec 1 := Scalar.cmpi .sgt c4_i32_465 c0_i32_468
  let v864 : BitVec 32 := Scalar.extui v863
  let c0_i32_469 : BitVec 32 := 0#32
  let v865 : BitVec 1 := Scalar.cmpi .slt c4_i32_465 c0_i32_469
  let v866 : BitVec 32 := Scalar.extui v865
  let v867 : BitVec 32 := Scalar.subi v864 v866
  let v868 : BitVec 1 := Scalar.cmpi .ne v862 v867
  let v869 : BitVec 32 := Scalar.remsi v855 c4_i32_465
  let c0_i32_470 : BitVec 32 := 0#32
  let v870 : BitVec 1 := Scalar.cmpi .ne v869 c0_i32_470
  let v871 : BitVec 1 := Scalar.andi v868 v870
  let v857 : BitVec 32 := Scalar.divsi v855 c4_i32_465
  let c1_i32_471 : BitVec 32 := 1#32
  let v872 : BitVec 32 := Scalar.subi v857 c1_i32_471
  let v873 : BitVec 32 := Scalar.select v871 v872 v857
  let v874 : BitVec 32 := Scalar.addi v856 v873
  let v875 : BitVec 32 := Scalar.muli c4_i32_472 v874
  let c4_i32_473 : BitVec 32 := 4#32
  let c0_i32_474 : BitVec 32 := 0#32
  let v876 : BitVec 1 := Scalar.cmpi .eq c4_i32_473 c0_i32_474
  let c1_i32_475 : BitVec 32 := 1#32
  let v877 : BitVec 32 := Scalar.select v876 c1_i32_475 c4_i32_473
  let v878 : BitVec 32 := Scalar.remsi v855 v877
  let c0_i32_477 : BitVec 32 := 0#32
  let v880 : BitVec 1 := Scalar.cmpi .slt v878 c0_i32_477
  let c0_i32_478 : BitVec 32 := 0#32
  let v881 : BitVec 1 := Scalar.cmpi .slt v877 c0_i32_478
  let v882 : BitVec 1 := Scalar.xori v880 v881
  let c0_i32_476 : BitVec 32 := 0#32
  let v879 : BitVec 1 := Scalar.cmpi .ne v878 c0_i32_476
  let v883 : BitVec 1 := Scalar.andi v882 v879
  let v884 : BitVec 32 := Scalar.addi v878 v877
  let v885 : BitVec 32 := Scalar.select v883 v884 v878
  let v886 : BitVec 32 := Scalar.addi v875 v885
  let c1_i32_502 : BitVec 32 := 1#32
  let v930 : BitVec 32 := Scalar.muli v886 c1_i32_502
  let v931 : BitVec 32 := Scalar.addi c0_i32_503 v930
  v931.toNat
def k0_dev18 (d0 : Dev nD) : Nat :=
  let c0_i32_517 : BitVec 32 := 0#32
  let c4_i32_472 : BitVec 32 := 4#32
  let c2_i32_464 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v856 : BitVec 32 := Scalar.muli c2_i32_464 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c2_i32_457 : BitVec 32 := 2#32
  let v845 : BitVec 32 := Scalar.addi v58 c2_i32_457
  let c8_i32_458 : BitVec 32 := 8#32
  let c0_i32_459 : BitVec 32 := 0#32
  let v846 : BitVec 1 := Scalar.cmpi .eq c8_i32_458 c0_i32_459
  let c1_i32_460 : BitVec 32 := 1#32
  let v847 : BitVec 32 := Scalar.select v846 c1_i32_460 c8_i32_458
  let v848 : BitVec 32 := Scalar.remsi v845 v847
  let c0_i32_462 : BitVec 32 := 0#32
  let v850 : BitVec 1 := Scalar.cmpi .slt v848 c0_i32_462
  let c0_i32_463 : BitVec 32 := 0#32
  let v851 : BitVec 1 := Scalar.cmpi .slt v847 c0_i32_463
  let v852 : BitVec 1 := Scalar.xori v850 v851
  let c0_i32_461 : BitVec 32 := 0#32
  let v849 : BitVec 1 := Scalar.cmpi .ne v848 c0_i32_461
  let v853 : BitVec 1 := Scalar.andi v852 v849
  let v854 : BitVec 32 := Scalar.addi v848 v847
  let v855 : BitVec 32 := Scalar.select v853 v854 v848
  let c0_i32_466 : BitVec 32 := 0#32
  let v858 : BitVec 1 := Scalar.cmpi .sgt v855 c0_i32_466
  let v859 : BitVec 32 := Scalar.extui v858
  let c0_i32_467 : BitVec 32 := 0#32
  let v860 : BitVec 1 := Scalar.cmpi .slt v855 c0_i32_467
  let v861 : BitVec 32 := Scalar.extui v860
  let v862 : BitVec 32 := Scalar.subi v859 v861
  let c4_i32_465 : BitVec 32 := 4#32
  let c0_i32_468 : BitVec 32 := 0#32
  let v863 : BitVec 1 := Scalar.cmpi .sgt c4_i32_465 c0_i32_468
  let v864 : BitVec 32 := Scalar.extui v863
  let c0_i32_469 : BitVec 32 := 0#32
  let v865 : BitVec 1 := Scalar.cmpi .slt c4_i32_465 c0_i32_469
  let v866 : BitVec 32 := Scalar.extui v865
  let v867 : BitVec 32 := Scalar.subi v864 v866
  let v868 : BitVec 1 := Scalar.cmpi .ne v862 v867
  let v869 : BitVec 32 := Scalar.remsi v855 c4_i32_465
  let c0_i32_470 : BitVec 32 := 0#32
  let v870 : BitVec 1 := Scalar.cmpi .ne v869 c0_i32_470
  let v871 : BitVec 1 := Scalar.andi v868 v870
  let v857 : BitVec 32 := Scalar.divsi v855 c4_i32_465
  let c1_i32_471 : BitVec 32 := 1#32
  let v872 : BitVec 32 := Scalar.subi v857 c1_i32_471
  let v873 : BitVec 32 := Scalar.select v871 v872 v857
  let v874 : BitVec 32 := Scalar.addi v856 v873
  let v875 : BitVec 32 := Scalar.muli c4_i32_472 v874
  let c4_i32_473 : BitVec 32 := 4#32
  let c0_i32_474 : BitVec 32 := 0#32
  let v876 : BitVec 1 := Scalar.cmpi .eq c4_i32_473 c0_i32_474
  let c1_i32_475 : BitVec 32 := 1#32
  let v877 : BitVec 32 := Scalar.select v876 c1_i32_475 c4_i32_473
  let v878 : BitVec 32 := Scalar.remsi v855 v877
  let c0_i32_477 : BitVec 32 := 0#32
  let v880 : BitVec 1 := Scalar.cmpi .slt v878 c0_i32_477
  let c0_i32_478 : BitVec 32 := 0#32
  let v881 : BitVec 1 := Scalar.cmpi .slt v877 c0_i32_478
  let v882 : BitVec 1 := Scalar.xori v880 v881
  let c0_i32_476 : BitVec 32 := 0#32
  let v879 : BitVec 1 := Scalar.cmpi .ne v878 c0_i32_476
  let v883 : BitVec 1 := Scalar.andi v882 v879
  let v884 : BitVec 32 := Scalar.addi v878 v877
  let v885 : BitVec 32 := Scalar.select v883 v884 v878
  let v886 : BitVec 32 := Scalar.addi v875 v885
  let c1_i32_516 : BitVec 32 := 1#32
  let v953 : BitVec 32 := Scalar.muli v886 c1_i32_516
  let v954 : BitVec 32 := Scalar.addi c0_i32_517 v953
  v954.toNat
def k0_dev19 (d0 : Dev nD) : Nat :=
  let c0_i32_568 : BitVec 32 := 0#32
  let c4_i32_537 : BitVec 32 := 4#32
  let c2_i32_529 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v974 : BitVec 32 := Scalar.muli c2_i32_529 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c7_i32_522 : BitVec 32 := 7#32
  let v963 : BitVec 32 := Scalar.addi v58 c7_i32_522
  let c8_i32_523 : BitVec 32 := 8#32
  let c0_i32_524 : BitVec 32 := 0#32
  let v964 : BitVec 1 := Scalar.cmpi .eq c8_i32_523 c0_i32_524
  let c1_i32_525 : BitVec 32 := 1#32
  let v965 : BitVec 32 := Scalar.select v964 c1_i32_525 c8_i32_523
  let v966 : BitVec 32 := Scalar.remsi v963 v965
  let c0_i32_527 : BitVec 32 := 0#32
  let v968 : BitVec 1 := Scalar.cmpi .slt v966 c0_i32_527
  let c0_i32_528 : BitVec 32 := 0#32
  let v969 : BitVec 1 := Scalar.cmpi .slt v965 c0_i32_528
  let v970 : BitVec 1 := Scalar.xori v968 v969
  let c0_i32_526 : BitVec 32 := 0#32
  let v967 : BitVec 1 := Scalar.cmpi .ne v966 c0_i32_526
  let v971 : BitVec 1 := Scalar.andi v970 v967
  let v972 : BitVec 32 := Scalar.addi v966 v965
  let v973 : BitVec 32 := Scalar.select v971 v972 v966
  let c0_i32_531 : BitVec 32 := 0#32
  let v976 : BitVec 1 := Scalar.cmpi .sgt v973 c0_i32_531
  let v977 : BitVec 32 := Scalar.extui v976
  let c0_i32_532 : BitVec 32 := 0#32
  let v978 : BitVec 1 := Scalar.cmpi .slt v973 c0_i32_532
  let v979 : BitVec 32 := Scalar.extui v978
  let v980 : BitVec 32 := Scalar.subi v977 v979
  let c4_i32_530 : BitVec 32 := 4#32
  let c0_i32_533 : BitVec 32 := 0#32
  let v981 : BitVec 1 := Scalar.cmpi .sgt c4_i32_530 c0_i32_533
  let v982 : BitVec 32 := Scalar.extui v981
  let c0_i32_534 : BitVec 32 := 0#32
  let v983 : BitVec 1 := Scalar.cmpi .slt c4_i32_530 c0_i32_534
  let v984 : BitVec 32 := Scalar.extui v983
  let v985 : BitVec 32 := Scalar.subi v982 v984
  let v986 : BitVec 1 := Scalar.cmpi .ne v980 v985
  let v987 : BitVec 32 := Scalar.remsi v973 c4_i32_530
  let c0_i32_535 : BitVec 32 := 0#32
  let v988 : BitVec 1 := Scalar.cmpi .ne v987 c0_i32_535
  let v989 : BitVec 1 := Scalar.andi v986 v988
  let v975 : BitVec 32 := Scalar.divsi v973 c4_i32_530
  let c1_i32_536 : BitVec 32 := 1#32
  let v990 : BitVec 32 := Scalar.subi v975 c1_i32_536
  let v991 : BitVec 32 := Scalar.select v989 v990 v975
  let v992 : BitVec 32 := Scalar.addi v974 v991
  let v993 : BitVec 32 := Scalar.muli c4_i32_537 v992
  let c4_i32_538 : BitVec 32 := 4#32
  let c0_i32_539 : BitVec 32 := 0#32
  let v994 : BitVec 1 := Scalar.cmpi .eq c4_i32_538 c0_i32_539
  let c1_i32_540 : BitVec 32 := 1#32
  let v995 : BitVec 32 := Scalar.select v994 c1_i32_540 c4_i32_538
  let v996 : BitVec 32 := Scalar.remsi v973 v995
  let c0_i32_542 : BitVec 32 := 0#32
  let v998 : BitVec 1 := Scalar.cmpi .slt v996 c0_i32_542
  let c0_i32_543 : BitVec 32 := 0#32
  let v999 : BitVec 1 := Scalar.cmpi .slt v995 c0_i32_543
  let v1000 : BitVec 1 := Scalar.xori v998 v999
  let c0_i32_541 : BitVec 32 := 0#32
  let v997 : BitVec 1 := Scalar.cmpi .ne v996 c0_i32_541
  let v1001 : BitVec 1 := Scalar.andi v1000 v997
  let v1002 : BitVec 32 := Scalar.addi v996 v995
  let v1003 : BitVec 32 := Scalar.select v1001 v1002 v996
  let v1004 : BitVec 32 := Scalar.addi v993 v1003
  let c1_i32_567 : BitVec 32 := 1#32
  let v1048 : BitVec 32 := Scalar.muli v1004 c1_i32_567
  let v1049 : BitVec 32 := Scalar.addi c0_i32_568 v1048
  v1049.toNat
def k0_dev20 (d0 : Dev nD) : Nat :=
  let c0_i32_582 : BitVec 32 := 0#32
  let c4_i32_537 : BitVec 32 := 4#32
  let c2_i32_529 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v974 : BitVec 32 := Scalar.muli c2_i32_529 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c7_i32_522 : BitVec 32 := 7#32
  let v963 : BitVec 32 := Scalar.addi v58 c7_i32_522
  let c8_i32_523 : BitVec 32 := 8#32
  let c0_i32_524 : BitVec 32 := 0#32
  let v964 : BitVec 1 := Scalar.cmpi .eq c8_i32_523 c0_i32_524
  let c1_i32_525 : BitVec 32 := 1#32
  let v965 : BitVec 32 := Scalar.select v964 c1_i32_525 c8_i32_523
  let v966 : BitVec 32 := Scalar.remsi v963 v965
  let c0_i32_527 : BitVec 32 := 0#32
  let v968 : BitVec 1 := Scalar.cmpi .slt v966 c0_i32_527
  let c0_i32_528 : BitVec 32 := 0#32
  let v969 : BitVec 1 := Scalar.cmpi .slt v965 c0_i32_528
  let v970 : BitVec 1 := Scalar.xori v968 v969
  let c0_i32_526 : BitVec 32 := 0#32
  let v967 : BitVec 1 := Scalar.cmpi .ne v966 c0_i32_526
  let v971 : BitVec 1 := Scalar.andi v970 v967
  let v972 : BitVec 32 := Scalar.addi v966 v965
  let v973 : BitVec 32 := Scalar.select v971 v972 v966
  let c0_i32_531 : BitVec 32 := 0#32
  let v976 : BitVec 1 := Scalar.cmpi .sgt v973 c0_i32_531
  let v977 : BitVec 32 := Scalar.extui v976
  let c0_i32_532 : BitVec 32 := 0#32
  let v978 : BitVec 1 := Scalar.cmpi .slt v973 c0_i32_532
  let v979 : BitVec 32 := Scalar.extui v978
  let v980 : BitVec 32 := Scalar.subi v977 v979
  let c4_i32_530 : BitVec 32 := 4#32
  let c0_i32_533 : BitVec 32 := 0#32
  let v981 : BitVec 1 := Scalar.cmpi .sgt c4_i32_530 c0_i32_533
  let v982 : BitVec 32 := Scalar.extui v981
  let c0_i32_534 : BitVec 32 := 0#32
  let v983 : BitVec 1 := Scalar.cmpi .slt c4_i32_530 c0_i32_534
  let v984 : BitVec 32 := Scalar.extui v983
  let v985 : BitVec 32 := Scalar.subi v982 v984
  let v986 : BitVec 1 := Scalar.cmpi .ne v980 v985
  let v987 : BitVec 32 := Scalar.remsi v973 c4_i32_530
  let c0_i32_535 : BitVec 32 := 0#32
  let v988 : BitVec 1 := Scalar.cmpi .ne v987 c0_i32_535
  let v989 : BitVec 1 := Scalar.andi v986 v988
  let v975 : BitVec 32 := Scalar.divsi v973 c4_i32_530
  let c1_i32_536 : BitVec 32 := 1#32
  let v990 : BitVec 32 := Scalar.subi v975 c1_i32_536
  let v991 : BitVec 32 := Scalar.select v989 v990 v975
  let v992 : BitVec 32 := Scalar.addi v974 v991
  let v993 : BitVec 32 := Scalar.muli c4_i32_537 v992
  let c4_i32_538 : BitVec 32 := 4#32
  let c0_i32_539 : BitVec 32 := 0#32
  let v994 : BitVec 1 := Scalar.cmpi .eq c4_i32_538 c0_i32_539
  let c1_i32_540 : BitVec 32 := 1#32
  let v995 : BitVec 32 := Scalar.select v994 c1_i32_540 c4_i32_538
  let v996 : BitVec 32 := Scalar.remsi v973 v995
  let c0_i32_542 : BitVec 32 := 0#32
  let v998 : BitVec 1 := Scalar.cmpi .slt v996 c0_i32_542
  let c0_i32_543 : BitVec 32 := 0#32
  let v999 : BitVec 1 := Scalar.cmpi .slt v995 c0_i32_543
  let v1000 : BitVec 1 := Scalar.xori v998 v999
  let c0_i32_541 : BitVec 32 := 0#32
  let v997 : BitVec 1 := Scalar.cmpi .ne v996 c0_i32_541
  let v1001 : BitVec 1 := Scalar.andi v1000 v997
  let v1002 : BitVec 32 := Scalar.addi v996 v995
  let v1003 : BitVec 32 := Scalar.select v1001 v1002 v996
  let v1004 : BitVec 32 := Scalar.addi v993 v1003
  let c1_i32_581 : BitVec 32 := 1#32
  let v1071 : BitVec 32 := Scalar.muli v1004 c1_i32_581
  let v1072 : BitVec 32 := Scalar.addi c0_i32_582 v1071
  v1072.toNat
def k0_dev21 (d0 : Dev nD) : Nat :=
  let c0_i32_633 : BitVec 32 := 0#32
  let c4_i32_602 : BitVec 32 := 4#32
  let c2_i32_594 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v1092 : BitVec 32 := Scalar.muli c2_i32_594 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c1_i32_587 : BitVec 32 := 1#32
  let v1081 : BitVec 32 := Scalar.addi v58 c1_i32_587
  let c8_i32_588 : BitVec 32 := 8#32
  let c0_i32_589 : BitVec 32 := 0#32
  let v1082 : BitVec 1 := Scalar.cmpi .eq c8_i32_588 c0_i32_589
  let c1_i32_590 : BitVec 32 := 1#32
  let v1083 : BitVec 32 := Scalar.select v1082 c1_i32_590 c8_i32_588
  let v1084 : BitVec 32 := Scalar.remsi v1081 v1083
  let c0_i32_592 : BitVec 32 := 0#32
  let v1086 : BitVec 1 := Scalar.cmpi .slt v1084 c0_i32_592
  let c0_i32_593 : BitVec 32 := 0#32
  let v1087 : BitVec 1 := Scalar.cmpi .slt v1083 c0_i32_593
  let v1088 : BitVec 1 := Scalar.xori v1086 v1087
  let c0_i32_591 : BitVec 32 := 0#32
  let v1085 : BitVec 1 := Scalar.cmpi .ne v1084 c0_i32_591
  let v1089 : BitVec 1 := Scalar.andi v1088 v1085
  let v1090 : BitVec 32 := Scalar.addi v1084 v1083
  let v1091 : BitVec 32 := Scalar.select v1089 v1090 v1084
  let c0_i32_596 : BitVec 32 := 0#32
  let v1094 : BitVec 1 := Scalar.cmpi .sgt v1091 c0_i32_596
  let v1095 : BitVec 32 := Scalar.extui v1094
  let c0_i32_597 : BitVec 32 := 0#32
  let v1096 : BitVec 1 := Scalar.cmpi .slt v1091 c0_i32_597
  let v1097 : BitVec 32 := Scalar.extui v1096
  let v1098 : BitVec 32 := Scalar.subi v1095 v1097
  let c4_i32_595 : BitVec 32 := 4#32
  let c0_i32_598 : BitVec 32 := 0#32
  let v1099 : BitVec 1 := Scalar.cmpi .sgt c4_i32_595 c0_i32_598
  let v1100 : BitVec 32 := Scalar.extui v1099
  let c0_i32_599 : BitVec 32 := 0#32
  let v1101 : BitVec 1 := Scalar.cmpi .slt c4_i32_595 c0_i32_599
  let v1102 : BitVec 32 := Scalar.extui v1101
  let v1103 : BitVec 32 := Scalar.subi v1100 v1102
  let v1104 : BitVec 1 := Scalar.cmpi .ne v1098 v1103
  let v1105 : BitVec 32 := Scalar.remsi v1091 c4_i32_595
  let c0_i32_600 : BitVec 32 := 0#32
  let v1106 : BitVec 1 := Scalar.cmpi .ne v1105 c0_i32_600
  let v1107 : BitVec 1 := Scalar.andi v1104 v1106
  let v1093 : BitVec 32 := Scalar.divsi v1091 c4_i32_595
  let c1_i32_601 : BitVec 32 := 1#32
  let v1108 : BitVec 32 := Scalar.subi v1093 c1_i32_601
  let v1109 : BitVec 32 := Scalar.select v1107 v1108 v1093
  let v1110 : BitVec 32 := Scalar.addi v1092 v1109
  let v1111 : BitVec 32 := Scalar.muli c4_i32_602 v1110
  let c4_i32_603 : BitVec 32 := 4#32
  let c0_i32_604 : BitVec 32 := 0#32
  let v1112 : BitVec 1 := Scalar.cmpi .eq c4_i32_603 c0_i32_604
  let c1_i32_605 : BitVec 32 := 1#32
  let v1113 : BitVec 32 := Scalar.select v1112 c1_i32_605 c4_i32_603
  let v1114 : BitVec 32 := Scalar.remsi v1091 v1113
  let c0_i32_607 : BitVec 32 := 0#32
  let v1116 : BitVec 1 := Scalar.cmpi .slt v1114 c0_i32_607
  let c0_i32_608 : BitVec 32 := 0#32
  let v1117 : BitVec 1 := Scalar.cmpi .slt v1113 c0_i32_608
  let v1118 : BitVec 1 := Scalar.xori v1116 v1117
  let c0_i32_606 : BitVec 32 := 0#32
  let v1115 : BitVec 1 := Scalar.cmpi .ne v1114 c0_i32_606
  let v1119 : BitVec 1 := Scalar.andi v1118 v1115
  let v1120 : BitVec 32 := Scalar.addi v1114 v1113
  let v1121 : BitVec 32 := Scalar.select v1119 v1120 v1114
  let v1122 : BitVec 32 := Scalar.addi v1111 v1121
  let c1_i32_632 : BitVec 32 := 1#32
  let v1166 : BitVec 32 := Scalar.muli v1122 c1_i32_632
  let v1167 : BitVec 32 := Scalar.addi c0_i32_633 v1166
  v1167.toNat
def k0_dev22 (d0 : Dev nD) : Nat :=
  let c0_i32_647 : BitVec 32 := 0#32
  let c4_i32_602 : BitVec 32 := 4#32
  let c2_i32_594 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v1092 : BitVec 32 := Scalar.muli c2_i32_594 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c1_i32_587 : BitVec 32 := 1#32
  let v1081 : BitVec 32 := Scalar.addi v58 c1_i32_587
  let c8_i32_588 : BitVec 32 := 8#32
  let c0_i32_589 : BitVec 32 := 0#32
  let v1082 : BitVec 1 := Scalar.cmpi .eq c8_i32_588 c0_i32_589
  let c1_i32_590 : BitVec 32 := 1#32
  let v1083 : BitVec 32 := Scalar.select v1082 c1_i32_590 c8_i32_588
  let v1084 : BitVec 32 := Scalar.remsi v1081 v1083
  let c0_i32_592 : BitVec 32 := 0#32
  let v1086 : BitVec 1 := Scalar.cmpi .slt v1084 c0_i32_592
  let c0_i32_593 : BitVec 32 := 0#32
  let v1087 : BitVec 1 := Scalar.cmpi .slt v1083 c0_i32_593
  let v1088 : BitVec 1 := Scalar.xori v1086 v1087
  let c0_i32_591 : BitVec 32 := 0#32
  let v1085 : BitVec 1 := Scalar.cmpi .ne v1084 c0_i32_591
  let v1089 : BitVec 1 := Scalar.andi v1088 v1085
  let v1090 : BitVec 32 := Scalar.addi v1084 v1083
  let v1091 : BitVec 32 := Scalar.select v1089 v1090 v1084
  let c0_i32_596 : BitVec 32 := 0#32
  let v1094 : BitVec 1 := Scalar.cmpi .sgt v1091 c0_i32_596
  let v1095 : BitVec 32 := Scalar.extui v1094
  let c0_i32_597 : BitVec 32 := 0#32
  let v1096 : BitVec 1 := Scalar.cmpi .slt v1091 c0_i32_597
  let v1097 : BitVec 32 := Scalar.extui v1096
  let v1098 : BitVec 32 := Scalar.subi v1095 v1097
  let c4_i32_595 : BitVec 32 := 4#32
  let c0_i32_598 : BitVec 32 := 0#32
  let v1099 : BitVec 1 := Scalar.cmpi .sgt c4_i32_595 c0_i32_598
  let v1100 : BitVec 32 := Scalar.extui v1099
  let c0_i32_599 : BitVec 32 := 0#32
  let v1101 : BitVec 1 := Scalar.cmpi .slt c4_i32_595 c0_i32_599
  let v1102 : BitVec 32 := Scalar.extui v1101
  let v1103 : BitVec 32 := Scalar.subi v1100 v1102
  let v1104 : BitVec 1 := Scalar.cmpi .ne v1098 v1103
  let v1105 : BitVec 32 := Scalar.remsi v1091 c4_i32_595
  let c0_i32_600 : BitVec 32 := 0#32
  let v1106 : BitVec 1 := Scalar.cmpi .ne v1105 c0_i32_600
  let v1107 : BitVec 1 := Scalar.andi v1104 v1106
  let v1093 : BitVec 32 := Scalar.divsi v1091 c4_i32_595
  let c1_i32_601 : BitVec 32 := 1#32
  let v1108 : BitVec 32 := Scalar.subi v1093 c1_i32_601
  let v1109 : BitVec 32 := Scalar.select v1107 v1108 v1093
  let v1110 : BitVec 32 := Scalar.addi v1092 v1109
  let v1111 : BitVec 32 := Scalar.muli c4_i32_602 v1110
  let c4_i32_603 : BitVec 32 := 4#32
  let c0_i32_604 : BitVec 32 := 0#32
  let v1112 : BitVec 1 := Scalar.cmpi .eq c4_i32_603 c0_i32_604
  let c1_i32_605 : BitVec 32 := 1#32
  let v1113 : BitVec 32 := Scalar.select v1112 c1_i32_605 c4_i32_603
  let v1114 : BitVec 32 := Scalar.remsi v1091 v1113
  let c0_i32_607 : BitVec 32 := 0#32
  let v1116 : BitVec 1 := Scalar.cmpi .slt v1114 c0_i32_607
  let c0_i32_608 : BitVec 32 := 0#32
  let v1117 : BitVec 1 := Scalar.cmpi .slt v1113 c0_i32_608
  let v1118 : BitVec 1 := Scalar.xori v1116 v1117
  let c0_i32_606 : BitVec 32 := 0#32
  let v1115 : BitVec 1 := Scalar.cmpi .ne v1114 c0_i32_606
  let v1119 : BitVec 1 := Scalar.andi v1118 v1115
  let v1120 : BitVec 32 := Scalar.addi v1114 v1113
  let v1121 : BitVec 32 := Scalar.select v1119 v1120 v1114
  let v1122 : BitVec 32 := Scalar.addi v1111 v1121
  let c1_i32_646 : BitVec 32 := 1#32
  let v1189 : BitVec 32 := Scalar.muli v1122 c1_i32_646
  let v1190 : BitVec 32 := Scalar.addi c0_i32_647 v1189
  v1190.toNat
def k0_off9 (d0 : Dev nD) : Fin 2 → Nat :=
  let c4_i32_24 : BitVec 32 := 4#32
  let c3_i32 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v59 : BitVec 32 := Scalar.subi c3_i32 v19
  let v60 : BitVec 32 := Scalar.muli c4_i32_24 v59
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v61 : BitVec 32 := Scalar.addi v60 v29
  let c64_i32_652 : BitVec 32 := 64#32
  let v1199 : BitVec 32 := Scalar.muli v61 c64_i32_652
  let v1200 : Index := Scalar.indexCast v1199
  let c0_653 : Index := 0#32
  ![v1200.toNat, 0]
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_657 : BitVec 32 := 64#32
  let v1206 : BitVec 32 := Scalar.muli v2 c64_i32_657
  let v1207 : Index := Scalar.indexCast v1206
  let c0_658 : Index := 0#32
  ![v1207.toNat, 0]
def k0_off11 (d0 : Dev nD) (c1_i32_663 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c8_i32_662 : BitVec 32 := 8#32
  let v1213 : BitVec 32 := Scalar.addi v58 c8_i32_662
  let v1214 : BitVec 32 := Scalar.subi v1213 c1_i32_663
  let c8_i32_664 : BitVec 32 := 8#32
  let c0_i32_665 : BitVec 32 := 0#32
  let v1215 : BitVec 1 := Scalar.cmpi .eq c8_i32_664 c0_i32_665
  let c1_i32_666 : BitVec 32 := 1#32
  let v1216 : BitVec 32 := Scalar.select v1215 c1_i32_666 c8_i32_664
  let v1217 : BitVec 32 := Scalar.remsi v1214 v1216
  let c0_i32_668 : BitVec 32 := 0#32
  let v1219 : BitVec 1 := Scalar.cmpi .slt v1217 c0_i32_668
  let c0_i32_669 : BitVec 32 := 0#32
  let v1220 : BitVec 1 := Scalar.cmpi .slt v1216 c0_i32_669
  let v1221 : BitVec 1 := Scalar.xori v1219 v1220
  let c0_i32_667 : BitVec 32 := 0#32
  let v1218 : BitVec 1 := Scalar.cmpi .ne v1217 c0_i32_667
  let v1222 : BitVec 1 := Scalar.andi v1221 v1218
  let v1223 : BitVec 32 := Scalar.addi v1217 v1216
  let v1224 : BitVec 32 := Scalar.select v1222 v1223 v1217
  ![v1224.toNat]
def k0_off12 (d0 : Dev nD) (c1_i32_663 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c8_i32_662 : BitVec 32 := 8#32
  let v1213 : BitVec 32 := Scalar.addi v58 c8_i32_662
  let v1214 : BitVec 32 := Scalar.subi v1213 c1_i32_663
  let c8_i32_664 : BitVec 32 := 8#32
  let c0_i32_665 : BitVec 32 := 0#32
  let v1215 : BitVec 1 := Scalar.cmpi .eq c8_i32_664 c0_i32_665
  let c1_i32_666 : BitVec 32 := 1#32
  let v1216 : BitVec 32 := Scalar.select v1215 c1_i32_666 c8_i32_664
  let v1217 : BitVec 32 := Scalar.remsi v1214 v1216
  let c0_i32_668 : BitVec 32 := 0#32
  let v1219 : BitVec 1 := Scalar.cmpi .slt v1217 c0_i32_668
  let c0_i32_669 : BitVec 32 := 0#32
  let v1220 : BitVec 1 := Scalar.cmpi .slt v1216 c0_i32_669
  let v1221 : BitVec 1 := Scalar.xori v1219 v1220
  let c0_i32_667 : BitVec 32 := 0#32
  let v1218 : BitVec 1 := Scalar.cmpi .ne v1217 c0_i32_667
  let v1222 : BitVec 1 := Scalar.andi v1221 v1218
  let v1223 : BitVec 32 := Scalar.addi v1217 v1216
  let v1224 : BitVec 32 := Scalar.select v1222 v1223 v1217
  let c0_i32_674 : BitVec 32 := 0#32
  let c0_i32_675 : BitVec 32 := 0#32
  ![v1224.toNat, 0, 0]
def k0_off13 (d0 : Dev nD) (c1_i32_663 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c8_i32_662 : BitVec 32 := 8#32
  let v1213 : BitVec 32 := Scalar.addi v58 c8_i32_662
  let v1214 : BitVec 32 := Scalar.subi v1213 c1_i32_663
  let c8_i32_664 : BitVec 32 := 8#32
  let c0_i32_665 : BitVec 32 := 0#32
  let v1215 : BitVec 1 := Scalar.cmpi .eq c8_i32_664 c0_i32_665
  let c1_i32_666 : BitVec 32 := 1#32
  let v1216 : BitVec 32 := Scalar.select v1215 c1_i32_666 c8_i32_664
  let v1217 : BitVec 32 := Scalar.remsi v1214 v1216
  let c0_i32_668 : BitVec 32 := 0#32
  let v1219 : BitVec 1 := Scalar.cmpi .slt v1217 c0_i32_668
  let c0_i32_669 : BitVec 32 := 0#32
  let v1220 : BitVec 1 := Scalar.cmpi .slt v1216 c0_i32_669
  let v1221 : BitVec 1 := Scalar.xori v1219 v1220
  let c0_i32_667 : BitVec 32 := 0#32
  let v1218 : BitVec 1 := Scalar.cmpi .ne v1217 c0_i32_667
  let v1222 : BitVec 1 := Scalar.andi v1221 v1218
  let v1223 : BitVec 32 := Scalar.addi v1217 v1216
  let v1224 : BitVec 32 := Scalar.select v1222 v1223 v1217
  let v1233 : Index := Scalar.indexCast v1224
  let c0_678 : Index := 0#32
  let c0_679 : Index := 0#32
  ![v1233.toNat, 0, 0]
def k0_dev23 (d0 : Dev nD) : Nat :=
  let c0_i32_793 : BitVec 32 := 0#32
  let c4_i32_24 : BitVec 32 := 4#32
  let c3_i32 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v59 : BitVec 32 := Scalar.subi c3_i32 v19
  let v60 : BitVec 32 := Scalar.muli c4_i32_24 v59
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v61 : BitVec 32 := Scalar.addi v60 v29
  let c1_i32_792 : BitVec 32 := 1#32
  let v1392 : BitVec 32 := Scalar.muli v61 c1_i32_792
  let v1393 : BitVec 32 := Scalar.addi c0_i32_793 v1392
  v1393.toNat
def k0_dev24 (d0 : Dev nD) : Nat :=
  let c0_i32_935 : BitVec 32 := 0#32
  let c4_i32_24 : BitVec 32 := 4#32
  let c3_i32 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v59 : BitVec 32 := Scalar.subi c3_i32 v19
  let v60 : BitVec 32 := Scalar.muli c4_i32_24 v59
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v61 : BitVec 32 := Scalar.addi v60 v29
  let c1_i32_934 : BitVec 32 := 1#32
  let v1597 : BitVec 32 := Scalar.muli v61 c1_i32_934
  let v1598 : BitVec 32 := Scalar.addi c0_i32_935 v1597
  v1598.toNat
def k0_dev25 (d0 : Dev nD) : Nat :=
  let c0_i32_960 : BitVec 32 := 0#32
  let c4_i32_951 : BitVec 32 := 4#32
  let c2_i32_943 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v1614 : BitVec 32 := Scalar.muli c2_i32_943 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c4_i32_936 : BitVec 32 := 4#32
  let v1603 : BitVec 32 := Scalar.addi v58 c4_i32_936
  let c8_i32_937 : BitVec 32 := 8#32
  let c0_i32_938 : BitVec 32 := 0#32
  let v1604 : BitVec 1 := Scalar.cmpi .eq c8_i32_937 c0_i32_938
  let c1_i32_939 : BitVec 32 := 1#32
  let v1605 : BitVec 32 := Scalar.select v1604 c1_i32_939 c8_i32_937
  let v1606 : BitVec 32 := Scalar.remsi v1603 v1605
  let c0_i32_941 : BitVec 32 := 0#32
  let v1608 : BitVec 1 := Scalar.cmpi .slt v1606 c0_i32_941
  let c0_i32_942 : BitVec 32 := 0#32
  let v1609 : BitVec 1 := Scalar.cmpi .slt v1605 c0_i32_942
  let v1610 : BitVec 1 := Scalar.xori v1608 v1609
  let c0_i32_940 : BitVec 32 := 0#32
  let v1607 : BitVec 1 := Scalar.cmpi .ne v1606 c0_i32_940
  let v1611 : BitVec 1 := Scalar.andi v1610 v1607
  let v1612 : BitVec 32 := Scalar.addi v1606 v1605
  let v1613 : BitVec 32 := Scalar.select v1611 v1612 v1606
  let c0_i32_945 : BitVec 32 := 0#32
  let v1616 : BitVec 1 := Scalar.cmpi .sgt v1613 c0_i32_945
  let v1617 : BitVec 32 := Scalar.extui v1616
  let c0_i32_946 : BitVec 32 := 0#32
  let v1618 : BitVec 1 := Scalar.cmpi .slt v1613 c0_i32_946
  let v1619 : BitVec 32 := Scalar.extui v1618
  let v1620 : BitVec 32 := Scalar.subi v1617 v1619
  let c4_i32_944 : BitVec 32 := 4#32
  let c0_i32_947 : BitVec 32 := 0#32
  let v1621 : BitVec 1 := Scalar.cmpi .sgt c4_i32_944 c0_i32_947
  let v1622 : BitVec 32 := Scalar.extui v1621
  let c0_i32_948 : BitVec 32 := 0#32
  let v1623 : BitVec 1 := Scalar.cmpi .slt c4_i32_944 c0_i32_948
  let v1624 : BitVec 32 := Scalar.extui v1623
  let v1625 : BitVec 32 := Scalar.subi v1622 v1624
  let v1626 : BitVec 1 := Scalar.cmpi .ne v1620 v1625
  let v1627 : BitVec 32 := Scalar.remsi v1613 c4_i32_944
  let c0_i32_949 : BitVec 32 := 0#32
  let v1628 : BitVec 1 := Scalar.cmpi .ne v1627 c0_i32_949
  let v1629 : BitVec 1 := Scalar.andi v1626 v1628
  let v1615 : BitVec 32 := Scalar.divsi v1613 c4_i32_944
  let c1_i32_950 : BitVec 32 := 1#32
  let v1630 : BitVec 32 := Scalar.subi v1615 c1_i32_950
  let v1631 : BitVec 32 := Scalar.select v1629 v1630 v1615
  let v1632 : BitVec 32 := Scalar.addi v1614 v1631
  let v1633 : BitVec 32 := Scalar.muli c4_i32_951 v1632
  let c4_i32_952 : BitVec 32 := 4#32
  let c0_i32_953 : BitVec 32 := 0#32
  let v1634 : BitVec 1 := Scalar.cmpi .eq c4_i32_952 c0_i32_953
  let c1_i32_954 : BitVec 32 := 1#32
  let v1635 : BitVec 32 := Scalar.select v1634 c1_i32_954 c4_i32_952
  let v1636 : BitVec 32 := Scalar.remsi v1613 v1635
  let c0_i32_956 : BitVec 32 := 0#32
  let v1638 : BitVec 1 := Scalar.cmpi .slt v1636 c0_i32_956
  let c0_i32_957 : BitVec 32 := 0#32
  let v1639 : BitVec 1 := Scalar.cmpi .slt v1635 c0_i32_957
  let v1640 : BitVec 1 := Scalar.xori v1638 v1639
  let c0_i32_955 : BitVec 32 := 0#32
  let v1637 : BitVec 1 := Scalar.cmpi .ne v1636 c0_i32_955
  let v1641 : BitVec 1 := Scalar.andi v1640 v1637
  let v1642 : BitVec 32 := Scalar.addi v1636 v1635
  let v1643 : BitVec 32 := Scalar.select v1641 v1642 v1636
  let v1644 : BitVec 32 := Scalar.addi v1633 v1643
  let c1_i32_959 : BitVec 32 := 1#32
  let v1645 : BitVec 32 := Scalar.muli v1644 c1_i32_959
  let v1646 : BitVec 32 := Scalar.addi c0_i32_960 v1645
  v1646.toNat
def k0_dev26 (d0 : Dev nD) : Nat :=
  let c0_i32_987 : BitVec 32 := 0#32
  let c4_i32_978 : BitVec 32 := 4#32
  let c2_i32_970 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v1664 : BitVec 32 := Scalar.muli c2_i32_970 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c5_i32_963 : BitVec 32 := 5#32
  let v1653 : BitVec 32 := Scalar.addi v58 c5_i32_963
  let c8_i32_964 : BitVec 32 := 8#32
  let c0_i32_965 : BitVec 32 := 0#32
  let v1654 : BitVec 1 := Scalar.cmpi .eq c8_i32_964 c0_i32_965
  let c1_i32_966 : BitVec 32 := 1#32
  let v1655 : BitVec 32 := Scalar.select v1654 c1_i32_966 c8_i32_964
  let v1656 : BitVec 32 := Scalar.remsi v1653 v1655
  let c0_i32_968 : BitVec 32 := 0#32
  let v1658 : BitVec 1 := Scalar.cmpi .slt v1656 c0_i32_968
  let c0_i32_969 : BitVec 32 := 0#32
  let v1659 : BitVec 1 := Scalar.cmpi .slt v1655 c0_i32_969
  let v1660 : BitVec 1 := Scalar.xori v1658 v1659
  let c0_i32_967 : BitVec 32 := 0#32
  let v1657 : BitVec 1 := Scalar.cmpi .ne v1656 c0_i32_967
  let v1661 : BitVec 1 := Scalar.andi v1660 v1657
  let v1662 : BitVec 32 := Scalar.addi v1656 v1655
  let v1663 : BitVec 32 := Scalar.select v1661 v1662 v1656
  let c0_i32_972 : BitVec 32 := 0#32
  let v1666 : BitVec 1 := Scalar.cmpi .sgt v1663 c0_i32_972
  let v1667 : BitVec 32 := Scalar.extui v1666
  let c0_i32_973 : BitVec 32 := 0#32
  let v1668 : BitVec 1 := Scalar.cmpi .slt v1663 c0_i32_973
  let v1669 : BitVec 32 := Scalar.extui v1668
  let v1670 : BitVec 32 := Scalar.subi v1667 v1669
  let c4_i32_971 : BitVec 32 := 4#32
  let c0_i32_974 : BitVec 32 := 0#32
  let v1671 : BitVec 1 := Scalar.cmpi .sgt c4_i32_971 c0_i32_974
  let v1672 : BitVec 32 := Scalar.extui v1671
  let c0_i32_975 : BitVec 32 := 0#32
  let v1673 : BitVec 1 := Scalar.cmpi .slt c4_i32_971 c0_i32_975
  let v1674 : BitVec 32 := Scalar.extui v1673
  let v1675 : BitVec 32 := Scalar.subi v1672 v1674
  let v1676 : BitVec 1 := Scalar.cmpi .ne v1670 v1675
  let v1677 : BitVec 32 := Scalar.remsi v1663 c4_i32_971
  let c0_i32_976 : BitVec 32 := 0#32
  let v1678 : BitVec 1 := Scalar.cmpi .ne v1677 c0_i32_976
  let v1679 : BitVec 1 := Scalar.andi v1676 v1678
  let v1665 : BitVec 32 := Scalar.divsi v1663 c4_i32_971
  let c1_i32_977 : BitVec 32 := 1#32
  let v1680 : BitVec 32 := Scalar.subi v1665 c1_i32_977
  let v1681 : BitVec 32 := Scalar.select v1679 v1680 v1665
  let v1682 : BitVec 32 := Scalar.addi v1664 v1681
  let v1683 : BitVec 32 := Scalar.muli c4_i32_978 v1682
  let c4_i32_979 : BitVec 32 := 4#32
  let c0_i32_980 : BitVec 32 := 0#32
  let v1684 : BitVec 1 := Scalar.cmpi .eq c4_i32_979 c0_i32_980
  let c1_i32_981 : BitVec 32 := 1#32
  let v1685 : BitVec 32 := Scalar.select v1684 c1_i32_981 c4_i32_979
  let v1686 : BitVec 32 := Scalar.remsi v1663 v1685
  let c0_i32_983 : BitVec 32 := 0#32
  let v1688 : BitVec 1 := Scalar.cmpi .slt v1686 c0_i32_983
  let c0_i32_984 : BitVec 32 := 0#32
  let v1689 : BitVec 1 := Scalar.cmpi .slt v1685 c0_i32_984
  let v1690 : BitVec 1 := Scalar.xori v1688 v1689
  let c0_i32_982 : BitVec 32 := 0#32
  let v1687 : BitVec 1 := Scalar.cmpi .ne v1686 c0_i32_982
  let v1691 : BitVec 1 := Scalar.andi v1690 v1687
  let v1692 : BitVec 32 := Scalar.addi v1686 v1685
  let v1693 : BitVec 32 := Scalar.select v1691 v1692 v1686
  let v1694 : BitVec 32 := Scalar.addi v1683 v1693
  let c1_i32_986 : BitVec 32 := 1#32
  let v1695 : BitVec 32 := Scalar.muli v1694 c1_i32_986
  let v1696 : BitVec 32 := Scalar.addi c0_i32_987 v1695
  v1696.toNat
def k0_dev27 (d0 : Dev nD) : Nat :=
  let c0_i32_1014 : BitVec 32 := 0#32
  let c4_i32_1005 : BitVec 32 := 4#32
  let c2_i32_997 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v1714 : BitVec 32 := Scalar.muli c2_i32_997 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c3_i32_990 : BitVec 32 := 3#32
  let v1703 : BitVec 32 := Scalar.addi v58 c3_i32_990
  let c8_i32_991 : BitVec 32 := 8#32
  let c0_i32_992 : BitVec 32 := 0#32
  let v1704 : BitVec 1 := Scalar.cmpi .eq c8_i32_991 c0_i32_992
  let c1_i32_993 : BitVec 32 := 1#32
  let v1705 : BitVec 32 := Scalar.select v1704 c1_i32_993 c8_i32_991
  let v1706 : BitVec 32 := Scalar.remsi v1703 v1705
  let c0_i32_995 : BitVec 32 := 0#32
  let v1708 : BitVec 1 := Scalar.cmpi .slt v1706 c0_i32_995
  let c0_i32_996 : BitVec 32 := 0#32
  let v1709 : BitVec 1 := Scalar.cmpi .slt v1705 c0_i32_996
  let v1710 : BitVec 1 := Scalar.xori v1708 v1709
  let c0_i32_994 : BitVec 32 := 0#32
  let v1707 : BitVec 1 := Scalar.cmpi .ne v1706 c0_i32_994
  let v1711 : BitVec 1 := Scalar.andi v1710 v1707
  let v1712 : BitVec 32 := Scalar.addi v1706 v1705
  let v1713 : BitVec 32 := Scalar.select v1711 v1712 v1706
  let c0_i32_999 : BitVec 32 := 0#32
  let v1716 : BitVec 1 := Scalar.cmpi .sgt v1713 c0_i32_999
  let v1717 : BitVec 32 := Scalar.extui v1716
  let c0_i32_1000 : BitVec 32 := 0#32
  let v1718 : BitVec 1 := Scalar.cmpi .slt v1713 c0_i32_1000
  let v1719 : BitVec 32 := Scalar.extui v1718
  let v1720 : BitVec 32 := Scalar.subi v1717 v1719
  let c4_i32_998 : BitVec 32 := 4#32
  let c0_i32_1001 : BitVec 32 := 0#32
  let v1721 : BitVec 1 := Scalar.cmpi .sgt c4_i32_998 c0_i32_1001
  let v1722 : BitVec 32 := Scalar.extui v1721
  let c0_i32_1002 : BitVec 32 := 0#32
  let v1723 : BitVec 1 := Scalar.cmpi .slt c4_i32_998 c0_i32_1002
  let v1724 : BitVec 32 := Scalar.extui v1723
  let v1725 : BitVec 32 := Scalar.subi v1722 v1724
  let v1726 : BitVec 1 := Scalar.cmpi .ne v1720 v1725
  let v1727 : BitVec 32 := Scalar.remsi v1713 c4_i32_998
  let c0_i32_1003 : BitVec 32 := 0#32
  let v1728 : BitVec 1 := Scalar.cmpi .ne v1727 c0_i32_1003
  let v1729 : BitVec 1 := Scalar.andi v1726 v1728
  let v1715 : BitVec 32 := Scalar.divsi v1713 c4_i32_998
  let c1_i32_1004 : BitVec 32 := 1#32
  let v1730 : BitVec 32 := Scalar.subi v1715 c1_i32_1004
  let v1731 : BitVec 32 := Scalar.select v1729 v1730 v1715
  let v1732 : BitVec 32 := Scalar.addi v1714 v1731
  let v1733 : BitVec 32 := Scalar.muli c4_i32_1005 v1732
  let c4_i32_1006 : BitVec 32 := 4#32
  let c0_i32_1007 : BitVec 32 := 0#32
  let v1734 : BitVec 1 := Scalar.cmpi .eq c4_i32_1006 c0_i32_1007
  let c1_i32_1008 : BitVec 32 := 1#32
  let v1735 : BitVec 32 := Scalar.select v1734 c1_i32_1008 c4_i32_1006
  let v1736 : BitVec 32 := Scalar.remsi v1713 v1735
  let c0_i32_1010 : BitVec 32 := 0#32
  let v1738 : BitVec 1 := Scalar.cmpi .slt v1736 c0_i32_1010
  let c0_i32_1011 : BitVec 32 := 0#32
  let v1739 : BitVec 1 := Scalar.cmpi .slt v1735 c0_i32_1011
  let v1740 : BitVec 1 := Scalar.xori v1738 v1739
  let c0_i32_1009 : BitVec 32 := 0#32
  let v1737 : BitVec 1 := Scalar.cmpi .ne v1736 c0_i32_1009
  let v1741 : BitVec 1 := Scalar.andi v1740 v1737
  let v1742 : BitVec 32 := Scalar.addi v1736 v1735
  let v1743 : BitVec 32 := Scalar.select v1741 v1742 v1736
  let v1744 : BitVec 32 := Scalar.addi v1733 v1743
  let c1_i32_1013 : BitVec 32 := 1#32
  let v1745 : BitVec 32 := Scalar.muli v1744 c1_i32_1013
  let v1746 : BitVec 32 := Scalar.addi c0_i32_1014 v1745
  v1746.toNat
def k0_dev28 (d0 : Dev nD) : Nat :=
  let c0_i32_1041 : BitVec 32 := 0#32
  let c4_i32_1032 : BitVec 32 := 4#32
  let c2_i32_1024 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v1764 : BitVec 32 := Scalar.muli c2_i32_1024 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c6_i32_1017 : BitVec 32 := 6#32
  let v1753 : BitVec 32 := Scalar.addi v58 c6_i32_1017
  let c8_i32_1018 : BitVec 32 := 8#32
  let c0_i32_1019 : BitVec 32 := 0#32
  let v1754 : BitVec 1 := Scalar.cmpi .eq c8_i32_1018 c0_i32_1019
  let c1_i32_1020 : BitVec 32 := 1#32
  let v1755 : BitVec 32 := Scalar.select v1754 c1_i32_1020 c8_i32_1018
  let v1756 : BitVec 32 := Scalar.remsi v1753 v1755
  let c0_i32_1022 : BitVec 32 := 0#32
  let v1758 : BitVec 1 := Scalar.cmpi .slt v1756 c0_i32_1022
  let c0_i32_1023 : BitVec 32 := 0#32
  let v1759 : BitVec 1 := Scalar.cmpi .slt v1755 c0_i32_1023
  let v1760 : BitVec 1 := Scalar.xori v1758 v1759
  let c0_i32_1021 : BitVec 32 := 0#32
  let v1757 : BitVec 1 := Scalar.cmpi .ne v1756 c0_i32_1021
  let v1761 : BitVec 1 := Scalar.andi v1760 v1757
  let v1762 : BitVec 32 := Scalar.addi v1756 v1755
  let v1763 : BitVec 32 := Scalar.select v1761 v1762 v1756
  let c0_i32_1026 : BitVec 32 := 0#32
  let v1766 : BitVec 1 := Scalar.cmpi .sgt v1763 c0_i32_1026
  let v1767 : BitVec 32 := Scalar.extui v1766
  let c0_i32_1027 : BitVec 32 := 0#32
  let v1768 : BitVec 1 := Scalar.cmpi .slt v1763 c0_i32_1027
  let v1769 : BitVec 32 := Scalar.extui v1768
  let v1770 : BitVec 32 := Scalar.subi v1767 v1769
  let c4_i32_1025 : BitVec 32 := 4#32
  let c0_i32_1028 : BitVec 32 := 0#32
  let v1771 : BitVec 1 := Scalar.cmpi .sgt c4_i32_1025 c0_i32_1028
  let v1772 : BitVec 32 := Scalar.extui v1771
  let c0_i32_1029 : BitVec 32 := 0#32
  let v1773 : BitVec 1 := Scalar.cmpi .slt c4_i32_1025 c0_i32_1029
  let v1774 : BitVec 32 := Scalar.extui v1773
  let v1775 : BitVec 32 := Scalar.subi v1772 v1774
  let v1776 : BitVec 1 := Scalar.cmpi .ne v1770 v1775
  let v1777 : BitVec 32 := Scalar.remsi v1763 c4_i32_1025
  let c0_i32_1030 : BitVec 32 := 0#32
  let v1778 : BitVec 1 := Scalar.cmpi .ne v1777 c0_i32_1030
  let v1779 : BitVec 1 := Scalar.andi v1776 v1778
  let v1765 : BitVec 32 := Scalar.divsi v1763 c4_i32_1025
  let c1_i32_1031 : BitVec 32 := 1#32
  let v1780 : BitVec 32 := Scalar.subi v1765 c1_i32_1031
  let v1781 : BitVec 32 := Scalar.select v1779 v1780 v1765
  let v1782 : BitVec 32 := Scalar.addi v1764 v1781
  let v1783 : BitVec 32 := Scalar.muli c4_i32_1032 v1782
  let c4_i32_1033 : BitVec 32 := 4#32
  let c0_i32_1034 : BitVec 32 := 0#32
  let v1784 : BitVec 1 := Scalar.cmpi .eq c4_i32_1033 c0_i32_1034
  let c1_i32_1035 : BitVec 32 := 1#32
  let v1785 : BitVec 32 := Scalar.select v1784 c1_i32_1035 c4_i32_1033
  let v1786 : BitVec 32 := Scalar.remsi v1763 v1785
  let c0_i32_1037 : BitVec 32 := 0#32
  let v1788 : BitVec 1 := Scalar.cmpi .slt v1786 c0_i32_1037
  let c0_i32_1038 : BitVec 32 := 0#32
  let v1789 : BitVec 1 := Scalar.cmpi .slt v1785 c0_i32_1038
  let v1790 : BitVec 1 := Scalar.xori v1788 v1789
  let c0_i32_1036 : BitVec 32 := 0#32
  let v1787 : BitVec 1 := Scalar.cmpi .ne v1786 c0_i32_1036
  let v1791 : BitVec 1 := Scalar.andi v1790 v1787
  let v1792 : BitVec 32 := Scalar.addi v1786 v1785
  let v1793 : BitVec 32 := Scalar.select v1791 v1792 v1786
  let v1794 : BitVec 32 := Scalar.addi v1783 v1793
  let c1_i32_1040 : BitVec 32 := 1#32
  let v1795 : BitVec 32 := Scalar.muli v1794 c1_i32_1040
  let v1796 : BitVec 32 := Scalar.addi c0_i32_1041 v1795
  v1796.toNat
def k0_dev29 (d0 : Dev nD) : Nat :=
  let c0_i32_1068 : BitVec 32 := 0#32
  let c4_i32_1059 : BitVec 32 := 4#32
  let c2_i32_1051 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v1814 : BitVec 32 := Scalar.muli c2_i32_1051 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c2_i32_1044 : BitVec 32 := 2#32
  let v1803 : BitVec 32 := Scalar.addi v58 c2_i32_1044
  let c8_i32_1045 : BitVec 32 := 8#32
  let c0_i32_1046 : BitVec 32 := 0#32
  let v1804 : BitVec 1 := Scalar.cmpi .eq c8_i32_1045 c0_i32_1046
  let c1_i32_1047 : BitVec 32 := 1#32
  let v1805 : BitVec 32 := Scalar.select v1804 c1_i32_1047 c8_i32_1045
  let v1806 : BitVec 32 := Scalar.remsi v1803 v1805
  let c0_i32_1049 : BitVec 32 := 0#32
  let v1808 : BitVec 1 := Scalar.cmpi .slt v1806 c0_i32_1049
  let c0_i32_1050 : BitVec 32 := 0#32
  let v1809 : BitVec 1 := Scalar.cmpi .slt v1805 c0_i32_1050
  let v1810 : BitVec 1 := Scalar.xori v1808 v1809
  let c0_i32_1048 : BitVec 32 := 0#32
  let v1807 : BitVec 1 := Scalar.cmpi .ne v1806 c0_i32_1048
  let v1811 : BitVec 1 := Scalar.andi v1810 v1807
  let v1812 : BitVec 32 := Scalar.addi v1806 v1805
  let v1813 : BitVec 32 := Scalar.select v1811 v1812 v1806
  let c0_i32_1053 : BitVec 32 := 0#32
  let v1816 : BitVec 1 := Scalar.cmpi .sgt v1813 c0_i32_1053
  let v1817 : BitVec 32 := Scalar.extui v1816
  let c0_i32_1054 : BitVec 32 := 0#32
  let v1818 : BitVec 1 := Scalar.cmpi .slt v1813 c0_i32_1054
  let v1819 : BitVec 32 := Scalar.extui v1818
  let v1820 : BitVec 32 := Scalar.subi v1817 v1819
  let c4_i32_1052 : BitVec 32 := 4#32
  let c0_i32_1055 : BitVec 32 := 0#32
  let v1821 : BitVec 1 := Scalar.cmpi .sgt c4_i32_1052 c0_i32_1055
  let v1822 : BitVec 32 := Scalar.extui v1821
  let c0_i32_1056 : BitVec 32 := 0#32
  let v1823 : BitVec 1 := Scalar.cmpi .slt c4_i32_1052 c0_i32_1056
  let v1824 : BitVec 32 := Scalar.extui v1823
  let v1825 : BitVec 32 := Scalar.subi v1822 v1824
  let v1826 : BitVec 1 := Scalar.cmpi .ne v1820 v1825
  let v1827 : BitVec 32 := Scalar.remsi v1813 c4_i32_1052
  let c0_i32_1057 : BitVec 32 := 0#32
  let v1828 : BitVec 1 := Scalar.cmpi .ne v1827 c0_i32_1057
  let v1829 : BitVec 1 := Scalar.andi v1826 v1828
  let v1815 : BitVec 32 := Scalar.divsi v1813 c4_i32_1052
  let c1_i32_1058 : BitVec 32 := 1#32
  let v1830 : BitVec 32 := Scalar.subi v1815 c1_i32_1058
  let v1831 : BitVec 32 := Scalar.select v1829 v1830 v1815
  let v1832 : BitVec 32 := Scalar.addi v1814 v1831
  let v1833 : BitVec 32 := Scalar.muli c4_i32_1059 v1832
  let c4_i32_1060 : BitVec 32 := 4#32
  let c0_i32_1061 : BitVec 32 := 0#32
  let v1834 : BitVec 1 := Scalar.cmpi .eq c4_i32_1060 c0_i32_1061
  let c1_i32_1062 : BitVec 32 := 1#32
  let v1835 : BitVec 32 := Scalar.select v1834 c1_i32_1062 c4_i32_1060
  let v1836 : BitVec 32 := Scalar.remsi v1813 v1835
  let c0_i32_1064 : BitVec 32 := 0#32
  let v1838 : BitVec 1 := Scalar.cmpi .slt v1836 c0_i32_1064
  let c0_i32_1065 : BitVec 32 := 0#32
  let v1839 : BitVec 1 := Scalar.cmpi .slt v1835 c0_i32_1065
  let v1840 : BitVec 1 := Scalar.xori v1838 v1839
  let c0_i32_1063 : BitVec 32 := 0#32
  let v1837 : BitVec 1 := Scalar.cmpi .ne v1836 c0_i32_1063
  let v1841 : BitVec 1 := Scalar.andi v1840 v1837
  let v1842 : BitVec 32 := Scalar.addi v1836 v1835
  let v1843 : BitVec 32 := Scalar.select v1841 v1842 v1836
  let v1844 : BitVec 32 := Scalar.addi v1833 v1843
  let c1_i32_1067 : BitVec 32 := 1#32
  let v1845 : BitVec 32 := Scalar.muli v1844 c1_i32_1067
  let v1846 : BitVec 32 := Scalar.addi c0_i32_1068 v1845
  v1846.toNat
def k0_dev30 (d0 : Dev nD) : Nat :=
  let c0_i32_1095 : BitVec 32 := 0#32
  let c4_i32_1086 : BitVec 32 := 4#32
  let c2_i32_1078 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v1864 : BitVec 32 := Scalar.muli c2_i32_1078 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c7_i32_1071 : BitVec 32 := 7#32
  let v1853 : BitVec 32 := Scalar.addi v58 c7_i32_1071
  let c8_i32_1072 : BitVec 32 := 8#32
  let c0_i32_1073 : BitVec 32 := 0#32
  let v1854 : BitVec 1 := Scalar.cmpi .eq c8_i32_1072 c0_i32_1073
  let c1_i32_1074 : BitVec 32 := 1#32
  let v1855 : BitVec 32 := Scalar.select v1854 c1_i32_1074 c8_i32_1072
  let v1856 : BitVec 32 := Scalar.remsi v1853 v1855
  let c0_i32_1076 : BitVec 32 := 0#32
  let v1858 : BitVec 1 := Scalar.cmpi .slt v1856 c0_i32_1076
  let c0_i32_1077 : BitVec 32 := 0#32
  let v1859 : BitVec 1 := Scalar.cmpi .slt v1855 c0_i32_1077
  let v1860 : BitVec 1 := Scalar.xori v1858 v1859
  let c0_i32_1075 : BitVec 32 := 0#32
  let v1857 : BitVec 1 := Scalar.cmpi .ne v1856 c0_i32_1075
  let v1861 : BitVec 1 := Scalar.andi v1860 v1857
  let v1862 : BitVec 32 := Scalar.addi v1856 v1855
  let v1863 : BitVec 32 := Scalar.select v1861 v1862 v1856
  let c0_i32_1080 : BitVec 32 := 0#32
  let v1866 : BitVec 1 := Scalar.cmpi .sgt v1863 c0_i32_1080
  let v1867 : BitVec 32 := Scalar.extui v1866
  let c0_i32_1081 : BitVec 32 := 0#32
  let v1868 : BitVec 1 := Scalar.cmpi .slt v1863 c0_i32_1081
  let v1869 : BitVec 32 := Scalar.extui v1868
  let v1870 : BitVec 32 := Scalar.subi v1867 v1869
  let c4_i32_1079 : BitVec 32 := 4#32
  let c0_i32_1082 : BitVec 32 := 0#32
  let v1871 : BitVec 1 := Scalar.cmpi .sgt c4_i32_1079 c0_i32_1082
  let v1872 : BitVec 32 := Scalar.extui v1871
  let c0_i32_1083 : BitVec 32 := 0#32
  let v1873 : BitVec 1 := Scalar.cmpi .slt c4_i32_1079 c0_i32_1083
  let v1874 : BitVec 32 := Scalar.extui v1873
  let v1875 : BitVec 32 := Scalar.subi v1872 v1874
  let v1876 : BitVec 1 := Scalar.cmpi .ne v1870 v1875
  let v1877 : BitVec 32 := Scalar.remsi v1863 c4_i32_1079
  let c0_i32_1084 : BitVec 32 := 0#32
  let v1878 : BitVec 1 := Scalar.cmpi .ne v1877 c0_i32_1084
  let v1879 : BitVec 1 := Scalar.andi v1876 v1878
  let v1865 : BitVec 32 := Scalar.divsi v1863 c4_i32_1079
  let c1_i32_1085 : BitVec 32 := 1#32
  let v1880 : BitVec 32 := Scalar.subi v1865 c1_i32_1085
  let v1881 : BitVec 32 := Scalar.select v1879 v1880 v1865
  let v1882 : BitVec 32 := Scalar.addi v1864 v1881
  let v1883 : BitVec 32 := Scalar.muli c4_i32_1086 v1882
  let c4_i32_1087 : BitVec 32 := 4#32
  let c0_i32_1088 : BitVec 32 := 0#32
  let v1884 : BitVec 1 := Scalar.cmpi .eq c4_i32_1087 c0_i32_1088
  let c1_i32_1089 : BitVec 32 := 1#32
  let v1885 : BitVec 32 := Scalar.select v1884 c1_i32_1089 c4_i32_1087
  let v1886 : BitVec 32 := Scalar.remsi v1863 v1885
  let c0_i32_1091 : BitVec 32 := 0#32
  let v1888 : BitVec 1 := Scalar.cmpi .slt v1886 c0_i32_1091
  let c0_i32_1092 : BitVec 32 := 0#32
  let v1889 : BitVec 1 := Scalar.cmpi .slt v1885 c0_i32_1092
  let v1890 : BitVec 1 := Scalar.xori v1888 v1889
  let c0_i32_1090 : BitVec 32 := 0#32
  let v1887 : BitVec 1 := Scalar.cmpi .ne v1886 c0_i32_1090
  let v1891 : BitVec 1 := Scalar.andi v1890 v1887
  let v1892 : BitVec 32 := Scalar.addi v1886 v1885
  let v1893 : BitVec 32 := Scalar.select v1891 v1892 v1886
  let v1894 : BitVec 32 := Scalar.addi v1883 v1893
  let c1_i32_1094 : BitVec 32 := 1#32
  let v1895 : BitVec 32 := Scalar.muli v1894 c1_i32_1094
  let v1896 : BitVec 32 := Scalar.addi c0_i32_1095 v1895
  v1896.toNat
def k0_dev31 (d0 : Dev nD) : Nat :=
  let c0_i32_1122 : BitVec 32 := 0#32
  let c4_i32_1113 : BitVec 32 := 4#32
  let c2_i32_1105 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v1914 : BitVec 32 := Scalar.muli c2_i32_1105 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c1_i32_1098 : BitVec 32 := 1#32
  let v1903 : BitVec 32 := Scalar.addi v58 c1_i32_1098
  let c8_i32_1099 : BitVec 32 := 8#32
  let c0_i32_1100 : BitVec 32 := 0#32
  let v1904 : BitVec 1 := Scalar.cmpi .eq c8_i32_1099 c0_i32_1100
  let c1_i32_1101 : BitVec 32 := 1#32
  let v1905 : BitVec 32 := Scalar.select v1904 c1_i32_1101 c8_i32_1099
  let v1906 : BitVec 32 := Scalar.remsi v1903 v1905
  let c0_i32_1103 : BitVec 32 := 0#32
  let v1908 : BitVec 1 := Scalar.cmpi .slt v1906 c0_i32_1103
  let c0_i32_1104 : BitVec 32 := 0#32
  let v1909 : BitVec 1 := Scalar.cmpi .slt v1905 c0_i32_1104
  let v1910 : BitVec 1 := Scalar.xori v1908 v1909
  let c0_i32_1102 : BitVec 32 := 0#32
  let v1907 : BitVec 1 := Scalar.cmpi .ne v1906 c0_i32_1102
  let v1911 : BitVec 1 := Scalar.andi v1910 v1907
  let v1912 : BitVec 32 := Scalar.addi v1906 v1905
  let v1913 : BitVec 32 := Scalar.select v1911 v1912 v1906
  let c0_i32_1107 : BitVec 32 := 0#32
  let v1916 : BitVec 1 := Scalar.cmpi .sgt v1913 c0_i32_1107
  let v1917 : BitVec 32 := Scalar.extui v1916
  let c0_i32_1108 : BitVec 32 := 0#32
  let v1918 : BitVec 1 := Scalar.cmpi .slt v1913 c0_i32_1108
  let v1919 : BitVec 32 := Scalar.extui v1918
  let v1920 : BitVec 32 := Scalar.subi v1917 v1919
  let c4_i32_1106 : BitVec 32 := 4#32
  let c0_i32_1109 : BitVec 32 := 0#32
  let v1921 : BitVec 1 := Scalar.cmpi .sgt c4_i32_1106 c0_i32_1109
  let v1922 : BitVec 32 := Scalar.extui v1921
  let c0_i32_1110 : BitVec 32 := 0#32
  let v1923 : BitVec 1 := Scalar.cmpi .slt c4_i32_1106 c0_i32_1110
  let v1924 : BitVec 32 := Scalar.extui v1923
  let v1925 : BitVec 32 := Scalar.subi v1922 v1924
  let v1926 : BitVec 1 := Scalar.cmpi .ne v1920 v1925
  let v1927 : BitVec 32 := Scalar.remsi v1913 c4_i32_1106
  let c0_i32_1111 : BitVec 32 := 0#32
  let v1928 : BitVec 1 := Scalar.cmpi .ne v1927 c0_i32_1111
  let v1929 : BitVec 1 := Scalar.andi v1926 v1928
  let v1915 : BitVec 32 := Scalar.divsi v1913 c4_i32_1106
  let c1_i32_1112 : BitVec 32 := 1#32
  let v1930 : BitVec 32 := Scalar.subi v1915 c1_i32_1112
  let v1931 : BitVec 32 := Scalar.select v1929 v1930 v1915
  let v1932 : BitVec 32 := Scalar.addi v1914 v1931
  let v1933 : BitVec 32 := Scalar.muli c4_i32_1113 v1932
  let c4_i32_1114 : BitVec 32 := 4#32
  let c0_i32_1115 : BitVec 32 := 0#32
  let v1934 : BitVec 1 := Scalar.cmpi .eq c4_i32_1114 c0_i32_1115
  let c1_i32_1116 : BitVec 32 := 1#32
  let v1935 : BitVec 32 := Scalar.select v1934 c1_i32_1116 c4_i32_1114
  let v1936 : BitVec 32 := Scalar.remsi v1913 v1935
  let c0_i32_1118 : BitVec 32 := 0#32
  let v1938 : BitVec 1 := Scalar.cmpi .slt v1936 c0_i32_1118
  let c0_i32_1119 : BitVec 32 := 0#32
  let v1939 : BitVec 1 := Scalar.cmpi .slt v1935 c0_i32_1119
  let v1940 : BitVec 1 := Scalar.xori v1938 v1939
  let c0_i32_1117 : BitVec 32 := 0#32
  let v1937 : BitVec 1 := Scalar.cmpi .ne v1936 c0_i32_1117
  let v1941 : BitVec 1 := Scalar.andi v1940 v1937
  let v1942 : BitVec 32 := Scalar.addi v1936 v1935
  let v1943 : BitVec 32 := Scalar.select v1941 v1942 v1936
  let v1944 : BitVec 32 := Scalar.addi v1933 v1943
  let c1_i32_1121 : BitVec 32 := 1#32
  let v1945 : BitVec 32 := Scalar.muli v1944 c1_i32_1121
  let v1946 : BitVec 32 := Scalar.addi c0_i32_1122 v1945
  v1946.toNat
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_1125 : BitVec 32 := 64#32
  let v1953 : BitVec 32 := Scalar.muli v2 c64_i32_1125
  let v1954 : Index := Scalar.indexCast v1953
  let c0_1126 : Index := 0#32
  ![v1954.toNat, 0]
def k0_dev32 (d0 : Dev nD) : Nat :=
  let c0_i32_1155 : BitVec 32 := 0#32
  let c4_i32_1146 : BitVec 32 := 4#32
  let c2_i32_1138 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v1971 : BitVec 32 := Scalar.muli c2_i32_1138 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c4_i32_1131 : BitVec 32 := 4#32
  let v1960 : BitVec 32 := Scalar.addi v58 c4_i32_1131
  let c8_i32_1132 : BitVec 32 := 8#32
  let c0_i32_1133 : BitVec 32 := 0#32
  let v1961 : BitVec 1 := Scalar.cmpi .eq c8_i32_1132 c0_i32_1133
  let c1_i32_1134 : BitVec 32 := 1#32
  let v1962 : BitVec 32 := Scalar.select v1961 c1_i32_1134 c8_i32_1132
  let v1963 : BitVec 32 := Scalar.remsi v1960 v1962
  let c0_i32_1136 : BitVec 32 := 0#32
  let v1965 : BitVec 1 := Scalar.cmpi .slt v1963 c0_i32_1136
  let c0_i32_1137 : BitVec 32 := 0#32
  let v1966 : BitVec 1 := Scalar.cmpi .slt v1962 c0_i32_1137
  let v1967 : BitVec 1 := Scalar.xori v1965 v1966
  let c0_i32_1135 : BitVec 32 := 0#32
  let v1964 : BitVec 1 := Scalar.cmpi .ne v1963 c0_i32_1135
  let v1968 : BitVec 1 := Scalar.andi v1967 v1964
  let v1969 : BitVec 32 := Scalar.addi v1963 v1962
  let v1970 : BitVec 32 := Scalar.select v1968 v1969 v1963
  let c0_i32_1140 : BitVec 32 := 0#32
  let v1973 : BitVec 1 := Scalar.cmpi .sgt v1970 c0_i32_1140
  let v1974 : BitVec 32 := Scalar.extui v1973
  let c0_i32_1141 : BitVec 32 := 0#32
  let v1975 : BitVec 1 := Scalar.cmpi .slt v1970 c0_i32_1141
  let v1976 : BitVec 32 := Scalar.extui v1975
  let v1977 : BitVec 32 := Scalar.subi v1974 v1976
  let c4_i32_1139 : BitVec 32 := 4#32
  let c0_i32_1142 : BitVec 32 := 0#32
  let v1978 : BitVec 1 := Scalar.cmpi .sgt c4_i32_1139 c0_i32_1142
  let v1979 : BitVec 32 := Scalar.extui v1978
  let c0_i32_1143 : BitVec 32 := 0#32
  let v1980 : BitVec 1 := Scalar.cmpi .slt c4_i32_1139 c0_i32_1143
  let v1981 : BitVec 32 := Scalar.extui v1980
  let v1982 : BitVec 32 := Scalar.subi v1979 v1981
  let v1983 : BitVec 1 := Scalar.cmpi .ne v1977 v1982
  let v1984 : BitVec 32 := Scalar.remsi v1970 c4_i32_1139
  let c0_i32_1144 : BitVec 32 := 0#32
  let v1985 : BitVec 1 := Scalar.cmpi .ne v1984 c0_i32_1144
  let v1986 : BitVec 1 := Scalar.andi v1983 v1985
  let v1972 : BitVec 32 := Scalar.divsi v1970 c4_i32_1139
  let c1_i32_1145 : BitVec 32 := 1#32
  let v1987 : BitVec 32 := Scalar.subi v1972 c1_i32_1145
  let v1988 : BitVec 32 := Scalar.select v1986 v1987 v1972
  let v1989 : BitVec 32 := Scalar.addi v1971 v1988
  let v1990 : BitVec 32 := Scalar.muli c4_i32_1146 v1989
  let c4_i32_1147 : BitVec 32 := 4#32
  let c0_i32_1148 : BitVec 32 := 0#32
  let v1991 : BitVec 1 := Scalar.cmpi .eq c4_i32_1147 c0_i32_1148
  let c1_i32_1149 : BitVec 32 := 1#32
  let v1992 : BitVec 32 := Scalar.select v1991 c1_i32_1149 c4_i32_1147
  let v1993 : BitVec 32 := Scalar.remsi v1970 v1992
  let c0_i32_1151 : BitVec 32 := 0#32
  let v1995 : BitVec 1 := Scalar.cmpi .slt v1993 c0_i32_1151
  let c0_i32_1152 : BitVec 32 := 0#32
  let v1996 : BitVec 1 := Scalar.cmpi .slt v1992 c0_i32_1152
  let v1997 : BitVec 1 := Scalar.xori v1995 v1996
  let c0_i32_1150 : BitVec 32 := 0#32
  let v1994 : BitVec 1 := Scalar.cmpi .ne v1993 c0_i32_1150
  let v1998 : BitVec 1 := Scalar.andi v1997 v1994
  let v1999 : BitVec 32 := Scalar.addi v1993 v1992
  let v2000 : BitVec 32 := Scalar.select v1998 v1999 v1993
  let v2001 : BitVec 32 := Scalar.addi v1990 v2000
  let c1_i32_1154 : BitVec 32 := 1#32
  let v2002 : BitVec 32 := Scalar.muli v2001 c1_i32_1154
  let v2003 : BitVec 32 := Scalar.addi c0_i32_1155 v2002
  v2003.toNat
def k0_dev33 (d0 : Dev nD) : Nat :=
  let c0_i32_1182 : BitVec 32 := 0#32
  let c4_i32_1173 : BitVec 32 := 4#32
  let c2_i32_1165 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v2021 : BitVec 32 := Scalar.muli c2_i32_1165 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c5_i32_1158 : BitVec 32 := 5#32
  let v2010 : BitVec 32 := Scalar.addi v58 c5_i32_1158
  let c8_i32_1159 : BitVec 32 := 8#32
  let c0_i32_1160 : BitVec 32 := 0#32
  let v2011 : BitVec 1 := Scalar.cmpi .eq c8_i32_1159 c0_i32_1160
  let c1_i32_1161 : BitVec 32 := 1#32
  let v2012 : BitVec 32 := Scalar.select v2011 c1_i32_1161 c8_i32_1159
  let v2013 : BitVec 32 := Scalar.remsi v2010 v2012
  let c0_i32_1163 : BitVec 32 := 0#32
  let v2015 : BitVec 1 := Scalar.cmpi .slt v2013 c0_i32_1163
  let c0_i32_1164 : BitVec 32 := 0#32
  let v2016 : BitVec 1 := Scalar.cmpi .slt v2012 c0_i32_1164
  let v2017 : BitVec 1 := Scalar.xori v2015 v2016
  let c0_i32_1162 : BitVec 32 := 0#32
  let v2014 : BitVec 1 := Scalar.cmpi .ne v2013 c0_i32_1162
  let v2018 : BitVec 1 := Scalar.andi v2017 v2014
  let v2019 : BitVec 32 := Scalar.addi v2013 v2012
  let v2020 : BitVec 32 := Scalar.select v2018 v2019 v2013
  let c0_i32_1167 : BitVec 32 := 0#32
  let v2023 : BitVec 1 := Scalar.cmpi .sgt v2020 c0_i32_1167
  let v2024 : BitVec 32 := Scalar.extui v2023
  let c0_i32_1168 : BitVec 32 := 0#32
  let v2025 : BitVec 1 := Scalar.cmpi .slt v2020 c0_i32_1168
  let v2026 : BitVec 32 := Scalar.extui v2025
  let v2027 : BitVec 32 := Scalar.subi v2024 v2026
  let c4_i32_1166 : BitVec 32 := 4#32
  let c0_i32_1169 : BitVec 32 := 0#32
  let v2028 : BitVec 1 := Scalar.cmpi .sgt c4_i32_1166 c0_i32_1169
  let v2029 : BitVec 32 := Scalar.extui v2028
  let c0_i32_1170 : BitVec 32 := 0#32
  let v2030 : BitVec 1 := Scalar.cmpi .slt c4_i32_1166 c0_i32_1170
  let v2031 : BitVec 32 := Scalar.extui v2030
  let v2032 : BitVec 32 := Scalar.subi v2029 v2031
  let v2033 : BitVec 1 := Scalar.cmpi .ne v2027 v2032
  let v2034 : BitVec 32 := Scalar.remsi v2020 c4_i32_1166
  let c0_i32_1171 : BitVec 32 := 0#32
  let v2035 : BitVec 1 := Scalar.cmpi .ne v2034 c0_i32_1171
  let v2036 : BitVec 1 := Scalar.andi v2033 v2035
  let v2022 : BitVec 32 := Scalar.divsi v2020 c4_i32_1166
  let c1_i32_1172 : BitVec 32 := 1#32
  let v2037 : BitVec 32 := Scalar.subi v2022 c1_i32_1172
  let v2038 : BitVec 32 := Scalar.select v2036 v2037 v2022
  let v2039 : BitVec 32 := Scalar.addi v2021 v2038
  let v2040 : BitVec 32 := Scalar.muli c4_i32_1173 v2039
  let c4_i32_1174 : BitVec 32 := 4#32
  let c0_i32_1175 : BitVec 32 := 0#32
  let v2041 : BitVec 1 := Scalar.cmpi .eq c4_i32_1174 c0_i32_1175
  let c1_i32_1176 : BitVec 32 := 1#32
  let v2042 : BitVec 32 := Scalar.select v2041 c1_i32_1176 c4_i32_1174
  let v2043 : BitVec 32 := Scalar.remsi v2020 v2042
  let c0_i32_1178 : BitVec 32 := 0#32
  let v2045 : BitVec 1 := Scalar.cmpi .slt v2043 c0_i32_1178
  let c0_i32_1179 : BitVec 32 := 0#32
  let v2046 : BitVec 1 := Scalar.cmpi .slt v2042 c0_i32_1179
  let v2047 : BitVec 1 := Scalar.xori v2045 v2046
  let c0_i32_1177 : BitVec 32 := 0#32
  let v2044 : BitVec 1 := Scalar.cmpi .ne v2043 c0_i32_1177
  let v2048 : BitVec 1 := Scalar.andi v2047 v2044
  let v2049 : BitVec 32 := Scalar.addi v2043 v2042
  let v2050 : BitVec 32 := Scalar.select v2048 v2049 v2043
  let v2051 : BitVec 32 := Scalar.addi v2040 v2050
  let c1_i32_1181 : BitVec 32 := 1#32
  let v2052 : BitVec 32 := Scalar.muli v2051 c1_i32_1181
  let v2053 : BitVec 32 := Scalar.addi c0_i32_1182 v2052
  v2053.toNat
def k0_dev34 (d0 : Dev nD) : Nat :=
  let c0_i32_1209 : BitVec 32 := 0#32
  let c4_i32_1200 : BitVec 32 := 4#32
  let c2_i32_1192 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v2071 : BitVec 32 := Scalar.muli c2_i32_1192 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c3_i32_1185 : BitVec 32 := 3#32
  let v2060 : BitVec 32 := Scalar.addi v58 c3_i32_1185
  let c8_i32_1186 : BitVec 32 := 8#32
  let c0_i32_1187 : BitVec 32 := 0#32
  let v2061 : BitVec 1 := Scalar.cmpi .eq c8_i32_1186 c0_i32_1187
  let c1_i32_1188 : BitVec 32 := 1#32
  let v2062 : BitVec 32 := Scalar.select v2061 c1_i32_1188 c8_i32_1186
  let v2063 : BitVec 32 := Scalar.remsi v2060 v2062
  let c0_i32_1190 : BitVec 32 := 0#32
  let v2065 : BitVec 1 := Scalar.cmpi .slt v2063 c0_i32_1190
  let c0_i32_1191 : BitVec 32 := 0#32
  let v2066 : BitVec 1 := Scalar.cmpi .slt v2062 c0_i32_1191
  let v2067 : BitVec 1 := Scalar.xori v2065 v2066
  let c0_i32_1189 : BitVec 32 := 0#32
  let v2064 : BitVec 1 := Scalar.cmpi .ne v2063 c0_i32_1189
  let v2068 : BitVec 1 := Scalar.andi v2067 v2064
  let v2069 : BitVec 32 := Scalar.addi v2063 v2062
  let v2070 : BitVec 32 := Scalar.select v2068 v2069 v2063
  let c0_i32_1194 : BitVec 32 := 0#32
  let v2073 : BitVec 1 := Scalar.cmpi .sgt v2070 c0_i32_1194
  let v2074 : BitVec 32 := Scalar.extui v2073
  let c0_i32_1195 : BitVec 32 := 0#32
  let v2075 : BitVec 1 := Scalar.cmpi .slt v2070 c0_i32_1195
  let v2076 : BitVec 32 := Scalar.extui v2075
  let v2077 : BitVec 32 := Scalar.subi v2074 v2076
  let c4_i32_1193 : BitVec 32 := 4#32
  let c0_i32_1196 : BitVec 32 := 0#32
  let v2078 : BitVec 1 := Scalar.cmpi .sgt c4_i32_1193 c0_i32_1196
  let v2079 : BitVec 32 := Scalar.extui v2078
  let c0_i32_1197 : BitVec 32 := 0#32
  let v2080 : BitVec 1 := Scalar.cmpi .slt c4_i32_1193 c0_i32_1197
  let v2081 : BitVec 32 := Scalar.extui v2080
  let v2082 : BitVec 32 := Scalar.subi v2079 v2081
  let v2083 : BitVec 1 := Scalar.cmpi .ne v2077 v2082
  let v2084 : BitVec 32 := Scalar.remsi v2070 c4_i32_1193
  let c0_i32_1198 : BitVec 32 := 0#32
  let v2085 : BitVec 1 := Scalar.cmpi .ne v2084 c0_i32_1198
  let v2086 : BitVec 1 := Scalar.andi v2083 v2085
  let v2072 : BitVec 32 := Scalar.divsi v2070 c4_i32_1193
  let c1_i32_1199 : BitVec 32 := 1#32
  let v2087 : BitVec 32 := Scalar.subi v2072 c1_i32_1199
  let v2088 : BitVec 32 := Scalar.select v2086 v2087 v2072
  let v2089 : BitVec 32 := Scalar.addi v2071 v2088
  let v2090 : BitVec 32 := Scalar.muli c4_i32_1200 v2089
  let c4_i32_1201 : BitVec 32 := 4#32
  let c0_i32_1202 : BitVec 32 := 0#32
  let v2091 : BitVec 1 := Scalar.cmpi .eq c4_i32_1201 c0_i32_1202
  let c1_i32_1203 : BitVec 32 := 1#32
  let v2092 : BitVec 32 := Scalar.select v2091 c1_i32_1203 c4_i32_1201
  let v2093 : BitVec 32 := Scalar.remsi v2070 v2092
  let c0_i32_1205 : BitVec 32 := 0#32
  let v2095 : BitVec 1 := Scalar.cmpi .slt v2093 c0_i32_1205
  let c0_i32_1206 : BitVec 32 := 0#32
  let v2096 : BitVec 1 := Scalar.cmpi .slt v2092 c0_i32_1206
  let v2097 : BitVec 1 := Scalar.xori v2095 v2096
  let c0_i32_1204 : BitVec 32 := 0#32
  let v2094 : BitVec 1 := Scalar.cmpi .ne v2093 c0_i32_1204
  let v2098 : BitVec 1 := Scalar.andi v2097 v2094
  let v2099 : BitVec 32 := Scalar.addi v2093 v2092
  let v2100 : BitVec 32 := Scalar.select v2098 v2099 v2093
  let v2101 : BitVec 32 := Scalar.addi v2090 v2100
  let c1_i32_1208 : BitVec 32 := 1#32
  let v2102 : BitVec 32 := Scalar.muli v2101 c1_i32_1208
  let v2103 : BitVec 32 := Scalar.addi c0_i32_1209 v2102
  v2103.toNat
def k0_dev35 (d0 : Dev nD) : Nat :=
  let c0_i32_1236 : BitVec 32 := 0#32
  let c4_i32_1227 : BitVec 32 := 4#32
  let c2_i32_1219 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v2121 : BitVec 32 := Scalar.muli c2_i32_1219 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c6_i32_1212 : BitVec 32 := 6#32
  let v2110 : BitVec 32 := Scalar.addi v58 c6_i32_1212
  let c8_i32_1213 : BitVec 32 := 8#32
  let c0_i32_1214 : BitVec 32 := 0#32
  let v2111 : BitVec 1 := Scalar.cmpi .eq c8_i32_1213 c0_i32_1214
  let c1_i32_1215 : BitVec 32 := 1#32
  let v2112 : BitVec 32 := Scalar.select v2111 c1_i32_1215 c8_i32_1213
  let v2113 : BitVec 32 := Scalar.remsi v2110 v2112
  let c0_i32_1217 : BitVec 32 := 0#32
  let v2115 : BitVec 1 := Scalar.cmpi .slt v2113 c0_i32_1217
  let c0_i32_1218 : BitVec 32 := 0#32
  let v2116 : BitVec 1 := Scalar.cmpi .slt v2112 c0_i32_1218
  let v2117 : BitVec 1 := Scalar.xori v2115 v2116
  let c0_i32_1216 : BitVec 32 := 0#32
  let v2114 : BitVec 1 := Scalar.cmpi .ne v2113 c0_i32_1216
  let v2118 : BitVec 1 := Scalar.andi v2117 v2114
  let v2119 : BitVec 32 := Scalar.addi v2113 v2112
  let v2120 : BitVec 32 := Scalar.select v2118 v2119 v2113
  let c0_i32_1221 : BitVec 32 := 0#32
  let v2123 : BitVec 1 := Scalar.cmpi .sgt v2120 c0_i32_1221
  let v2124 : BitVec 32 := Scalar.extui v2123
  let c0_i32_1222 : BitVec 32 := 0#32
  let v2125 : BitVec 1 := Scalar.cmpi .slt v2120 c0_i32_1222
  let v2126 : BitVec 32 := Scalar.extui v2125
  let v2127 : BitVec 32 := Scalar.subi v2124 v2126
  let c4_i32_1220 : BitVec 32 := 4#32
  let c0_i32_1223 : BitVec 32 := 0#32
  let v2128 : BitVec 1 := Scalar.cmpi .sgt c4_i32_1220 c0_i32_1223
  let v2129 : BitVec 32 := Scalar.extui v2128
  let c0_i32_1224 : BitVec 32 := 0#32
  let v2130 : BitVec 1 := Scalar.cmpi .slt c4_i32_1220 c0_i32_1224
  let v2131 : BitVec 32 := Scalar.extui v2130
  let v2132 : BitVec 32 := Scalar.subi v2129 v2131
  let v2133 : BitVec 1 := Scalar.cmpi .ne v2127 v2132
  let v2134 : BitVec 32 := Scalar.remsi v2120 c4_i32_1220
  let c0_i32_1225 : BitVec 32 := 0#32
  let v2135 : BitVec 1 := Scalar.cmpi .ne v2134 c0_i32_1225
  let v2136 : BitVec 1 := Scalar.andi v2133 v2135
  let v2122 : BitVec 32 := Scalar.divsi v2120 c4_i32_1220
  let c1_i32_1226 : BitVec 32 := 1#32
  let v2137 : BitVec 32 := Scalar.subi v2122 c1_i32_1226
  let v2138 : BitVec 32 := Scalar.select v2136 v2137 v2122
  let v2139 : BitVec 32 := Scalar.addi v2121 v2138
  let v2140 : BitVec 32 := Scalar.muli c4_i32_1227 v2139
  let c4_i32_1228 : BitVec 32 := 4#32
  let c0_i32_1229 : BitVec 32 := 0#32
  let v2141 : BitVec 1 := Scalar.cmpi .eq c4_i32_1228 c0_i32_1229
  let c1_i32_1230 : BitVec 32 := 1#32
  let v2142 : BitVec 32 := Scalar.select v2141 c1_i32_1230 c4_i32_1228
  let v2143 : BitVec 32 := Scalar.remsi v2120 v2142
  let c0_i32_1232 : BitVec 32 := 0#32
  let v2145 : BitVec 1 := Scalar.cmpi .slt v2143 c0_i32_1232
  let c0_i32_1233 : BitVec 32 := 0#32
  let v2146 : BitVec 1 := Scalar.cmpi .slt v2142 c0_i32_1233
  let v2147 : BitVec 1 := Scalar.xori v2145 v2146
  let c0_i32_1231 : BitVec 32 := 0#32
  let v2144 : BitVec 1 := Scalar.cmpi .ne v2143 c0_i32_1231
  let v2148 : BitVec 1 := Scalar.andi v2147 v2144
  let v2149 : BitVec 32 := Scalar.addi v2143 v2142
  let v2150 : BitVec 32 := Scalar.select v2148 v2149 v2143
  let v2151 : BitVec 32 := Scalar.addi v2140 v2150
  let c1_i32_1235 : BitVec 32 := 1#32
  let v2152 : BitVec 32 := Scalar.muli v2151 c1_i32_1235
  let v2153 : BitVec 32 := Scalar.addi c0_i32_1236 v2152
  v2153.toNat
def k0_dev36 (d0 : Dev nD) : Nat :=
  let c0_i32_1263 : BitVec 32 := 0#32
  let c4_i32_1254 : BitVec 32 := 4#32
  let c2_i32_1246 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v2171 : BitVec 32 := Scalar.muli c2_i32_1246 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c2_i32_1239 : BitVec 32 := 2#32
  let v2160 : BitVec 32 := Scalar.addi v58 c2_i32_1239
  let c8_i32_1240 : BitVec 32 := 8#32
  let c0_i32_1241 : BitVec 32 := 0#32
  let v2161 : BitVec 1 := Scalar.cmpi .eq c8_i32_1240 c0_i32_1241
  let c1_i32_1242 : BitVec 32 := 1#32
  let v2162 : BitVec 32 := Scalar.select v2161 c1_i32_1242 c8_i32_1240
  let v2163 : BitVec 32 := Scalar.remsi v2160 v2162
  let c0_i32_1244 : BitVec 32 := 0#32
  let v2165 : BitVec 1 := Scalar.cmpi .slt v2163 c0_i32_1244
  let c0_i32_1245 : BitVec 32 := 0#32
  let v2166 : BitVec 1 := Scalar.cmpi .slt v2162 c0_i32_1245
  let v2167 : BitVec 1 := Scalar.xori v2165 v2166
  let c0_i32_1243 : BitVec 32 := 0#32
  let v2164 : BitVec 1 := Scalar.cmpi .ne v2163 c0_i32_1243
  let v2168 : BitVec 1 := Scalar.andi v2167 v2164
  let v2169 : BitVec 32 := Scalar.addi v2163 v2162
  let v2170 : BitVec 32 := Scalar.select v2168 v2169 v2163
  let c0_i32_1248 : BitVec 32 := 0#32
  let v2173 : BitVec 1 := Scalar.cmpi .sgt v2170 c0_i32_1248
  let v2174 : BitVec 32 := Scalar.extui v2173
  let c0_i32_1249 : BitVec 32 := 0#32
  let v2175 : BitVec 1 := Scalar.cmpi .slt v2170 c0_i32_1249
  let v2176 : BitVec 32 := Scalar.extui v2175
  let v2177 : BitVec 32 := Scalar.subi v2174 v2176
  let c4_i32_1247 : BitVec 32 := 4#32
  let c0_i32_1250 : BitVec 32 := 0#32
  let v2178 : BitVec 1 := Scalar.cmpi .sgt c4_i32_1247 c0_i32_1250
  let v2179 : BitVec 32 := Scalar.extui v2178
  let c0_i32_1251 : BitVec 32 := 0#32
  let v2180 : BitVec 1 := Scalar.cmpi .slt c4_i32_1247 c0_i32_1251
  let v2181 : BitVec 32 := Scalar.extui v2180
  let v2182 : BitVec 32 := Scalar.subi v2179 v2181
  let v2183 : BitVec 1 := Scalar.cmpi .ne v2177 v2182
  let v2184 : BitVec 32 := Scalar.remsi v2170 c4_i32_1247
  let c0_i32_1252 : BitVec 32 := 0#32
  let v2185 : BitVec 1 := Scalar.cmpi .ne v2184 c0_i32_1252
  let v2186 : BitVec 1 := Scalar.andi v2183 v2185
  let v2172 : BitVec 32 := Scalar.divsi v2170 c4_i32_1247
  let c1_i32_1253 : BitVec 32 := 1#32
  let v2187 : BitVec 32 := Scalar.subi v2172 c1_i32_1253
  let v2188 : BitVec 32 := Scalar.select v2186 v2187 v2172
  let v2189 : BitVec 32 := Scalar.addi v2171 v2188
  let v2190 : BitVec 32 := Scalar.muli c4_i32_1254 v2189
  let c4_i32_1255 : BitVec 32 := 4#32
  let c0_i32_1256 : BitVec 32 := 0#32
  let v2191 : BitVec 1 := Scalar.cmpi .eq c4_i32_1255 c0_i32_1256
  let c1_i32_1257 : BitVec 32 := 1#32
  let v2192 : BitVec 32 := Scalar.select v2191 c1_i32_1257 c4_i32_1255
  let v2193 : BitVec 32 := Scalar.remsi v2170 v2192
  let c0_i32_1259 : BitVec 32 := 0#32
  let v2195 : BitVec 1 := Scalar.cmpi .slt v2193 c0_i32_1259
  let c0_i32_1260 : BitVec 32 := 0#32
  let v2196 : BitVec 1 := Scalar.cmpi .slt v2192 c0_i32_1260
  let v2197 : BitVec 1 := Scalar.xori v2195 v2196
  let c0_i32_1258 : BitVec 32 := 0#32
  let v2194 : BitVec 1 := Scalar.cmpi .ne v2193 c0_i32_1258
  let v2198 : BitVec 1 := Scalar.andi v2197 v2194
  let v2199 : BitVec 32 := Scalar.addi v2193 v2192
  let v2200 : BitVec 32 := Scalar.select v2198 v2199 v2193
  let v2201 : BitVec 32 := Scalar.addi v2190 v2200
  let c1_i32_1262 : BitVec 32 := 1#32
  let v2202 : BitVec 32 := Scalar.muli v2201 c1_i32_1262
  let v2203 : BitVec 32 := Scalar.addi c0_i32_1263 v2202
  v2203.toNat
def k0_dev37 (d0 : Dev nD) : Nat :=
  let c0_i32_1290 : BitVec 32 := 0#32
  let c4_i32_1281 : BitVec 32 := 4#32
  let c2_i32_1273 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v2221 : BitVec 32 := Scalar.muli c2_i32_1273 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c7_i32_1266 : BitVec 32 := 7#32
  let v2210 : BitVec 32 := Scalar.addi v58 c7_i32_1266
  let c8_i32_1267 : BitVec 32 := 8#32
  let c0_i32_1268 : BitVec 32 := 0#32
  let v2211 : BitVec 1 := Scalar.cmpi .eq c8_i32_1267 c0_i32_1268
  let c1_i32_1269 : BitVec 32 := 1#32
  let v2212 : BitVec 32 := Scalar.select v2211 c1_i32_1269 c8_i32_1267
  let v2213 : BitVec 32 := Scalar.remsi v2210 v2212
  let c0_i32_1271 : BitVec 32 := 0#32
  let v2215 : BitVec 1 := Scalar.cmpi .slt v2213 c0_i32_1271
  let c0_i32_1272 : BitVec 32 := 0#32
  let v2216 : BitVec 1 := Scalar.cmpi .slt v2212 c0_i32_1272
  let v2217 : BitVec 1 := Scalar.xori v2215 v2216
  let c0_i32_1270 : BitVec 32 := 0#32
  let v2214 : BitVec 1 := Scalar.cmpi .ne v2213 c0_i32_1270
  let v2218 : BitVec 1 := Scalar.andi v2217 v2214
  let v2219 : BitVec 32 := Scalar.addi v2213 v2212
  let v2220 : BitVec 32 := Scalar.select v2218 v2219 v2213
  let c0_i32_1275 : BitVec 32 := 0#32
  let v2223 : BitVec 1 := Scalar.cmpi .sgt v2220 c0_i32_1275
  let v2224 : BitVec 32 := Scalar.extui v2223
  let c0_i32_1276 : BitVec 32 := 0#32
  let v2225 : BitVec 1 := Scalar.cmpi .slt v2220 c0_i32_1276
  let v2226 : BitVec 32 := Scalar.extui v2225
  let v2227 : BitVec 32 := Scalar.subi v2224 v2226
  let c4_i32_1274 : BitVec 32 := 4#32
  let c0_i32_1277 : BitVec 32 := 0#32
  let v2228 : BitVec 1 := Scalar.cmpi .sgt c4_i32_1274 c0_i32_1277
  let v2229 : BitVec 32 := Scalar.extui v2228
  let c0_i32_1278 : BitVec 32 := 0#32
  let v2230 : BitVec 1 := Scalar.cmpi .slt c4_i32_1274 c0_i32_1278
  let v2231 : BitVec 32 := Scalar.extui v2230
  let v2232 : BitVec 32 := Scalar.subi v2229 v2231
  let v2233 : BitVec 1 := Scalar.cmpi .ne v2227 v2232
  let v2234 : BitVec 32 := Scalar.remsi v2220 c4_i32_1274
  let c0_i32_1279 : BitVec 32 := 0#32
  let v2235 : BitVec 1 := Scalar.cmpi .ne v2234 c0_i32_1279
  let v2236 : BitVec 1 := Scalar.andi v2233 v2235
  let v2222 : BitVec 32 := Scalar.divsi v2220 c4_i32_1274
  let c1_i32_1280 : BitVec 32 := 1#32
  let v2237 : BitVec 32 := Scalar.subi v2222 c1_i32_1280
  let v2238 : BitVec 32 := Scalar.select v2236 v2237 v2222
  let v2239 : BitVec 32 := Scalar.addi v2221 v2238
  let v2240 : BitVec 32 := Scalar.muli c4_i32_1281 v2239
  let c4_i32_1282 : BitVec 32 := 4#32
  let c0_i32_1283 : BitVec 32 := 0#32
  let v2241 : BitVec 1 := Scalar.cmpi .eq c4_i32_1282 c0_i32_1283
  let c1_i32_1284 : BitVec 32 := 1#32
  let v2242 : BitVec 32 := Scalar.select v2241 c1_i32_1284 c4_i32_1282
  let v2243 : BitVec 32 := Scalar.remsi v2220 v2242
  let c0_i32_1286 : BitVec 32 := 0#32
  let v2245 : BitVec 1 := Scalar.cmpi .slt v2243 c0_i32_1286
  let c0_i32_1287 : BitVec 32 := 0#32
  let v2246 : BitVec 1 := Scalar.cmpi .slt v2242 c0_i32_1287
  let v2247 : BitVec 1 := Scalar.xori v2245 v2246
  let c0_i32_1285 : BitVec 32 := 0#32
  let v2244 : BitVec 1 := Scalar.cmpi .ne v2243 c0_i32_1285
  let v2248 : BitVec 1 := Scalar.andi v2247 v2244
  let v2249 : BitVec 32 := Scalar.addi v2243 v2242
  let v2250 : BitVec 32 := Scalar.select v2248 v2249 v2243
  let v2251 : BitVec 32 := Scalar.addi v2240 v2250
  let c1_i32_1289 : BitVec 32 := 1#32
  let v2252 : BitVec 32 := Scalar.muli v2251 c1_i32_1289
  let v2253 : BitVec 32 := Scalar.addi c0_i32_1290 v2252
  v2253.toNat
def k0_dev38 (d0 : Dev nD) : Nat :=
  let c0_i32_1317 : BitVec 32 := 0#32
  let c4_i32_1308 : BitVec 32 := 4#32
  let c2_i32_1300 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v2271 : BitVec 32 := Scalar.muli c2_i32_1300 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c1_i32_1293 : BitVec 32 := 1#32
  let v2260 : BitVec 32 := Scalar.addi v58 c1_i32_1293
  let c8_i32_1294 : BitVec 32 := 8#32
  let c0_i32_1295 : BitVec 32 := 0#32
  let v2261 : BitVec 1 := Scalar.cmpi .eq c8_i32_1294 c0_i32_1295
  let c1_i32_1296 : BitVec 32 := 1#32
  let v2262 : BitVec 32 := Scalar.select v2261 c1_i32_1296 c8_i32_1294
  let v2263 : BitVec 32 := Scalar.remsi v2260 v2262
  let c0_i32_1298 : BitVec 32 := 0#32
  let v2265 : BitVec 1 := Scalar.cmpi .slt v2263 c0_i32_1298
  let c0_i32_1299 : BitVec 32 := 0#32
  let v2266 : BitVec 1 := Scalar.cmpi .slt v2262 c0_i32_1299
  let v2267 : BitVec 1 := Scalar.xori v2265 v2266
  let c0_i32_1297 : BitVec 32 := 0#32
  let v2264 : BitVec 1 := Scalar.cmpi .ne v2263 c0_i32_1297
  let v2268 : BitVec 1 := Scalar.andi v2267 v2264
  let v2269 : BitVec 32 := Scalar.addi v2263 v2262
  let v2270 : BitVec 32 := Scalar.select v2268 v2269 v2263
  let c0_i32_1302 : BitVec 32 := 0#32
  let v2273 : BitVec 1 := Scalar.cmpi .sgt v2270 c0_i32_1302
  let v2274 : BitVec 32 := Scalar.extui v2273
  let c0_i32_1303 : BitVec 32 := 0#32
  let v2275 : BitVec 1 := Scalar.cmpi .slt v2270 c0_i32_1303
  let v2276 : BitVec 32 := Scalar.extui v2275
  let v2277 : BitVec 32 := Scalar.subi v2274 v2276
  let c4_i32_1301 : BitVec 32 := 4#32
  let c0_i32_1304 : BitVec 32 := 0#32
  let v2278 : BitVec 1 := Scalar.cmpi .sgt c4_i32_1301 c0_i32_1304
  let v2279 : BitVec 32 := Scalar.extui v2278
  let c0_i32_1305 : BitVec 32 := 0#32
  let v2280 : BitVec 1 := Scalar.cmpi .slt c4_i32_1301 c0_i32_1305
  let v2281 : BitVec 32 := Scalar.extui v2280
  let v2282 : BitVec 32 := Scalar.subi v2279 v2281
  let v2283 : BitVec 1 := Scalar.cmpi .ne v2277 v2282
  let v2284 : BitVec 32 := Scalar.remsi v2270 c4_i32_1301
  let c0_i32_1306 : BitVec 32 := 0#32
  let v2285 : BitVec 1 := Scalar.cmpi .ne v2284 c0_i32_1306
  let v2286 : BitVec 1 := Scalar.andi v2283 v2285
  let v2272 : BitVec 32 := Scalar.divsi v2270 c4_i32_1301
  let c1_i32_1307 : BitVec 32 := 1#32
  let v2287 : BitVec 32 := Scalar.subi v2272 c1_i32_1307
  let v2288 : BitVec 32 := Scalar.select v2286 v2287 v2272
  let v2289 : BitVec 32 := Scalar.addi v2271 v2288
  let v2290 : BitVec 32 := Scalar.muli c4_i32_1308 v2289
  let c4_i32_1309 : BitVec 32 := 4#32
  let c0_i32_1310 : BitVec 32 := 0#32
  let v2291 : BitVec 1 := Scalar.cmpi .eq c4_i32_1309 c0_i32_1310
  let c1_i32_1311 : BitVec 32 := 1#32
  let v2292 : BitVec 32 := Scalar.select v2291 c1_i32_1311 c4_i32_1309
  let v2293 : BitVec 32 := Scalar.remsi v2270 v2292
  let c0_i32_1313 : BitVec 32 := 0#32
  let v2295 : BitVec 1 := Scalar.cmpi .slt v2293 c0_i32_1313
  let c0_i32_1314 : BitVec 32 := 0#32
  let v2296 : BitVec 1 := Scalar.cmpi .slt v2292 c0_i32_1314
  let v2297 : BitVec 1 := Scalar.xori v2295 v2296
  let c0_i32_1312 : BitVec 32 := 0#32
  let v2294 : BitVec 1 := Scalar.cmpi .ne v2293 c0_i32_1312
  let v2298 : BitVec 1 := Scalar.andi v2297 v2294
  let v2299 : BitVec 32 := Scalar.addi v2293 v2292
  let v2300 : BitVec 32 := Scalar.select v2298 v2299 v2293
  let v2301 : BitVec 32 := Scalar.addi v2290 v2300
  let c1_i32_1316 : BitVec 32 := 1#32
  let v2302 : BitVec 32 := Scalar.muli v2301 c1_i32_1316
  let v2303 : BitVec 32 := Scalar.addi c0_i32_1317 v2302
  v2303.toNat
def k0_off15 (d0 : Dev nD) : Fin 2 → Nat :=
  let c4_i32_24 : BitVec 32 := 4#32
  let c3_i32 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v59 : BitVec 32 := Scalar.subi c3_i32 v19
  let v60 : BitVec 32 := Scalar.muli c4_i32_24 v59
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v61 : BitVec 32 := Scalar.addi v60 v29
  let c64_i32_1322 : BitVec 32 := 64#32
  let v2312 : BitVec 32 := Scalar.muli v61 c64_i32_1322
  let v2313 : Index := Scalar.indexCast v2312
  let c0_1323 : Index := 0#32
  ![v2313.toNat, 0]
def k0_off16 (d0 : Dev nD) (c1_i32_1325 : BitVec 32) : Fin 2 → Nat :=
  let c4_i32_1340 : BitVec 32 := 4#32
  let c2_i32_1332 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v2327 : BitVec 32 := Scalar.muli c2_i32_1332 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c8_i32_1324 : BitVec 32 := 8#32
  let v2315 : BitVec 32 := Scalar.addi v58 c8_i32_1324
  let v2316 : BitVec 32 := Scalar.subi v2315 c1_i32_1325
  let c8_i32_1326 : BitVec 32 := 8#32
  let c0_i32_1327 : BitVec 32 := 0#32
  let v2317 : BitVec 1 := Scalar.cmpi .eq c8_i32_1326 c0_i32_1327
  let c1_i32_1328 : BitVec 32 := 1#32
  let v2318 : BitVec 32 := Scalar.select v2317 c1_i32_1328 c8_i32_1326
  let v2319 : BitVec 32 := Scalar.remsi v2316 v2318
  let c0_i32_1330 : BitVec 32 := 0#32
  let v2321 : BitVec 1 := Scalar.cmpi .slt v2319 c0_i32_1330
  let c0_i32_1331 : BitVec 32 := 0#32
  let v2322 : BitVec 1 := Scalar.cmpi .slt v2318 c0_i32_1331
  let v2323 : BitVec 1 := Scalar.xori v2321 v2322
  let c0_i32_1329 : BitVec 32 := 0#32
  let v2320 : BitVec 1 := Scalar.cmpi .ne v2319 c0_i32_1329
  let v2324 : BitVec 1 := Scalar.andi v2323 v2320
  let v2325 : BitVec 32 := Scalar.addi v2319 v2318
  let v2326 : BitVec 32 := Scalar.select v2324 v2325 v2319
  let c0_i32_1334 : BitVec 32 := 0#32
  let v2329 : BitVec 1 := Scalar.cmpi .sgt v2326 c0_i32_1334
  let v2330 : BitVec 32 := Scalar.extui v2329
  let c0_i32_1335 : BitVec 32 := 0#32
  let v2331 : BitVec 1 := Scalar.cmpi .slt v2326 c0_i32_1335
  let v2332 : BitVec 32 := Scalar.extui v2331
  let v2333 : BitVec 32 := Scalar.subi v2330 v2332
  let c4_i32_1333 : BitVec 32 := 4#32
  let c0_i32_1336 : BitVec 32 := 0#32
  let v2334 : BitVec 1 := Scalar.cmpi .sgt c4_i32_1333 c0_i32_1336
  let v2335 : BitVec 32 := Scalar.extui v2334
  let c0_i32_1337 : BitVec 32 := 0#32
  let v2336 : BitVec 1 := Scalar.cmpi .slt c4_i32_1333 c0_i32_1337
  let v2337 : BitVec 32 := Scalar.extui v2336
  let v2338 : BitVec 32 := Scalar.subi v2335 v2337
  let v2339 : BitVec 1 := Scalar.cmpi .ne v2333 v2338
  let v2340 : BitVec 32 := Scalar.remsi v2326 c4_i32_1333
  let c0_i32_1338 : BitVec 32 := 0#32
  let v2341 : BitVec 1 := Scalar.cmpi .ne v2340 c0_i32_1338
  let v2342 : BitVec 1 := Scalar.andi v2339 v2341
  let v2328 : BitVec 32 := Scalar.divsi v2326 c4_i32_1333
  let c1_i32_1339 : BitVec 32 := 1#32
  let v2343 : BitVec 32 := Scalar.subi v2328 c1_i32_1339
  let v2344 : BitVec 32 := Scalar.select v2342 v2343 v2328
  let v2345 : BitVec 32 := Scalar.addi v2327 v2344
  let v2346 : BitVec 32 := Scalar.muli c4_i32_1340 v2345
  let c4_i32_1341 : BitVec 32 := 4#32
  let c0_i32_1342 : BitVec 32 := 0#32
  let v2347 : BitVec 1 := Scalar.cmpi .eq c4_i32_1341 c0_i32_1342
  let c1_i32_1343 : BitVec 32 := 1#32
  let v2348 : BitVec 32 := Scalar.select v2347 c1_i32_1343 c4_i32_1341
  let v2349 : BitVec 32 := Scalar.remsi v2326 v2348
  let c0_i32_1345 : BitVec 32 := 0#32
  let v2351 : BitVec 1 := Scalar.cmpi .slt v2349 c0_i32_1345
  let c0_i32_1346 : BitVec 32 := 0#32
  let v2352 : BitVec 1 := Scalar.cmpi .slt v2348 c0_i32_1346
  let v2353 : BitVec 1 := Scalar.xori v2351 v2352
  let c0_i32_1344 : BitVec 32 := 0#32
  let v2350 : BitVec 1 := Scalar.cmpi .ne v2349 c0_i32_1344
  let v2354 : BitVec 1 := Scalar.andi v2353 v2350
  let v2355 : BitVec 32 := Scalar.addi v2349 v2348
  let v2356 : BitVec 32 := Scalar.select v2354 v2355 v2349
  let v2357 : BitVec 32 := Scalar.addi v2346 v2356
  let c64_i32_1354 : BitVec 32 := 64#32
  let v2368 : BitVec 32 := Scalar.muli v2357 c64_i32_1354
  let v2369 : Index := Scalar.indexCast v2368
  let c0_1355 : Index := 0#32
  ![v2369.toNat, 0]
def k0_off17 (d0 : Dev nD) (c1_i32_1549 : BitVec 32) : Fin 2 → Nat :=
  let c4_i32_1579 : BitVec 32 := 4#32
  let c3_i32_1578 : BitVec 32 := 3#32
  let c4_i32_1564 : BitVec 32 := 4#32
  let c2_i32_1556 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v19 c2_i32
  let c0_i32_15 : BitVec 32 := 0#32
  let v43 : BitVec 1 := Scalar.cmpi .ne v42 c0_i32_15
  let v44 : BitVec 1 := Scalar.andi v41 v43
  let v30 : BitVec 32 := Scalar.divsi v19 c2_i32
  let c1_i32_16 : BitVec 32 := 1#32
  let v45 : BitVec 32 := Scalar.subi v30 c1_i32_16
  let v46 : BitVec 32 := Scalar.select v44 v45 v30
  let v2719 : BitVec 32 := Scalar.muli c2_i32_1556 v46
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v19 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c4_i32_23 : BitVec 32 := 4#32
  let v57 : BitVec 32 := Scalar.muli v56 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v58 : BitVec 32 := Scalar.addi v57 v29
  let c8_i32_1548 : BitVec 32 := 8#32
  let v2707 : BitVec 32 := Scalar.addi v58 c8_i32_1548
  let v2708 : BitVec 32 := Scalar.subi v2707 c1_i32_1549
  let c8_i32_1550 : BitVec 32 := 8#32
  let c0_i32_1551 : BitVec 32 := 0#32
  let v2709 : BitVec 1 := Scalar.cmpi .eq c8_i32_1550 c0_i32_1551
  let c1_i32_1552 : BitVec 32 := 1#32
  let v2710 : BitVec 32 := Scalar.select v2709 c1_i32_1552 c8_i32_1550
  let v2711 : BitVec 32 := Scalar.remsi v2708 v2710
  let c0_i32_1554 : BitVec 32 := 0#32
  let v2713 : BitVec 1 := Scalar.cmpi .slt v2711 c0_i32_1554
  let c0_i32_1555 : BitVec 32 := 0#32
  let v2714 : BitVec 1 := Scalar.cmpi .slt v2710 c0_i32_1555
  let v2715 : BitVec 1 := Scalar.xori v2713 v2714
  let c0_i32_1553 : BitVec 32 := 0#32
  let v2712 : BitVec 1 := Scalar.cmpi .ne v2711 c0_i32_1553
  let v2716 : BitVec 1 := Scalar.andi v2715 v2712
  let v2717 : BitVec 32 := Scalar.addi v2711 v2710
  let v2718 : BitVec 32 := Scalar.select v2716 v2717 v2711
  let c0_i32_1558 : BitVec 32 := 0#32
  let v2721 : BitVec 1 := Scalar.cmpi .sgt v2718 c0_i32_1558
  let v2722 : BitVec 32 := Scalar.extui v2721
  let c0_i32_1559 : BitVec 32 := 0#32
  let v2723 : BitVec 1 := Scalar.cmpi .slt v2718 c0_i32_1559
  let v2724 : BitVec 32 := Scalar.extui v2723
  let v2725 : BitVec 32 := Scalar.subi v2722 v2724
  let c4_i32_1557 : BitVec 32 := 4#32
  let c0_i32_1560 : BitVec 32 := 0#32
  let v2726 : BitVec 1 := Scalar.cmpi .sgt c4_i32_1557 c0_i32_1560
  let v2727 : BitVec 32 := Scalar.extui v2726
  let c0_i32_1561 : BitVec 32 := 0#32
  let v2728 : BitVec 1 := Scalar.cmpi .slt c4_i32_1557 c0_i32_1561
  let v2729 : BitVec 32 := Scalar.extui v2728
  let v2730 : BitVec 32 := Scalar.subi v2727 v2729
  let v2731 : BitVec 1 := Scalar.cmpi .ne v2725 v2730
  let v2732 : BitVec 32 := Scalar.remsi v2718 c4_i32_1557
  let c0_i32_1562 : BitVec 32 := 0#32
  let v2733 : BitVec 1 := Scalar.cmpi .ne v2732 c0_i32_1562
  let v2734 : BitVec 1 := Scalar.andi v2731 v2733
  let v2720 : BitVec 32 := Scalar.divsi v2718 c4_i32_1557
  let c1_i32_1563 : BitVec 32 := 1#32
  let v2735 : BitVec 32 := Scalar.subi v2720 c1_i32_1563
  let v2736 : BitVec 32 := Scalar.select v2734 v2735 v2720
  let v2737 : BitVec 32 := Scalar.addi v2719 v2736
  let v2738 : BitVec 32 := Scalar.muli c4_i32_1564 v2737
  let c4_i32_1565 : BitVec 32 := 4#32
  let c0_i32_1566 : BitVec 32 := 0#32
  let v2739 : BitVec 1 := Scalar.cmpi .eq c4_i32_1565 c0_i32_1566
  let c1_i32_1567 : BitVec 32 := 1#32
  let v2740 : BitVec 32 := Scalar.select v2739 c1_i32_1567 c4_i32_1565
  let v2741 : BitVec 32 := Scalar.remsi v2718 v2740
  let c0_i32_1569 : BitVec 32 := 0#32
  let v2743 : BitVec 1 := Scalar.cmpi .slt v2741 c0_i32_1569
  let c0_i32_1570 : BitVec 32 := 0#32
  let v2744 : BitVec 1 := Scalar.cmpi .slt v2740 c0_i32_1570
  let v2745 : BitVec 1 := Scalar.xori v2743 v2744
  let c0_i32_1568 : BitVec 32 := 0#32
  let v2742 : BitVec 1 := Scalar.cmpi .ne v2741 c0_i32_1568
  let v2746 : BitVec 1 := Scalar.andi v2745 v2742
  let v2747 : BitVec 32 := Scalar.addi v2741 v2740
  let v2748 : BitVec 32 := Scalar.select v2746 v2747 v2741
  let v2749 : BitVec 32 := Scalar.addi v2738 v2748
  let c0_i32_1572 : BitVec 32 := 0#32
  let v2751 : BitVec 1 := Scalar.cmpi .sgt v2749 c0_i32_1572
  let v2752 : BitVec 32 := Scalar.extui v2751
  let c0_i32_1573 : BitVec 32 := 0#32
  let v2753 : BitVec 1 := Scalar.cmpi .slt v2749 c0_i32_1573
  let v2754 : BitVec 32 := Scalar.extui v2753
  let v2755 : BitVec 32 := Scalar.subi v2752 v2754
  let c4_i32_1571 : BitVec 32 := 4#32
  let c0_i32_1574 : BitVec 32 := 0#32
  let v2756 : BitVec 1 := Scalar.cmpi .sgt c4_i32_1571 c0_i32_1574
  let v2757 : BitVec 32 := Scalar.extui v2756
  let c0_i32_1575 : BitVec 32 := 0#32
  let v2758 : BitVec 1 := Scalar.cmpi .slt c4_i32_1571 c0_i32_1575
  let v2759 : BitVec 32 := Scalar.extui v2758
  let v2760 : BitVec 32 := Scalar.subi v2757 v2759
  let v2761 : BitVec 1 := Scalar.cmpi .ne v2755 v2760
  let v2762 : BitVec 32 := Scalar.remsi v2749 c4_i32_1571
  let c0_i32_1576 : BitVec 32 := 0#32
  let v2763 : BitVec 1 := Scalar.cmpi .ne v2762 c0_i32_1576
  let v2764 : BitVec 1 := Scalar.andi v2761 v2763
  let v2750 : BitVec 32 := Scalar.divsi v2749 c4_i32_1571
  let c1_i32_1577 : BitVec 32 := 1#32
  let v2765 : BitVec 32 := Scalar.subi v2750 c1_i32_1577
  let v2766 : BitVec 32 := Scalar.select v2764 v2765 v2750
  let v2767 : BitVec 32 := Scalar.subi c3_i32_1578 v2766
  let v2768 : BitVec 32 := Scalar.muli c4_i32_1579 v2767
  let c4_i32_1580 : BitVec 32 := 4#32
  let c0_i32_1581 : BitVec 32 := 0#32
  let v2769 : BitVec 1 := Scalar.cmpi .eq c4_i32_1580 c0_i32_1581
  let c1_i32_1582 : BitVec 32 := 1#32
  let v2770 : BitVec 32 := Scalar.select v2769 c1_i32_1582 c4_i32_1580
  let v2771 : BitVec 32 := Scalar.remsi v2749 v2770
  let c0_i32_1584 : BitVec 32 := 0#32
  let v2773 : BitVec 1 := Scalar.cmpi .slt v2771 c0_i32_1584
  let c0_i32_1585 : BitVec 32 := 0#32
  let v2774 : BitVec 1 := Scalar.cmpi .slt v2770 c0_i32_1585
  let v2775 : BitVec 1 := Scalar.xori v2773 v2774
  let c0_i32_1583 : BitVec 32 := 0#32
  let v2772 : BitVec 1 := Scalar.cmpi .ne v2771 c0_i32_1583
  let v2776 : BitVec 1 := Scalar.andi v2775 v2772
  let v2777 : BitVec 32 := Scalar.addi v2771 v2770
  let v2778 : BitVec 32 := Scalar.select v2776 v2777 v2771
  let v2779 : BitVec 32 := Scalar.addi v2768 v2778
  let c64_i32_1593 : BitVec 32 := 64#32
  let v2790 : BitVec 32 := Scalar.muli v2779 c64_i32_1593
  let v2791 : Index := Scalar.indexCast v2790
  let c0_1594 : Index := 0#32
  ![v2791.toNat, 0]
abbrev stage0_0 : Fin 1 → Memref sig .tc .vmem S1024x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Prog.lean ====
/-
# The kernel's straight-line body, written by phases

The kernel is one straight line of memory operations. Here the same line is written phase by phase, each
phase a step repeated over a list of ring offsets, and the printed body is shown to be it.
-/
module

public import proofs.«01_k».proof.Proof.Gen.KernelIdeal.Skeleton
public import proofs.«01_k».proof.Proof.Gen.KernelIdeal.Points

@[expose] public section

noncomputable section

namespace Cert.KProof

open Cert.KernelIdeal Cert.KernelIdeal.Gen
open Idealize.ShloMosaic Idealize.ShloMosaic.TcCoe Idealize.SL.Sem

variable {F : FTy → Type} [FloatOps F]

/-! ## The operands -/

abbrev xM : Memref sig .tc .vmem S1024x64 .bf16 := Memref.whole cc0_stg0_0
abbrev wM : Memref sig .tc .vmem S64x1024 .bf16 := Memref.whole cc0_stg1_0
abbrev outM : Memref sig .tc .vmem S1024x1024 .f32 := Memref.whole cc0_stg2_0
abbrev sndM : Memref sig .tc .vmem S16x64x1024 .bf16 := Memref.whole cc0_scratch0
abbrev paM : Memref sig .tc .vmem S8x64x1024 .bf16 := Memref.whole cc0_scratch1
abbrev pbM : Memref sig .tc .vmem S8x64x1024 .bf16 := Memref.whole cc0_scratch2
abbrev sfM : Memref sig .tc .vmem S64x1024 .bf16 := Memref.whole cc0_scratch3
abbrev fsM : Memref sig .tc .vmem S64x1024 .bf16 := Memref.whole cc0_scratch4
abbrev agM : Memref sig .tc .vmem S64x1024 .bf16 := Memref.whole cc0_scratch5
abbrev miM : Memref sig .tc .vmem S64x1024 .bf16 := Memref.whole cc0_scratch6
abbrev qaM : Memref sig .tc .vmem S8x64x1024 .bf16 := Memref.whole cc0_scratch7
abbrev qbM : Memref sig .tc .vmem S8x64x1024 .bf16 := Memref.whole cc0_scratch8

/-- The runtime's barrier semaphore. -/
abbrev barS : Sem sig := (SemArray.scalar (sig.barrier 0 rfl) : Sems sig S_).sem

/-- One slot of an eight-slot buffer. -/
abbrev slot8 (M : Memref sig .tc .vmem S8x64x1024 .bf16) (o : Fin 3 → ℕ) (h : ∀ a, o a + S1x64x1024.size a ≤ S8x64x1024.size a) :
    Memref sig .tc .vmem S64x1024 .bf16 :=
  (M.slice (Rect.unit (s := S8x64x1024) o S1x64x1024.size h) (fun _ => rfl)).squeeze S64x1024 squeezes_S1x64x1024_S64x1024

/-- One slot of the sixteen-slot send buffer. -/
abbrev slot16 (M : Memref sig .tc .vmem S16x64x1024 .bf16) (o : Fin 3 → ℕ) (h : ∀ a, o a + S1x64x1024.size a ≤ S16x64x1024.size a) :
    Memref sig .tc .vmem S64x1024 .bf16 :=
  (M.slice (Rect.unit (s := S16x64x1024) o S1x64x1024.size h) (fun _ => rfl)).squeeze S64x1024 squeezes_S1x64x1024_S64x1024

/-- One semaphore of an array of eight, and the one of an array of one. -/
abbrev sem8 (A : DmaSems sig S8) (o : Fin 1 → ℕ) (h : ∀ a, o a + S1.size a ≤ S8.size a) : DmaSem sig :=
  ((A.slice (Rect.unit (s := S8) o S1.size h)).squeeze S_ squeezes_S1_S_).sem
abbrev sem1 (A : DmaSems sig S1) : DmaSem sig :=
  ((A.slice (Rect.unit (s := S1) ![0] S1.size inb_S1_S1_0)).squeeze S_ squeezes_S1_S_).sem

/-! ## The offsets -/

/-- Ring offset `r + 1` as the program's 32-bit word. -/
abbrev wd (r : Fin 7) : BitVec 32 := BitVec.ofNat 32 (1 + r.val)

/-- Each offset has a semaphore in the arrays of eight. -/
theorem inb_send (r : Fin 7) : ∀ a, (![r.val + 1] : Fin 1 → ℕ) a + S1.size a ≤ S8.size a := by revert r; decide

/-- The order in which the kernel walks the offsets when it sends. -/
abbrev order : List (Fin 7) := [3, 4, 2, 5, 1, 6, 0]
/-- and when it receives. -/
abbrev asc : List (Fin 7) := [0, 1, 2, 3, 4, 5, 6]

/-- The device each transfer of a phase goes to, by offset. -/
def devP1b (r : Fin 7) (d : Dev nD) : Dev nD := match r with
  | 3 => ⟨k0_dev9 d, k0_dev9_lt d⟩ | 4 => ⟨k0_dev11 d, k0_dev11_lt d⟩ | 2 => ⟨k0_dev13 d, k0_dev13_lt d⟩
  | 5 => ⟨k0_dev15 d, k0_dev15_lt d⟩ | 1 => ⟨k0_dev17 d, k0_dev17_lt d⟩ | 6 => ⟨k0_dev19 d, k0_dev19_lt d⟩
  | 0 => ⟨k0_dev21 d, k0_dev21_lt d⟩
def devP1a (r : Fin 7) (d : Dev nD) : Dev nD := match r with
  | 3 => ⟨k0_dev10 d, k0_dev10_lt d⟩ | 4 => ⟨k0_dev12 d, k0_dev12_lt d⟩ | 2 => ⟨k0_dev14 d, k0_dev14_lt d⟩
  | 5 => ⟨k0_dev16 d, k0_dev16_lt d⟩ | 1 => ⟨k0_dev18 d, k0_dev18_lt d⟩ | 6 => ⟨k0_dev20 d, k0_dev20_lt d⟩
  | 0 => ⟨k0_dev22 d, k0_dev22_lt d⟩
def devQa (r : Fin 7) (d : Dev nD) : Dev nD := match r with
  | 3 => ⟨k0_dev25 d, k0_dev25_lt d⟩ | 4 => ⟨k0_dev26 d, k0_dev26_lt d⟩ | 2 => ⟨k0_dev27 d, k0_dev27_lt d⟩
  | 5 => ⟨k0_dev28 d, k0_dev28_lt d⟩ | 1 => ⟨k0_dev29 d, k0_dev29_lt d⟩ | 6 => ⟨k0_dev30 d, k0_dev30_lt d⟩
  | 0 => ⟨k0_dev31 d, k0_dev31_lt d⟩
def devQb (r : Fin 7) (d : Dev nD) : Dev nD := match r with
  | 3 => ⟨k0_dev32 d, k0_dev32_lt d⟩ | 4 => ⟨k0_dev33 d, k0_dev33_lt d⟩ | 2 => ⟨k0_dev34 d, k0_dev34_lt d⟩
  | 5 => ⟨k0_dev35 d, k0_dev35_lt d⟩ | 1 => ⟨k0_dev36 d, k0_dev36_lt d⟩ | 6 => ⟨k0_dev37 d, k0_dev37_lt d⟩
  | 0 => ⟨k0_dev38 d, k0_dev38_lt d⟩
def devBar (r : Fin 7) (d : Dev nD) : Dev nD := match r with
  | 0 => ⟨k0_dev1 d, k0_dev1_lt d⟩ | 1 => ⟨k0_dev2 d, k0_dev2_lt d⟩ | 2 => ⟨k0_dev3 d, k0_dev3_lt d⟩
  | 3 => ⟨k0_dev4 d, k0_dev4_lt d⟩ | 4 => ⟨k0_dev5 d, k0_dev5_lt d⟩ | 5 => ⟨k0_dev6 d, k0_dev6_lt d⟩
  | 6 => ⟨k0_dev7 d, k0_dev7_lt d⟩

/-! ## The payloads -/

/-- One device's product of a row block by its weights, rounded, as the send buffer stores it. -/
abbrev p1Pay (x : Vec F S64x64 .bf16) (w : Vec F S64x1024 .bf16) : FVec F S1x64x1024 .bf16 := k0_pay3 x w
/-- The same product unrounded. -/
abbrev ownPay (x : Vec F S64x64 .bf16) (w : Vec F S64x1024 .bf16) : FVec F S64x1024 .f32 := k0_pay21 x w
/-- A received block added to the running sum. -/
abbrev accPay (a : FVec F S64x1024 .f32) (v : Vec F S1x64x1024 .bf16) : FVec F S64x1024 .f32 := k0_pay23 a v
/-- A sum rounded for the wire. -/
def rndPay (a : FVec F S64x1024 .f32) : FVec F S64x1024 .bf16 :=
  shapeCast S64x1024 (truncf .bf16 a bitsLt_bf16_f32) shapeCasts_S64x1024_S64x1024
/-- The tanh gelu of a sum. -/
def gelPay (t : FVec F S64x1024 .f32) : FVec F S64x1024 .f32 :=
  k0_pay37 t (mulf (broadcast S64x1024 (Scalar.ofBits .f32 0x3F000000#32)) t) (mulf t (mulf t t))
/-- The two partial sums together. -/
def sumPay (a : FVec F S64x1024 .f32) (v : Vec F S64x1024 .bf16) : FVec F S64x1024 .f32 := addf a (extf .f32 v bitsLt_bf16_f32)
/-- A gathered block widened for the output. -/
abbrev outPay (v : Vec F S1x64x1024 .bf16) : FVec F S64x1024 .f32 := k0_pay40 v

/-! ## The steps -/

abbrev BP (F : FTy → Type) : Type 1 := Prog (TpuEff nD τ sig (Elt F) Λ₀ .tc) PUnit

/-- Signal a device's barrier semaphore. -/
def sigStep (q : Dev nD) (k : BP F) : BP F := .op (.semSignal (q, .tc) barS (1#32).toInt) fun _ => k

/-- Compute one block, store it into the send buffer and start its copy into a slot of device `n`. -/
def p1Step (n : Dev nD) (M : Memref sig .tc .vmem S8x64x1024 .bf16)
    (ss rs : DmaSem sig)
    (ox : Fin 2 → ℕ) (hox : ∀ a, ox a + S64x64.size a ≤ S1024x64.size a)
    (oc : Fin 3 → ℕ) (hoc : ∀ a, oc a + S1x64x1024.size a ≤ S16x64x1024.size a)
    (hpk : (sndM.access (Rect.unit (s := S16x64x1024) oc S1x64x1024.size hoc)).Stores Finset.univ)
    (oc' : Fin 3 → ℕ) (hoc' : ∀ a, oc' a + S1x64x1024.size a ≤ S16x64x1024.size a)
    (hw : (slot16 sndM oc' hoc').view.WordExact)
    (os : Fin 3 → ℕ) (hos : ∀ a, os a + S1x64x1024.size a ≤ S8x64x1024.size a)
    (hd : (slot8 M os hos).view.WordExact) (k : BP F) : BP F :=
  .op (.load xM (Rect.unit (s := S1024x64) ox S64x64.size hox).toLoadRect (View.loadsAt_vmem h_S64x64)) fun x =>
  .op (.load wM (Rect.unit (s := S64x1024) ![0, 0] S64x1024.size inb_S64x1024_S64x1024_0_0).toLoadRect (View.loadsAt_vmem h_S64x1024)) fun w =>
  .op (.load sndM (Rect.unit (s := S16x64x1024) oc S1x64x1024.size hoc).toLoadRect (View.loadsAt_vmem h_S1x64x1024)) fun _ =>
  .op (.store sndM (Rect.unit (s := S16x64x1024) oc S1x64x1024.size hoc) (p1Pay x w) Finset.univ hpk (.inl rfl)) fun _ =>
  .op (.enqueueDma (slot16 sndM oc' hoc') (.remote (Dev.tc n) (slot8 M os hos) (.dma ss)) (.dma rs) hw hd ⟨⟨rfl, Or.inl rfl⟩, trivial⟩) fun _ => k

/-- Both halves for one offset: the block for the far half of the mesh, then the one for this half. -/
def p1Pair (d : Dev nD) (r : Fin 7) (k : BP F) : BP F :=
  p1Step (devP1b r d) pbM (sem8 cc0_scratch10 ![r.val + 1] (inb_send r)) (sem8 cc0_scratch12 (k0_off3 d) (k0_off3_inb d))
    (k0_off1 d (wd r)) (k0_off1_inb d r) (k0_off2 d (wd r)) (k0_off2_inb d r)
    (View.stores_vmem h_S1x64x1024 ((Memref.isWhole_whole cc0_scratch0).storeExact_slice rfl _ (k0_off2_packedbf16 d r)) (fun _ => rfl))
    (k0_off5 d (wd r)) (k0_off5_inb d r) (((Memref.isWhole_whole cc0_scratch0).wordExact_slice rfl _ (k0_off5_wordsbf16 d r)).reshape _ _)
    (k0_off4 d) (k0_off4_inb d) (((Memref.isWhole_whole cc0_scratch2).wordExact_slice rfl _ (k0_off4_wordsbf16 d)).reshape _ _) <|
  p1Step (devP1a r d) paM (sem8 cc0_scratch9 ![r.val + 1] (inb_send r)) (sem8 cc0_scratch11 (k0_off3 d) (k0_off3_inb d))
    (k0_off6 d (wd r)) (k0_off6_inb d r) (k0_off7 d (wd r)) (k0_off7_inb d r)
    (View.stores_vmem h_S1x64x1024 ((Memref.isWhole_whole cc0_scratch0).storeExact_slice rfl _ (k0_off7_packedbf16 d r)) (fun _ => rfl))
    (k0_off8 d (wd r)) (k0_off8_inb d r) (((Memref.isWhole_whole cc0_scratch0).wordExact_slice rfl _ (k0_off8_wordsbf16 d r)).reshape _ _)
    (k0_off4 d) (k0_off4_inb d) (((Memref.isWhole_whole cc0_scratch1).wordExact_slice rfl _ (k0_off4_wordsbf16 d)).reshape _ _) k

/-- This device's own block. -/
def ownStep (ox : Fin 2 → ℕ) (hox : ∀ a, ox a + S64x64.size a ≤ S1024x64.size a) (k : FVec F S64x1024 .f32 → BP F) : BP F :=
  .op (.load xM (Rect.unit (s := S1024x64) ox S64x64.size hox).toLoadRect (View.loadsAt_vmem h_S64x64)) fun x =>
  .op (.load wM (Rect.unit (s := S64x1024) ![0, 0] S64x1024.size inb_S64x1024_S64x1024_0_0).toLoadRect (View.loadsAt_vmem h_S64x1024)) fun w =>
  k (ownPay x w)

/-- Wait for the slot of offset `r` to be filled, and read it. -/
def rcvStep {s : Shape} (M : Memref sig .tc .vmem S8x64x1024 .bf16) (src : Memref sig .tc .vmem s .bf16) (rs : DmaSem sig)
    (os : Fin 3 → ℕ) (hos : ∀ a, os a + S1x64x1024.size a ≤ S8x64x1024.size a)
    (ol : Fin 3 → ℕ) (hol : ∀ a, ol a + S1x64x1024.size a ≤ S8x64x1024.size a)
    (hw : src.view.WordExact) (hd : (slot8 M os hos).view.WordExact) (k : Vec F S1x64x1024 .bf16 → BP F) : BP F :=
  .op (.waitDma2 rs src (slot8 M os hos) hw hd) fun _ =>
  .op (.load M (Rect.unit (s := S8x64x1024) ol S1x64x1024.size hol).toLoadRect (View.loadsAt_vmem h_S1x64x1024)) k

/-- The partial sum's block of offset `r`. -/
def rcv1 (d : Dev nD) (M : Memref sig .tc .vmem S8x64x1024 .bf16) (hM : M.IsWhole) (A : DmaSems sig S8) (r : Fin 7)
    (k : Vec F S1x64x1024 .bf16 → BP F) : BP F :=
  rcvStep M (slot16 sndM ![0, 0, 0] inb_S16x64x1024_S1x64x1024_0_0_0) (sem8 A (k0_off11 d (wd r)) (k0_off11_inb d r))
    (k0_off12 d (wd r)) (k0_off12_inb d r) (k0_off13 d (wd r)) (k0_off13_inb d r)
    (((Memref.isWhole_whole cc0_scratch0).wordExact_slice rfl _ wordsbf16_S16x64x1024_S1x64x1024_0_0_0).reshape _ _)
    ((hM.wordExact_slice rfl _ (k0_off12_wordsbf16 d r)).reshape _ _) k

/-- The gathered block of offset `r`. -/
def rcv2 (d : Dev nD) (M : Memref sig .tc .vmem S8x64x1024 .bf16) (hM : M.IsWhole) (A : DmaSems sig S8) (r : Fin 7)
    (k : Vec F S1x64x1024 .bf16 → BP F) : BP F :=
  rcvStep M agM (sem8 A (k0_off11 d (wd r)) (k0_off11_inb d r))
    (k0_off12 d (wd r)) (k0_off12_inb d r) (k0_off13 d (wd r)) (k0_off13_inb d r)
    (Memref.isWhole_whole cc0_scratch5).wordExact ((hM.wordExact_slice rfl _ (k0_off12_wordsbf16 d r)).reshape _ _) k

/-- The running sum over a list of offsets. -/
def accLoop (step : Fin 7 → (Vec F S1x64x1024 .bf16 → BP F) → BP F) :
    List (Fin 7) → FVec F S64x1024 .f32 → (FVec F S64x1024 .f32 → BP F) → BP F
  | [], a, k => k a
  | r :: l, a, k => step r fun v => accLoop step l (accPay a v) k

/-- Overwrite a whole 64 × 1024 buffer. -/
def putStep (M : Memref sig .tc .vmem S64x1024 .bf16)
    (hpk : (M.access (Rect.unit (s := S64x1024) ![0, 0] S64x1024.size inb_S64x1024_S64x1024_0_0)).Stores Finset.univ)
    (v : FVec F S64x1024 .bf16) (k : BP F) : BP F :=
  .op (.load M (Rect.unit (s := S64x1024) ![0, 0] S64x1024.size inb_S64x1024_S64x1024_0_0).toLoadRect (View.loadsAt_vmem h_S64x1024)) fun _ =>
  .op (.store M (Rect.unit (s := S64x1024) ![0, 0] S64x1024.size inb_S64x1024_S64x1024_0_0) v Finset.univ hpk (.inl rfl)) fun _ => k

/-- Start a copy to device `n`. -/
def sendStep (n : Dev nD) (S D : Memref sig .tc .vmem S64x1024 .bf16) (ss rs : DmaSem sig) (hS : S.view.WordExact) (hD : D.view.WordExact)
    (k : BP F) : BP F :=
  .op (.enqueueDma S (.remote (Dev.tc n) D (.dma ss)) (.dma rs) hS hD ⟨⟨rfl, Or.inl rfl⟩, trivial⟩) fun _ => k

/-- Wait on a copy's semaphore. -/
def waitStep (s : DmaSem sig) (S D : Memref sig .tc .vmem S64x1024 .bf16) (hS : S.view.WordExact) (hD : D.view.WordExact) (k : BP F) : BP F :=
  .op (.waitDma2 s S D hS hD) fun _ => k

/-- Read a whole 64 × 1024 buffer. -/
def getStep (M : Memref sig .tc .vmem S64x1024 .bf16) (k : Vec F S64x1024 .bf16 → BP F) : BP F :=
  .op (.load M (Rect.unit (s := S64x1024) ![0, 0] S64x1024.size inb_S64x1024_S64x1024_0_0).toLoadRect (View.loadsAt_vmem h_S64x1024)) k

/-- Write 64 rows of the output. -/
def outStep (o : Fin 2 → ℕ) (ho : ∀ a, o a + S64x1024.size a ≤ S1024x1024.size a) (v : FVec F S64x1024 .f32) (k : BP F) : BP F :=
  .op (.load outM (Rect.unit (s := S1024x1024) o S64x1024.size ho).toLoadRect (View.loadsAt_vmem h_S64x1024)) fun _ =>
  .op (.store outM (Rect.unit (s := S1024x1024) o S64x1024.size ho) v Finset.univ (View.stores_vmem_bits_univ h_S64x1024 rfl) (.inl rfl)) fun _ => k

/-- Broadcast a whole buffer to one peer's slot. -/
def bcStep (d n : Dev nD) (b : Ref sig .tc) (S : Memref sig .tc .vmem S64x1024 .bf16) (hS : S.IsWhole)
    (M : Memref sig .tc .vmem S8x64x1024 .bf16) (hM : M.IsWhole) (A B : DmaSems sig S8) (r : Fin 7) (k : BP F) : BP F :=
  sendStep n S (slot8 M (k0_off4 d) (k0_off4_inb d)) (sem8 A ![r.val + 1] (inb_send r)) (sem8 B (k0_off3 d) (k0_off3_inb d))
    hS.wordExact ((hM.wordExact_slice rfl _ (k0_off4_wordsbf16 d)).reshape _ _) k

/-- The two gathered blocks of one offset, each copied to the output rows. -/
def gatherStep (d : Dev nD) (M : Memref sig .tc .vmem S8x64x1024 .bf16) (hM : M.IsWhole) (A : DmaSems sig S8)
    (oo : Fin 7 → Fin 2 → ℕ) (hoo : ∀ r, ∀ a, oo r a + S64x1024.size a ≤ S1024x1024.size a) (r : Fin 7) (k : BP F) : BP F :=
  rcv2 d M hM A r fun v => outStep (oo r) (hoo r) (outPay v) k

/-- The sends of the first phase, both halves of one offset, waited for. -/
def doneP1 (d : Dev nD) (r : Fin 7) (k : BP F) : BP F :=
  waitStep (sem8 cc0_scratch10 ![r.val + 1] (inb_send r)) (slot8 pbM (k0_off4 d) (k0_off4_inb d)) (slot16 sndM (k0_off5 d (wd r)) (k0_off5_inb d r))
    (((Memref.isWhole_whole cc0_scratch2).wordExact_slice rfl _ (k0_off4_wordsbf16 d)).reshape _ _)
    (((Memref.isWhole_whole cc0_scratch0).wordExact_slice rfl _ (k0_off5_wordsbf16 d r)).reshape _ _) <|
  waitStep (sem8 cc0_scratch9 ![r.val + 1] (inb_send r)) (slot8 paM (k0_off4 d) (k0_off4_inb d)) (slot16 sndM (k0_off8 d (wd r)) (k0_off8_inb d r))
    (((Memref.isWhole_whole cc0_scratch1).wordExact_slice rfl _ (k0_off4_wordsbf16 d)).reshape _ _)
    (((Memref.isWhole_whole cc0_scratch0).wordExact_slice rfl _ (k0_off8_wordsbf16 d r)).reshape _ _) k

/-- A broadcast's send waited for. -/
def doneBc (d : Dev nD) (M : Memref sig .tc .vmem S8x64x1024 .bf16) (hM : M.IsWhole) (S : Memref sig .tc .vmem S64x1024 .bf16) (hS : S.IsWhole)
    (A : DmaSems sig S8) (r : Fin 7) (k : BP F) : BP F :=
  waitStep (sem8 A ![r.val + 1] (inb_send r)) (slot8 M (k0_off4 d) (k0_off4_inb d)) S
    ((hM.wordExact_slice rfl _ (k0_off4_wordsbf16 d)).reshape _ _) hS.wordExact k

/-- A step repeated over a list. -/
def loop {A : Type} (f : A → BP F → BP F) : List A → BP F → BP F
  | [], k => k
  | a :: l, k => f a (loop f l k)

/-! ## The phases -/

abbrev whole' (b : Ref sig .tc) : (Memref.whole b).IsWhole := Memref.isWhole_whole b

/-- The last phase: every send waited for. -/
def phDone (d : Dev nD) : BP F :=
  loop (doneP1 d) order <|
  waitStep (sem1 cc0_scratch13) fsM sfM (whole' cc0_scratch4).wordExact (whole' cc0_scratch3).wordExact <|
  waitStep (sem1 cc0_scratch15) miM agM (whole' cc0_scratch6).wordExact (whole' cc0_scratch5).wordExact <|
  loop (doneBc d qaM (whole' cc0_scratch7) agM (whole' cc0_scratch5) cc0_scratch17) order <|
  loop (doneBc d qbM (whole' cc0_scratch8) miM (whole' cc0_scratch6) cc0_scratch19) order <|
  .ret ⟨⟩

/-- The gathered blocks received and written out. -/
def phGather (d : Dev nD) (k : BP F) : BP F :=
  loop (gatherStep d qaM (whole' cc0_scratch7) cc0_scratch18 (fun r => k0_off16 d (wd r)) (k0_off16_inb d)) asc <|
  loop (gatherStep d qbM (whole' cc0_scratch8) cc0_scratch20 (fun r => k0_off17 d (wd r)) (k0_off17_inb d)) asc k

/-- The mirror's block received, relayed to the peers and written out. -/
def phRelay (d : Dev nD) (k : BP F) : BP F :=
  waitStep (sem1 cc0_scratch16) agM miM (whole' cc0_scratch5).wordExact (whole' cc0_scratch6).wordExact <|
  loop (fun r => bcStep d (devQb r d) cc0_scratch6 miM (whole' cc0_scratch6) qbM (whole' cc0_scratch8) cc0_scratch19 cc0_scratch20 r) order <|
  getStep miM fun v => outStep (k0_off15 d) (k0_off15_inb d) (k0_pay39 v) k

/-- This device's finished block sent to the mirror and the peers and written out. -/
def phShare (d : Dev nD) (t : FVec F S64x1024 .f32) (k : BP F) : BP F :=
  putStep agM (View.stores_vmem h_S64x1024 ((whole' cc0_scratch5).storeExact_slice rfl _ packedbf16_S64x1024_S64x1024_0_0) (fun _ => rfl)) (rndPay (gelPay t)) <|
  sendStep ⟨k0_dev24 d, k0_dev24_lt d⟩ agM miM (sem1 cc0_scratch15) (sem1 cc0_scratch16) (whole' cc0_scratch5).wordExact (whole' cc0_scratch6).wordExact <|
  loop (fun r => bcStep d (devQa r d) cc0_scratch5 agM (whole' cc0_scratch5) qaM (whole' cc0_scratch7) cc0_scratch17 cc0_scratch18 r) order <|
  outStep (k0_off14 d) (k0_off14_inb d) (gelPay t) k

/-- The mirror's half of the sum exchanged and the sum completed. -/
def phSum (d : Dev nD) (a b : FVec F S64x1024 .f32) (k : FVec F S64x1024 .f32 → BP F) : BP F :=
  accLoop (rcv1 d pbM (whole' cc0_scratch2) cc0_scratch12) asc b fun b' =>
  putStep sfM (View.stores_vmem h_S64x1024 ((whole' cc0_scratch3).storeExact_slice rfl _ packedbf16_S64x1024_S64x1024_0_0) (fun _ => rfl)) (rndPay b') <|
  sendStep ⟨k0_dev23 d, k0_dev23_lt d⟩ sfM fsM (sem1 cc0_scratch13) (sem1 cc0_scratch14) (whole' cc0_scratch3).wordExact (whole' cc0_scratch4).wordExact <|
  accLoop (rcv1 d paM (whole' cc0_scratch1) cc0_scratch11) asc a fun a' =>
  waitStep (sem1 cc0_scratch14) sfM fsM (whole' cc0_scratch3).wordExact (whole' cc0_scratch4).wordExact <|
  getStep fsM fun v => k (sumPay a' v)

/-- The entry handshake. -/
def phEntry (d : Dev nD) (k : BP F) : BP F :=
  loop (fun r => sigStep (devBar r d)) asc <| sigStep ⟨k0_dev8 d, k0_dev8_lt d⟩ <|
  .op (.semWait barS (8#32).toInt) fun _ => k

/-- All but the device's number. -/
def phAll (d : Dev nD) : BP F :=
  phEntry d <| loop (p1Pair d) order <|
  ownStep (k0_off9 d) (k0_off9_inb d) fun b => ownStep (k0_off10 d) (k0_off10_inb d) fun a =>
  phSum d a b fun t => phShare d t <| phRelay d <| phGather d <| phDone d

set_option maxRecDepth 65536 in
set_option maxHeartbeats 4000000 in
/-- The printed body is the phases in order. -/
theorem body_eq :
    (cc0_body xM (whole' _) wM (whole' _) outM (whole' _) sndM (whole' _) paM (whole' _) pbM (whole' _) sfM (whole' _) fsM (whole' _)
      agM (whole' _) miM (whole' _) qaM (whole' _) qbM (whole' _) cc0_scratch9 cc0_scratch10 cc0_scratch11 cc0_scratch12 cc0_scratch13
      cc0_scratch14 cc0_scratch15 cc0_scratch16 cc0_scratch17 cc0_scratch18 cc0_scratch19 cc0_scratch20 : BP F)
      = .op .deviceId phAll := by
  rfl

end Cert.KProof

end
-- ==== Proof.Mesh.lean ====
/-
# The mesh

Sixteen devices in two rings of eight. Device `c` sits at place `c % 8` of ring `c / 8`; its peers are the
other devices of its ring, and its mirror stands four places on in the other ring. Here are these maps, what
they compose to, and that every device number and offset the kernel computes is one of them.
-/
module

public import proofs.«01_k».proof.Proof.Prog

@[expose] public section

noncomputable section

namespace Cert.KProof

open Cert.KernelIdeal Cert.KernelIdeal.Gen
open Idealize.ShloMosaic Idealize.ShloMosaic.TcCoe

/-- The peer `r + 1` places on. -/
def pr (c : Dev nD) (r : Fin 7) : Dev nD := ⟨8 * (c.val / 8) + (c.val % 8 + (r.val + 1)) % 8, by have := c.isLt; simp only [nD] at *; omega⟩
/-- The peer `r + 1` places back. -/
def bk (c : Dev nD) (r : Fin 7) : Dev nD := ⟨8 * (c.val / 8) + (c.val % 8 + (7 - r.val)) % 8, by have := c.isLt; simp only [nD] at *; omega⟩
/-- The mirror. -/
def mi (c : Dev nD) : Dev nD := ⟨8 * (1 - c.val / 8) + (c.val % 8 + 4) % 8, by have := c.isLt; simp only [nD] at *; omega⟩
/-- The place in the ring. -/
def ix (c : Dev nD) : Fin 8 := ⟨c.val % 8, Nat.mod_lt _ (by decide)⟩
/-- The device at place `s` of `c`'s ring. -/
def ring (c : Dev nD) (s : Fin 8) : Dev nD := ⟨8 * (c.val / 8) + s.val, by have := c.isLt; simp only [nD] at *; omega⟩

/-- The mirror's mirror is the device. -/
theorem mi_mi (c : Dev nD) : mi (mi c) = c := by revert c; decide +kernel
/-- Going back is going forward the rest of the way round. -/
theorem bk_eq (c : Dev nD) (r : Fin 7) : bk c r = pr c r.rev := by revert c r; decide +kernel
/-- Back after forward is home, -/
theorem bk_pr (c : Dev nD) (r : Fin 7) : bk (pr c r) r = c := by revert c r; decide +kernel
/-- and forward after back. -/
theorem pr_bk (c : Dev nD) (r : Fin 7) : pr (bk c r) r = c := by revert c r; decide +kernel
/-- Forward, and then the rest of the way round, is home. -/
theorem pr_rev (c : Dev nD) (r : Fin 7) : pr (pr c r) r.rev = c := by revert c r; decide +kernel
/-- The mirror's peer is the peer's mirror. -/
theorem mi_pr (c : Dev nD) (r : Fin 7) : mi (pr c r) = pr (mi c) r := by revert c r; decide +kernel
/-- The device at the place of a peer back is that peer. -/
theorem ring_bk (c : Dev nD) (r : Fin 7) : ring c (ix (bk c r)) = bk c r := by revert c r; decide +kernel
/-- A peer finds the device at its place in their ring. -/
theorem ring_pr (c : Dev nD) (r : Fin 7) : ring (pr c r) (ix c) = c := by revert c r; decide +kernel
/-- A peer back stands at another place. -/
theorem ix_bk_ne (c : Dev nD) (r : Fin 7) : ix (bk c r) ≠ ix c := by revert c r; decide +kernel
/-- So does a peer forward. -/
theorem ix_pr_ne (c : Dev nD) (r : Fin 7) : ix c ≠ ix (pr c r) := by revert c r; decide +kernel

/-- A place in the ring is the device's own or one of its seven peers'. -/
def slotE (c : Dev nD) : Option (Fin 7) ≃ Fin 8 where
  toFun o := match o with | none => ix c | some r => ix (bk c r)
  invFun s := if h : s = ix c then none else some ⟨(c.val % 8 + 7 - s.val) % 8 % 7, Nat.mod_lt _ (by decide)⟩
  left_inv := by revert c; decide +kernel
  right_inv := by revert c; decide +kernel

/-- A device is `c`, its mirror, one of `c`'s peers or one of their mirrors. -/
def devE (c : Dev nD) : Option (Fin 7) × Bool ≃ Dev nD where
  toFun p := match p with
    | (none, false) => c | (none, true) => mi c
    | (some r, false) => pr c r | (some r, true) => mi (pr c r)
  invFun d := (if (d.val + 8 + (if c.val / 8 = d.val / 8 then 0 else 4) - c.val % 8) % 8 = 0 then none
      else some ⟨((d.val + 8 + (if c.val / 8 = d.val / 8 then 0 else 4) - c.val % 8) % 8 - 1) % 7, Nat.mod_lt _ (by decide)⟩,
    decide (c.val / 8 ≠ d.val / 8))
  left_inv := by revert c; decide +kernel
  right_inv := by revert c; decide +kernel

/-! ## What the kernel computes -/

/-- The first phase's copies for the far half go to the ring's peers, -/
theorem devP1b_eq (d : Dev nD) (r : Fin 7) : devP1b r d = pr d r := by revert d r; decide +kernel
/-- as do those for this half, -/
theorem devP1a_eq (d : Dev nD) (r : Fin 7) : devP1a r d = pr d r := by revert d r; decide +kernel
/-- the gathered blocks, -/
theorem devQa_eq (d : Dev nD) (r : Fin 7) : devQa r d = pr d r := by revert d r; decide +kernel
/-- the mirror's gathered blocks, -/
theorem devQb_eq (d : Dev nD) (r : Fin 7) : devQb r d = pr d r := by revert d r; decide +kernel
/-- and the barrier's signals. -/
theorem devBar_eq (d : Dev nD) (r : Fin 7) : devBar r d = pr d r := by revert d r; decide +kernel
/-- The eighth barrier signal goes to the mirror, -/
theorem dev8_eq (d : Dev nD) : (⟨k0_dev8 d, k0_dev8_lt d⟩ : Dev nD) = mi d := by revert d; decide +kernel
/-- as does the partial sum, -/
theorem dev23_eq (d : Dev nD) : (⟨k0_dev23 d, k0_dev23_lt d⟩ : Dev nD) = mi d := by revert d; decide +kernel
/-- and the result. -/
theorem dev24_eq (d : Dev nD) : (⟨k0_dev24 d, k0_dev24_lt d⟩ : Dev nD) = mi d := by revert d; decide +kernel

/-- The rows of `x` for the peer's mirror. -/
theorem off1_eq (d : Dev nD) (r : Fin 7) : k0_off1 d (wd r) = ![64 * (mi (pr d r)).val, 0] := by revert d r; decide +kernel
/-- The send slot of the peer's mirror, as it is stored. -/
theorem off2_eq (d : Dev nD) (r : Fin 7) : k0_off2 d (wd r) = ![(mi (pr d r)).val, 0, 0] := by revert d r; decide +kernel
/-- The semaphore of the device's own place. -/
theorem off3_eq (d : Dev nD) : k0_off3 d = ![(ix d).val] := by revert d; decide +kernel
/-- The slot of the device's own place. -/
theorem off4_eq (d : Dev nD) : k0_off4 d = ![(ix d).val, 0, 0] := by revert d; decide +kernel
/-- The send slot of the peer's mirror, as it is sent. -/
theorem off5_eq (d : Dev nD) (r : Fin 7) : k0_off5 d (wd r) = ![(mi (pr d r)).val, 0, 0] := by revert d r; decide +kernel
/-- The rows of `x` for the peer. -/
theorem off6_eq (d : Dev nD) (r : Fin 7) : k0_off6 d (wd r) = ![64 * (pr d r).val, 0] := by revert d r; decide +kernel
/-- The send slot of the peer, as it is stored. -/
theorem off7_eq (d : Dev nD) (r : Fin 7) : k0_off7 d (wd r) = ![(pr d r).val, 0, 0] := by revert d r; decide +kernel
/-- The send slot of the peer, as it is sent. -/
theorem off8_eq (d : Dev nD) (r : Fin 7) : k0_off8 d (wd r) = ![(pr d r).val, 0, 0] := by revert d r; decide +kernel
/-- The rows of `x` for the mirror. -/
theorem off9_eq (d : Dev nD) : k0_off9 d = ![64 * (mi d).val, 0] := by revert d; decide +kernel
/-- The rows of `x` for the device itself. -/
theorem off10_eq (d : Dev nD) : k0_off10 d = ![64 * d.val, 0] := by revert d; decide +kernel
/-- The semaphore of a peer back. -/
theorem off11_eq (d : Dev nD) (r : Fin 7) : k0_off11 d (wd r) = ![(ix (bk d r)).val] := by revert d r; decide +kernel
/-- The slot of a peer back, as it is waited for. -/
theorem off12_eq (d : Dev nD) (r : Fin 7) : k0_off12 d (wd r) = ![(ix (bk d r)).val, 0, 0] := by revert d r; decide +kernel
/-- The slot of a peer back, as it is loaded. -/
theorem off13_eq (d : Dev nD) (r : Fin 7) : k0_off13 d (wd r) = ![(ix (bk d r)).val, 0, 0] := by revert d r; decide +kernel
/-- The output rows of the device. -/
theorem off14_eq (d : Dev nD) : k0_off14 d = ![64 * d.val, 0] := by revert d; decide +kernel
/-- The output rows of its mirror. -/
theorem off15_eq (d : Dev nD) : k0_off15 d = ![64 * (mi d).val, 0] := by revert d; decide +kernel
/-- The output rows of a peer back. -/
theorem off16_eq (d : Dev nD) (r : Fin 7) : k0_off16 d (wd r) = ![64 * (bk d r).val, 0] := by revert d r; decide +kernel
/-- The output rows of a peer back's mirror. -/
theorem off17_eq (d : Dev nD) (r : Fin 7) : k0_off17 d (wd r) = ![64 * (mi (bk d r)).val, 0] := by revert d r; decide +kernel

end Cert.KProof

end
-- ==== Proof.Cells.lean ====
/-
# The cells, the duties and what each carries

Every semaphore of a device is a cell with one round. A duty is one payment into a cell: a signal of the entry
barrier, or the landing of a copy on its sender's or its receiver's semaphore. Here are the duties, the
semaphore each pays, what it hands over, the device that pays it, and the schedule they make up.
-/
module

public import proofs.«01_k».proof.Proof.Mesh
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ## Contents -/

/-- The two operands, device by device. -/
structure Inp (F : FTy → Type) where
  x : Dev nD → Vec F S1024x64 .bf16
  w : Dev nD → Vec F S64x1024 .bf16

/-- Row block `k` lies in a device's block of `x`. -/
theorem inb_x (k : Dev nD) : ∀ a, (![64 * k.val, 0] : Fin 2 → ℕ) a + S64x64.size a ≤ S1024x64.size a := by revert k; decide +kernel
/-- Row block `k` lies in the output. -/
theorem inb_out (k : Dev nD) : ∀ a, (![64 * k.val, 0] : Fin 2 → ℕ) a + S64x1024.size a ≤ S1024x1024.size a := by revert k; decide +kernel
/-- Slot `s` lies in an eight-slot buffer. -/
theorem inb_8 (s : Fin 8) : ∀ a, (![s.val, 0, 0] : Fin 3 → ℕ) a + S1x64x1024.size a ≤ S8x64x1024.size a := by revert s; decide +kernel
/-- Slot `k` lies in the send buffer. -/
theorem inb_16 (k : Dev nD) : ∀ a, (![k.val, 0, 0] : Fin 3 → ℕ) a + S1x64x1024.size a ≤ S16x64x1024.size a := by revert k; decide +kernel

/-- Rows `64 k` to `64 k + 63` of a device's block of `x`. -/
def xrow (x : Vec F S1024x64 .bf16) (k : Dev nD) : Vec F S64x64 .bf16 :=
  (xM : Memref sig .tc .vmem S1024x64 .bf16).view.readAt (Elt F) (Rect.unit (s := S1024x64) ![64 * k.val, 0] S64x64.size (inb_x k)).toLoadRect x

/-- A block added to a running sum. -/
def acc (a : FVec F S64x1024 .f32) (v : FVec F S64x1024 .bf16) : FVec F S64x1024 .f32 := addf a (extf .f32 v bitsLt_bf16_f32)

section Contents
variable (I : Inp F)

/-- Device `d`'s share of row block `k` of the product. -/
def part (d k : Dev nD) : FVec F S64x1024 .f32 := ownPay (xrow (I.x d) k) (I.w d)
/-- The same, rounded for the wire. -/
def P (d k : Dev nD) : FVec F S64x1024 .bf16 := truncf .bf16 (part I d k) bitsLt_bf16_f32
/-- Row block `k` summed over the ring of `d`. -/
def half (d k : Dev nD) : FVec F S64x1024 .f32 := asc.foldl (fun a r => acc a (P I (bk d r) k)) (part I d k)
/-- The mirror's row block summed over this ring, rounded for the wire. -/
def Sb (d : Dev nD) : FVec F S64x1024 .bf16 := rndPay (half I d (mi d))
/-- Row block `d` summed over all devices. -/
def tot (d : Dev nD) : FVec F S64x1024 .f32 := sumPay (half I d d) (Sb I (mi d))
/-- Its gelu, and that rounded for the wire. -/
def gel (d : Dev nD) : FVec F S64x1024 .f32 := gelPay (tot I d)
def AG (d : Dev nD) : FVec F S64x1024 .bf16 := rndPay (gel I d)
/-- Row block `d` of the output as device `c` writes it: its own exactly, every other widened from the wire. -/
def outRow (c d : Dev nD) : FVec F S64x1024 .f32 := if d = c then gel I d else extf .f32 (AG I d) bitsLt_bf16_f32

end Contents

/-! ## Slots -/

/-- Slot `s` of an eight-slot buffer, and slot `k` of the send buffer. -/
abbrev sl (M : Memref sig .tc .vmem S8x64x1024 .bf16) (s : Fin 8) : Memref sig .tc .vmem S64x1024 .bf16 := slot8 M ![s.val, 0, 0] (inb_8 s)
abbrev sd (k : Dev nD) : Memref sig .tc .vmem S64x1024 .bf16 := slot16 sndM ![k.val, 0, 0] (inb_16 k)

/-! ## Duties -/

/-- The families of copies, one member for each of the seven peers: the first phase's two sends and two
    receives, and the gathering phase's. -/
inductive Fam | pa | pb | ra | rb | qa | sa | qb | sb
  deriving DecidableEq
/-- The two exchanges with the mirror, each sent and received. -/
inductive One | f | fr | m | mr
  deriving DecidableEq

instance : Fintype Fam := ⟨{.pa, .pb, .ra, .rb, .qa, .sa, .qb, .sb}, fun a => by cases a <;> decide⟩
instance : Fintype One := ⟨{.f, .fr, .m, .mr}, fun a => by cases a <;> decide⟩

/-- The copies' duties; all duties: the barrier's eight (one for each peer, one for the mirror) and those. -/
abbrev DD : Type := (Fam × Fin 7) ⊕ One
abbrev Duty : Type := Option (Fin 7) ⊕ DD

abbrev dd (a : Fam) (r : Fin 7) : Duty := .inr (.inl (a, r))
abbrev d1 (a : One) : Duty := .inr (.inr a)

/-- The number of the semaphore a copy's duty pays, for a device at place `s` of its ring, whose `r`-th peer back
    stands at place `b r`. -/
def dnum (b : Fin 7 → Fin 8) : DD → Fin 71
  | .inl (.pa, r) => ⟨4 + r.val, by omega⟩
  | .inl (.pb, r) => ⟨12 + r.val, by omega⟩
  | .inl (.ra, r) => ⟨19 + (b r).val, by omega⟩
  | .inl (.rb, r) => ⟨27 + (b r).val, by omega⟩
  | .inl (.qa, r) => ⟨40 + r.val, by omega⟩
  | .inl (.sa, r) => ⟨47 + (b r).val, by omega⟩
  | .inl (.qb, r) => ⟨56 + r.val, by omega⟩
  | .inl (.sb, r) => ⟨63 + (b r).val, by omega⟩
  | .inr .f => ⟨35, by omega⟩
  | .inr .fr => ⟨36, by omega⟩
  | .inr .m => ⟨37, by omega⟩
  | .inr .mr => ⟨38, by omega⟩

abbrev ds (k : Fin 71) : DmaSem sig := k

/-- The semaphore of device `c` that a duty pays. -/
def loc (c : Dev nD) : Duty → SemLoc sig
  | .inl _ => .reg barS
  | .inr δ => .dma (ds (dnum (fun r => ix (bk c r)) δ))

abbrev cell (c : Dev nD) (δ : Duty) : GSem nD τ sig := ((c : Thread nD τ), loc c δ)

/-- Different offsets back in the ring reach different places. -/
theorem bk_inj (c : Dev nD) : Function.Injective (fun r => ix (bk c r)) := by revert c; decide +kernel

/-- Different copies pay different semaphores. -/
theorem dnum_inj (c : Dev nD) : Function.Injective (dnum (fun r => ix (bk c r))) := by
  intro a b h
  have h' := congrArg Fin.val h
  have hb := bk_inj c
  rcases a with ⟨a, r⟩ | a <;> rcases b with ⟨b, s⟩ | b <;> cases a <;> cases b <;>
    simp only [dnum] at h' <;> first
    | rfl
    | (exfalso; omega)
    | (exfalso; have := (ix (bk c r)).isLt; omega)
    | (exfalso; have := (ix (bk c s)).isLt; omega)
    | (exfalso; have := (ix (bk c r)).isLt; have := (ix (bk c s)).isLt; omega)
    | (have : r = s := Fin.ext (by omega); subst this; rfl)
    | (have : r = s := hb (Fin.ext (by show (ix (bk c r)).val = (ix (bk c s)).val; omega)); subst this; rfl)

/-- A copy never pays the barrier's semaphore. -/
theorem loc_dma_ne (c : Dev nD) (δ : DD) : loc c (.inr δ) ≠ .reg barS := fun h => by cases h

/-- Only one duty pays a copy's semaphore. -/
theorem loc_inj (c : Dev nD) {a : DD} {δ : Duty} (h : loc c δ = loc c (.inr a)) : δ = .inr a := by
  rcases δ with o | b
  · cases h
  · have : dnum (fun r => ix (bk c r)) b = dnum (fun r => ix (bk c r)) a := by
      have := h; simp only [loc, SemLoc.dma.injEq] at this; exact this
    rw [dnum_inj c this]

/-- The device that a duty's payer `c` pays: a peer, the mirror or itself. -/
def tgt (c : Dev nD) : Duty → Dev nD
  | .inl (some r) => pr c r
  | .inl none => mi c
  | .inr (.inl (.ra, r)) => pr c r
  | .inr (.inl (.rb, r)) => pr c r
  | .inr (.inl (.sa, r)) => pr c r
  | .inr (.inl (.sb, r)) => pr c r
  | .inr (.inr .fr) => mi c
  | .inr (.inr .mr) => mi c
  | _ => c

/-- The device that pays a duty of device `c`. -/
def src (c : Dev nD) : Duty → Dev nD
  | .inl (some r) => bk c r
  | .inl none => mi c
  | .inr (.inl (.ra, r)) => bk c r
  | .inr (.inl (.rb, r)) => bk c r
  | .inr (.inl (.sa, r)) => bk c r
  | .inr (.inl (.sb, r)) => bk c r
  | .inr (.inr .fr) => mi c
  | .inr (.inr .mr) => mi c
  | _ => c

/-- For each duty, payers and paid correspond one to one. -/
def tgtE (δ : Duty) : Dev nD ≃ Dev nD where
  toFun c := tgt c δ
  invFun c := src c δ
  left_inv c := by rcases δ with (_ | r) | ⟨a, r⟩ | a <;> (try cases a) <;> first | rfl | exact bk_pr _ _ | exact mi_mi _
  right_inv c := by rcases δ with (_ | r) | ⟨a, r⟩ | a <;> (try cases a) <;> first | rfl | exact pr_bk _ _ | exact mi_mi _

/-! ## The resource algebra -/

abbrev UB : Type := URounds (GSem nD τ sig) Duty
abbrev UU : Type := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR

/-- Device `c`'s buffer view `M` at contents `X`, in share `q`; at any contents, wholly owned. -/
abbrev at' {s : Shape} {e : EltTy} (c : Dev nD) (M : Memref sig .tc .vmem s e) (q : PosShare TreeShare) (X : s.Idx → Elt F e) : sProp 𝕄 :=
  owns (Ix := Unit) (Name := ℕ) (U := UU) (Lvl := ℕ) (c : Thread nD τ) M q X
abbrev any' {s : Shape} {e : EltTy} (c : Dev nD) (M : Memref sig .tc .vmem s e) : sProp 𝕄 := iprop(∃ X, at' (F := F) c M fullShare X)

/-- The credit of one 64 × 1024 block. -/
abbrev N : ℕ := (sfM : Memref sig .tc .vmem S64x1024 .bf16).view.dmaCredit
/-- A copy's credit is positive. -/
theorem N_pos : 0 < N := View.dmaCredit_pos _ (by decide)

/-- What remains of a share after the seven shares lent to the seven sends, and the share lent to the `r`-th. -/
abbrev qRest : PosShare TreeShare := shareDrop fullShare 7
abbrev qTok (r : Fin 7) : PosShare TreeShare := shareTok fullShare 7 r

variable (I : Inp F)

/-- What a duty hands to the device `c` it pays. The barrier: the payer's slots kept for `c`, and from the mirror
    the two buffers kept for it. A send: its source back. A receive: the block landed. -/
def pay (c : Dev nD) : Duty → sProp 𝕄
  | .inl none => iprop(any' (mi c) fsM ∗ any' (mi c) miM)
  | .inl (some r) => iprop(any' (bk c r) (sl paM (ix c)) ∗ any' (bk c r) (sl pbM (ix c))
      ∗ any' (bk c r) (sl qaM (ix c)) ∗ any' (bk c r) (sl qbM (ix c)))
  | .inr (.inl (.pa, r)) => at' c (sd (pr c r)) fullShare (P I c (pr c r))
  | .inr (.inl (.pb, r)) => at' c (sd (mi (pr c r))) fullShare (P I c (mi (pr c r)))
  | .inr (.inl (.ra, r)) => at' c (sl paM (ix (bk c r))) fullShare (P I (bk c r) c)
  | .inr (.inl (.rb, r)) => at' c (sl pbM (ix (bk c r))) fullShare (P I (bk c r) (mi c))
  | .inr (.inl (.qa, r)) => at' c agM (qTok r) (AG I c)
  | .inr (.inl (.sa, r)) => at' c (sl qaM (ix (bk c r))) fullShare (AG I (bk c r))
  | .inr (.inl (.qb, r)) => at' c miM (qTok r) (AG I (mi c))
  | .inr (.inl (.sb, r)) => at' c (sl qbM (ix (bk c r))) fullShare (AG I (mi (bk c r)))
  | .inr (.inr .f) => at' c sfM fullShare (Sb I c)
  | .inr (.inr .fr) => at' c fsM fullShare (Sb I (mi c))
  | .inr (.inr .m) => at' c agM qRest (AG I c)
  | .inr (.inr .mr) => at' c miM fullShare (AG I (mi c))

/-- What a duty hands over may be kept in an invariant. -/
instance pay_storable (c : Dev nD) (δ : Duty) : BI.Storable (upEmb : UEmb _ 𝕄) (pay I c δ) := by
  rcases δ with (_ | r) | ⟨a, r⟩ | a <;> (try cases a) <;> (unfold pay; infer_instance)

/-- One round: a cell's duties are those paying its semaphore. -/
def Rd : Rounds.Schedule (GSem nD τ sig) Duty 𝕄 where
  duties g r := if r = 0 ∧ g.1.2 = .tc then Finset.univ.filter (fun δ => loc g.1.1 δ = g.2) else ∅
  unitless _ := False
  amount g _ _ := if g.2 = .reg barS then 1 else N
  payload g _ δ := pay I g.1.1 δ
  amount_pos g _ _ _ := by
    by_cases h : g.2 = .reg barS
    · rw [if_pos h]; exact Nat.one_pos
    · rw [if_neg h]; exact N_pos

/-- The schedule's payloads may be kept in an invariant. -/
instance Rd_storable (g : GSem nD τ sig) (r : ℕ) (δ : Duty) : BI.Storable (upEmb : UEmb _ 𝕄) ((Rd (F := F) I).payload g r δ) :=
  pay_storable I g.1.1 δ

section Sched
variable (c : Dev nD)

/-- The units a duty pays. -/
def amt : Duty → ℕ
  | .inl _ => 1
  | .inr _ => N

/-- A duty is due at the cell that it pays. -/
theorem mem_duties (δ : Duty) : δ ∈ (Rd (F := F) I).duties (cell c δ) 0 := by
  dsimp only [Rd]; rw [if_pos ⟨rfl, rfl⟩, Finset.mem_filter]; exact ⟨Finset.mem_univ _, rfl⟩

/-- A copy's cell has one duty. -/
theorem duties_dma (δ : DD) : (Rd (F := F) I).duties (cell c (.inr δ)) 0 = {.inr δ} := by
  dsimp only [Rd]; rw [if_pos ⟨rfl, rfl⟩]
  ext δ'; rw [Finset.mem_filter, Finset.mem_singleton]
  exact ⟨fun h => loc_inj c h.2, fun h => by subst h; exact ⟨Finset.mem_univ _, rfl⟩⟩

/-- The barrier's cell has its eight signals as duties. -/
theorem duties_bar : (Rd (F := F) I).duties (cell c (.inl none)) 0 = Finset.univ.map Function.Embedding.inl := by
  dsimp only [Rd]; rw [if_pos ⟨rfl, rfl⟩]
  ext δ'; rw [Finset.mem_filter, Finset.mem_map]
  rcases δ' with o | b
  · exact ⟨fun _ => ⟨o, Finset.mem_univ _, rfl⟩, fun _ => ⟨Finset.mem_univ _, rfl⟩⟩
  · exact ⟨fun h => absurd h.2 (loc_dma_ne c b), fun ⟨_, _, h⟩ => by cases h⟩

/-- No cell has a second round. -/
theorem duties_later (g : GSem nD τ sig) : ∀ r, 1 ≤ r → (Rd (F := F) I).duties g r = ∅ :=
  fun r hr => by dsimp only [Rd]; rw [if_neg fun h => by omega]

/-- A semaphore no duty pays has none at all. -/
theorem duties_unused (q : DmaSem sig) (h : ∀ δ, loc c δ ≠ .dma q) : ∀ r, 0 ≤ r → (Rd (F := F) I).duties ((c : Thread nD τ), .dma q) r = ∅ := by
  intro r _
  dsimp only [Rd]
  split
  · exact Finset.filter_eq_empty_iff.mpr fun δ _ => h δ
  · rfl

/-- What a duty pays into its cell. -/
theorem amount_eq (δ δ' : Duty) : (Rd (F := F) I).amount (cell c δ) 0 δ' = amt δ := by
  rcases δ with o | b
  · show (if (SemLoc.reg barS : SemLoc sig) = .reg barS then 1 else N) = 1; exact if_pos rfl
  · show (if loc c (.inr b) = .reg barS then 1 else N) = N; exact if_neg (loc_dma_ne c b)

/-- What a duty hands over at its cell. -/
theorem payload_eq (δ : Duty) : (Rd (F := F) I).payload (cell c δ) 0 δ = pay I c δ := rfl

/-- A copy's cell expects one copy's credit. -/
theorem expect_dma (δ : DD) : (Rd (F := F) I).expect (cell c (.inr δ)) 0 = N := by
  unfold Schedule.expect Schedule.amountOf; rw [duties_dma, Finset.sum_singleton]; exact amount_eq I c (.inr δ) _

/-- The barrier's cell expects eight. -/
theorem expect_bar : (Rd (F := F) I).expect (cell c (.inl none)) 0 = 8 := by
  unfold Schedule.expect Schedule.amountOf
  rw [duties_bar, Finset.sum_congr rfl fun d _ => amount_eq I c (.inl none) d, Finset.sum_const, Finset.card_map]
  rfl

/-- What a wait on a copy's cell takes is that copy's payload. -/
theorem rest_dma (δ : DD) : bigSep ((Rd (F := F) I).duties (cell c (.inr δ)) 0 \ ∅) (fun d => (Rd (F := F) I).payload (cell c (.inr δ)) 0 d)
    = pay I c (.inr δ) := by
  rw [Finset.sdiff_empty, duties_dma, bigSep_singleton]; rfl

/-- What the wait on the barrier takes is all eight payloads. -/
theorem rest_bar : bigSep ((Rd (F := F) I).duties (cell c (.inl none)) 0 \ ∅) (fun d => (Rd (F := F) I).payload (cell c (.inl none)) 0 d)
    = bigSep Finset.univ fun o : Option (Fin 7) => pay I c (.inl o) := by
  rw [Finset.sdiff_empty, duties_bar, bigSep_map]; rfl

end Sched

/-! ## What is owed, and the levels -/

/-- What a device still owes, given the duties it has still to pay. -/
def owedBy (c : Dev nD) (l : List Duty) : CellTallies nD τ sig Unit := (l.map fun δ => tallyAt (cell (tgt c δ) δ) () (amt δ)).sum

/-- A duty more to pay is its amount more owed. -/
theorem owedBy_cons (c : Dev nD) (δ : Duty) (l : List Duty) :
    owedBy c (δ :: l) = owedBy c l + tallyAt (cell (tgt c δ) δ) () (amt δ) := by
  unfold owedBy; rw [List.map_cons, List.sum_cons, add_comm]

/-- With no duty left nothing is owed. -/
theorem owedBy_nil (c : Dev nD) : owedBy c [] = 0 := rfl

def L (g : GSem nD τ sig) : Finset Unit := if g.1.2 = .tc then {()} else ∅
/-- Only the TensorCores' cells have a level. -/
theorem L_of_ne (g : GSem nD τ sig) (h : g.1.2 ≠ .tc) : L g = ∅ := if_neg h
/-- A TensorCore's cell has the one level. -/
theorem L_tc (c : Dev nD) (sm : SemLoc sig) : L ((c : Thread nD τ), sm) = {()} := if_pos rfl

/-- The level of a duty's cell: the order in which the phases wait. -/
def dlev : Duty → ℕ
  | .inl _ => 1
  | .inr (.inl (.ra, _)) => 2
  | .inr (.inl (.rb, _)) => 2
  | .inr (.inr .fr) => 3
  | .inr (.inr .mr) => 4
  | .inr (.inl (.sa, _)) => 5
  | .inr (.inl (.sb, _)) => 5
  | _ => 0

/-- The same read off the semaphore. -/
def slev (n : ℕ) : ℕ :=
  if 19 ≤ n ∧ n < 35 then 2 else if n = 36 then 3 else if n = 38 then 4 else if (47 ≤ n ∧ n < 55) ∨ 63 ≤ n then 5 else 0
def lv (g : GSem nD τ sig) (_ : Unit) : ℕ := match g.2 with
  | .reg _ => 1
  | .dma q => slev q.val

/-- A copy's semaphore has the level of its duty. -/
theorem slev_dnum (b : Fin 7 → Fin 8) (δ : DD) : slev (dnum b δ).val = dlev (.inr δ) := by
  rcases δ with ⟨a, r⟩ | a <;> cases a <;> dsimp only [dnum, dlev] <;> first
    | rfl
    | (generalize b r = s; clear b; revert r s; decide)
    | (clear b; revert r; decide)

/-- Every cell has the level of the duties that pay it. -/
theorem lv_cell (c : Dev nD) (δ : Duty) (u : Unit) : lv (cell c δ) u = dlev δ := by
  rcases δ with o | b
  · rfl
  · exact slev_dnum _ b

/-- Whatever is owed at a cell is owed by a duty of the list that pays it. -/
theorem owedBy_pos {c : Dev nD} {l : List Duty} {g : GSem nD τ sig} {u : Unit} (h : 0 < owedBy c l g u) :
    ∃ δ ∈ l, g = cell (tgt c δ) δ := by
  induction l with
  | nil => exact absurd h (Nat.lt_irrefl 0)
  | cons δ l ih =>
    rw [owedBy_cons, Pi.add_apply, Finsupp.add_apply, tallyAt_apply] at h
    by_cases hg : g = cell (tgt c δ) δ ∧ u = ()
    · exact ⟨δ, List.mem_cons_self, hg.1⟩
    · rw [if_neg hg, add_zero] at h
      obtain ⟨δ', hm, he⟩ := ih h
      exact ⟨δ', List.mem_cons_of_mem _ hm, he⟩

/-- A device may wait on a semaphore that stands below all it still owes. -/
theorem mayWait (c : Dev nD) (sm : SemLoc sig) (l : List Duty) (h : ∀ δ ∈ l, lv ((c : Thread nD τ), sm) () < dlev δ) :
    (levAts L lv : sProp 𝕄) ⊢ MayWait (c : Thread nD τ) sm () (owedBy c l) :=
  MayOwe.of_cut (L := L) (lev := lv) (lv ((c : Thread nD τ), sm) ())
    (fun p hp => by rw [Finset.mem_singleton.mp hp, L_tc]; exact Finset.mem_singleton_self _)
    (fun g u hg => by obtain ⟨δ, _, rfl⟩ := owedBy_pos hg; rw [L_tc]; exact Finset.mem_singleton_self _)
    (fun p hp => by rw [Finset.mem_singleton.mp hp])
    (fun g u hg => by obtain ⟨δ, hm, rfl⟩ := owedBy_pos hg; rw [lv_cell]; exact h δ hm)

end Cert.KProof

end
-- ==== Proof.Steps.lean ====
/-
# One step at a time

What each memory operation of the body needs and gives back: a signal, a copy started, a copy waited for, and
the loads and stores of slots and whole buffers. Each rule is stated with the rest of the program after it.
-/
module

public import proofs.«01_k».proof.Proof.Cells
public import Idealize.ShloMosaic.Lib.Pipeline.Value

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

abbrev 𝒱₀ : Variants := Variants.none

/-- The program `p` on device `c` runs safely and ends in `Q`. -/
abbrev WP (c : Dev nD) (p : BP F) (Q : PUnit → sProp 𝕄) : sProp 𝕄 :=
  wp frame (wpE (defs₀ (F := F)) 𝒱₀ (c : Thread nD τ) none) Set.univ p Q

/-! ## The cells by number, and what every device knows of them -/

/-- A device's cells: the barrier's and its own 68 semaphores'. -/
abbrev CI : Type := Unit ⊕ Fin 68
/-- A device's own semaphores. -/
def osem (i : Fin 68) : SemLoc sig := .dma (⟨3 + i.val, by omega⟩ : Fin 71)
def csem : CI → SemLoc sig
  | .inl _ => .reg barS
  | .inr i => osem i
abbrev kcell (p : Dev nD × CI) : GSem nD τ sig := ((p.1 : Thread nD τ), csem p.2)

/-- The copies' semaphores come after the staging ones. -/
theorem dnum_ge (b : Fin 7 → Fin 8) (δ : DD) : 3 ≤ (dnum b δ).val := by
  rcases δ with ⟨a, r⟩ | a <;> cases a <;> simp only [dnum] <;> omega

/-- The cell a duty pays, by number. -/
def ci (c : Dev nD) : Duty → CI
  | .inl _ => .inl ()
  | .inr δ => .inr ⟨(dnum (fun r => ix (bk c r)) δ).val - 3, by have := (dnum (fun r => ix (bk c r)) δ).isLt; omega⟩

/-- A duty's cell by its place among the device's cells. -/
theorem kcell_ci (c : Dev nD) (δ : Duty) : kcell (c, ci c δ) = cell c δ := by
  rcases δ with o | δ
  · rfl
  · have := dnum_ge (fun r => ix (bk c r)) δ
    show ((c : Thread nD τ), SemLoc.dma _) = ((c : Thread nD τ), SemLoc.dma _)
    congr 2
    exact Fin.ext (Nat.add_sub_cancel' this)

/-- One of a family held for every member. -/
theorem bs_at {A : Type} [Fintype A] [DecidableEq A] (Φ : A → sProp 𝕄) (a : A) : bigSep Finset.univ Φ ⊢ Φ a := bigSep_elim (Finset.mem_univ a)

variable (I : Inp F)

/-- What every device knows for good: each cell's invariant, that each has reached its round, and the levels. -/
def ctx : sProp 𝕄 :=
  iprop(∃ K : Dev nD × CI → ℕ, bigSep Finset.univ (fun ck => cellInv ER (Rd I) (K ck) (kcell ck))
    ∗ bigSep Finset.univ (fun ck : Dev nD × CI => reached ER (kcell ck) 0) ∗ levAts L lv)

/-- The set-up may be used again and again. -/
instance ctx_persistent : BI.Persistent (ctx I) := by unfold ctx; infer_instance

/-- The set-up knows every duty's cell. -/
theorem ctx_cell (c : Dev nD) (δ : Duty) :
    ctx I ⊢ iprop((∃ κ : ℕ, cellInv ER (Rd I) κ (cell c δ)) ∗ reached ER (cell c δ) 0 ∗ levAts L lv) := by
  unfold ctx
  rw [← kcell_ci c δ]
  iintro ⟨%K, HI, HR, HL⟩
  isplitl [HI]
  · iexists K (c, ci c δ)
    iapply (bs_at (fun ck => cellInv ER (Rd I) (K ck) (kcell ck)) (c, ci c δ)) $$ HI
  isplitl [HR]
  · iapply (bs_at (fun ck : Dev nD × CI => (reached ER (kcell ck) 0 : sProp 𝕄)) (c, ci c δ)) $$ HR
  iexact HL

/-- The set-up knows every cell of a device. -/
theorem ctx_own (c : Dev nD) (i : CI) : ctx I ⊢ iprop(∃ κ : ℕ, cellInv ER (Rd I) κ (kcell (c, i))) := by
  unfold ctx
  iintro ⟨%K, HI, HR, HL⟩
  iexists K (c, i)
  iapply (bs_at (fun ck => cellInv ER (Rd I) (K ck) (kcell ck)) (c, i)) $$ HI

/-! ## What a device holds for a duty -/

/-- It still owes the duties `l`. -/
def Ow (c : Dev nD) (l : List Duty) : sProp 𝕄 := iprop(∃ W, owes (c : Thread nD τ) (owedBy c l) W)
/-- The token device `c` pays the duty with. -/
abbrev tok (c : Dev nD) (δ : Duty) : sProp 𝕄 := dutyTok ER (cell (tgt c δ) δ) 0 δ
/-- The credit it waits on the duty's cell with. -/
abbrev crd (c : Dev nD) (δ : Duty) : sProp 𝕄 := cred (tallyAt (cell c δ) () (amt δ))
/-- Its place at the start of the cell's round. -/
abbrev pos (c : Dev nD) (δ : Duty) : sProp 𝕄 := atPos ER (cell c δ) 0 ∅ 0
/-- The cell's counter, at zero and its own again. -/
abbrev zro (c : Dev nD) (δ : Duty) : sProp 𝕄 := semVal (cell c δ) 0

variable (c : Dev nD) {Q : PUnit.{1} → sProp (MT nD τ sig Unit (Elt F) ℕ UU ℕ)}

/-- A signal pays one of the barrier's duties. -/
theorem wp_sig (o : Option (Fin 7)) (l : List Duty) (k : BP F) :
    iprop(ctx I ∗ Ow c (.inl o :: l) ∗ tok c (.inl o) ∗ pay I (tgt c (.inl o)) (.inl o) ∗ (Ow c l -∗ WP c k Q))
      ⊢ WP c (sigStep (tgt c (.inl o)) k) Q := by
  unfold Ow sigStep
  iintro ⟨#HC, ⟨%W, HO⟩, HT, HP, Hk⟩
  ihave Hc := (ctx_cell I (tgt c (.inl o)) (.inl o)) $$ HC
  icases Hc with ⟨⟨%κ, #HI⟩, #HR, #HL⟩
  iapply (Rounds.wp_signal 𝒱₀ ER (Rd I) (c : Thread nD τ) none (dst := (tgt c (.inl o) : Thread nD τ)) (κ := κ)
      (d := .inl o) (mem_duties I _ _) ((amount_eq I _ (.inl o) (.inl o)).trans (show 1 = (1#32).toInt.toNat from rfl)) () (owedBy c l) (owedBy_cons c _ l))
    $$ [HO HT HP]
  · isplitr; · iexact HI
    isplitl [HO]; · iexact HO
    isplitl [HT]; · iexact HT
    isplitl [HP]; · iapply (Entails.of_eq (show (Rd I).payload (((tgt c (.inl o) : Dev nD) : Thread nD τ), .reg barS) 0 (.inl o) = pay I (tgt c (.inl o)) (.inl o) from rfl).symm); iexact HP
    iexact HR
  iintro HO
  iapply Hk
  iexists W; iexact HO

/-- The barrier waited for: all eight payments, and the counter. -/
theorem wp_bar (l : List Duty) (hl : ∀ δ ∈ l, 1 < dlev δ) (k : BP F) :
    iprop(ctx I ∗ Ow c l ∗ cred (tallyAt (cell c (.inl none)) () 8) ∗ pos c (.inl none)
        ∗ ((Ow c l ∗ bigSep Finset.univ (fun o : Option (Fin 7) => pay I c (.inl o)) ∗ zro c (.inl none)) -∗ WP c k Q))
      ⊢ WP c (.op (.semWait barS (8#32).toInt) fun _ => k) Q := by
  unfold Ow
  iintro ⟨#HC, ⟨%W, HO⟩, HcB, HA, Hk⟩
  ihave Hc := (ctx_cell I c (.inl none)) $$ HC
  icases Hc with ⟨⟨%κ, #HI⟩, #HR, #HL⟩
  iapply (Rounds.wp_wait_rest_token 𝒱₀ ER (Rd I) (c : Thread nD τ) none (κ := κ)
      (wpE_semWait_eq 𝒱₀ (c : Thread nD τ) none Set.univ) (Set.mem_univ _) () (O := owedBy c l) (W := W) (R := 0) (m := 0) (T := ∅)
      ((expect_bar I c).symm ▸ by decide)) $$ [HcB HO HA]
  · isplitr; · iexact HI
    isplitl [HcB]; · iexact HcB
    isplitl [HO]; · iexact HO
    isplitr; · iapply (mayWait c (.reg barS) l hl); iexact HL
    iexact HA
  iintro ⟨HO, HA, -, Hpay⟩
  imod (Rounds.cell_close ER (Rd I) (Set.mem_univ κ) (fun h => h) (R := 0 + 1) (duties_later I (cell c (.inl none)))) $$ [HA] with Hz
  · isplitr; · iexact HI
    iexact HA
  iapply Hk
  isplitl [HO]; · iexists _; iexact HO
  isplitl [Hpay]; · iapply (Entails.of_eq (rest_bar I c)); iexact Hpay
  iexact Hz

/-- A copy's semaphore waited for: what it hands over, and the counter. -/
theorem wp_wait (δ : DD) (l : List Duty) (hl : ∀ δ' ∈ l, dlev (.inr δ) < dlev δ') {s : Shape} {sem : DmaSem sig}
    {S : Memref sig .tc .vmem s .bf16} {D : Memref sig .tc .vmem S64x1024 .bf16} (hsem : sem = ds (dnum (fun r => ix (bk c r)) δ))
    {hS : S.view.WordExact} {hD : D.view.WordExact} (k : PUnit → BP F) :
    iprop(ctx I ∗ Ow c l ∗ crd c (.inr δ) ∗ pos c (.inr δ) ∗ ((Ow c l ∗ pay I c (.inr δ) ∗ zro c (.inr δ)) -∗ WP c (k ⟨⟩) Q))
      ⊢ WP c (.op (.waitDma2 sem S D hS hD) k) Q := by
  subst hsem
  unfold Ow
  iintro ⟨#HC, ⟨%W, HO⟩, Hcr, HA, Hk⟩
  have hk : 0 + D.view.dmaCredit = (Rd (F := F) I).expect ((c : Thread nD τ), .dma (ds (dnum (fun r => ix (bk c r)) δ))) 0 :=
    (Nat.zero_add _).trans (expect_dma I c δ).symm
  ihave Hc := (ctx_cell I c (.inr δ)) $$ HC
  icases Hc with ⟨⟨%κ, #HI⟩, #HR, #HL⟩
  iapply (Rounds.wp_wait_rest_token 𝒱₀ ER (Rd I) (c : Thread nD τ) none (κ := κ)
      (wpE_waitDma2_eq 𝒱₀ (c : Thread nD τ) none Set.univ) (Set.mem_univ _) () (O := owedBy c l) (W := W) (R := 0) (m := 0) (T := ∅) hk) $$ [Hcr HO HA]
  · isplitr; · iexact HI
    isplitl [Hcr]; · iexact Hcr
    isplitl [HO]; · iexact HO
    isplitr; · iapply (mayWait c (loc c (.inr δ)) l (fun δ' h => (lv_cell c (.inr δ) ()).trans_lt (hl δ' h))); iexact HL
    iexact HA
  iintro ⟨HO, HA, -, Hpay⟩
  imod (Rounds.cell_close ER (Rd I) (Set.mem_univ κ) (fun h => h) (R := 0 + 1) (duties_later I (cell c (.inr δ)))) $$ [HA] with Hz
  · isplitr; · iexact HI
    iexact HA
  iapply Hk
  isplitl [HO]; · iexists _; iexact HO
  isplitl [Hpay]; · iapply (Entails.of_eq (rest_dma I c δ)); iexact Hpay
  iexact Hz

/-- A semaphore no duty pays, closed at once. -/
theorem close_unused (q : Fin 68) (h : ∀ δ, loc c δ ≠ osem q) :
    iprop(ctx I ∗ atPos ER (kcell (c, .inr q)) 0 ∅ 0) ⊢ iprop(|={Set.univ}=> semVal (kcell (c, .inr q)) 0) := by
  iintro ⟨HC, HA⟩
  ihave Hc := (ctx_own I c (.inr q)) $$ HC
  icases Hc with ⟨%κ, HI⟩
  iapply (Rounds.cell_close ER (Rd I) (g := kcell (c, .inr q)) (Set.mem_univ κ) (fun h => h) (R := 0) (duties_unused I c _ h))
  isplitl [HI] <;> iassumption

set_option maxHeartbeats 2000000 in
/-- A copy started: the source goes into the sender's payment, the destination, rewritten, into the receiver's. -/
theorem wp_send (n : Dev nD) (δs δr : DD) (l : List Duty) (S D : Memref sig .tc .vmem S64x1024 .bf16) (ss rs : DmaSem sig)
    (hS : S.view.WordExact) (hD : D.view.WordExact) (hn : n = tgt c (.inr δr)) (hs : tgt c (.inr δs) = c)
    (hss : ss = ds (dnum (fun r => ix (bk c r)) δs)) (hrs : rs = ds (dnum (fun r => ix (bk n r)) δr))
    (q : PosShare TreeShare) (X : FVec F S64x1024 .bf16)
    (hp₁ : at' c S q X ⊢ pay I c (.inr δs)) (hp₂ : at' n D fullShare X ⊢ pay I n (.inr δr)) (k : BP F) :
    iprop(ctx I ∗ Ow c (.inr δr :: l) ∗ tok c (.inr δs) ∗ tok c (.inr δr) ∗ at' c S q X ∗ any' (F := F) n D
        ∗ ((Ow c l ∗ crd c (.inr δs)) -∗ WP c k Q))
      ⊢ WP c (sendStep n S D ss rs hS hD k) Q := by
  subst hss hrs hn
  unfold Ow sendStep tok any' at' owns
  rw [hs]
  iintro ⟨#HC, ⟨%W, HO⟩, HTs, HTr, ⟨%f, %hf, HS⟩, ⟨%Y, %g, %hg, HD⟩, Hk⟩
  ihave Hc := (ctx_cell I c (.inr δs)) $$ HC
  icases Hc with ⟨⟨%κ₁, #HI₁⟩, #HR₁, #HL⟩
  ihave Hc := (ctx_cell I (tgt c (.inr δr)) (.inr δr)) $$ HC
  icases Hc with ⟨⟨%κ₂, #HI₂⟩, #HR₂, -⟩
  iapply (Rounds.wp_send_pointsTo 𝒱₀ ER (Rd I) (c : Thread nD τ) none (c' := ((tgt c (.inr δr) : Dev nD) : Thread nD τ)) (src := S) (dst := D) (κ₁ := κ₁) (κ₂ := κ₂)
      (r₁ := 0) (r₂ := 0) (d₁ := .inr δs) (d₂ := .inr δr) (fs := f) (fd := g)
      (mem_duties I c (.inr δs)) (mem_duties I (tgt c (.inr δr)) (.inr δr))
      () () N rfl (amount_eq I c (.inr δs) _) (amount_eq I (tgt c (.inr δr)) (.inr δr) _) (owedBy c l) (owedBy_cons c _ l) (W := W)
      (by subst hf; exact (owns_intro (c : Thread nD τ) S q f).trans hp₁)
      (by
        refine BI.Entails.trans ?_ hp₂
        refine (owns_intro ((tgt c (.inr δr) : Dev nD) : Thread nD τ) D fullShare _).trans (Entails.of_eq ?_)
        rw [View.read_write_univ, hf])) $$ [HO HTs HTr HS HD]
  · isplitr; · iexact HI₁
    isplitr; · iexact HI₂
    isplitl [HS]; · iexact HS
    isplitl [HD]; · iexact HD
    isplitl [HO]; · iexact HO
    isplitl [HTs]; · iexact HTs
    isplitr; · iexact HR₁
    isplitl [HTr]; · iexact HTr
    iexact HR₂
  iintro ⟨Hcr, HO⟩
  iapply Hk
  isplitl [HO]; · iexists _; iexact HO
  iexact Hcr

/-! ## Loads and stores -/

/-- A slot of an eight-slot buffer read. -/
theorem wp_ldSlot (M : Memref sig .tc .vmem S8x64x1024 .bf16) (o : Fin 3 → ℕ) (h h' : ∀ a, o a + S1x64x1024.size a ≤ S8x64x1024.size a)
    (q : PosShare TreeShare) (X : FVec F S64x1024 .bf16) {hl} (k : Vec F S1x64x1024 .bf16 → BP F) :
    iprop(at' c (slot8 M o h') q X ∗ (at' c (slot8 M o h') q X -∗ WP c (k (shapeCast S1x64x1024 X shapeCasts_S64x1024_S1x64x1024)) Q))
      ⊢ WP c (.op (.load M (Rect.unit (s := S8x64x1024) o S1x64x1024.size h).toLoadRect hl) k) Q := by
  unfold at' owns
  iintro ⟨⟨%f, %hf, H⟩, Hk⟩
  iapply (Idealize.ShloMosaic.wp_load 𝒱₀ (c : Thread nD τ) none Set.univ (m := M) (f := f)
    (by rw [Memref.set_view_squeeze]; exact (View.set_slice M.view _).ge)) $$ H
  iintro H
  have hv : M.view.readAt (Elt F) (Rect.unit (s := S8x64x1024) o S1x64x1024.size h).toLoadRect f
      = shapeCast S1x64x1024 X shapeCasts_S64x1024_S1x64x1024 := by
    subst hf
    exact (shapeCast_shapeCast _ shapeCasts_S1x64x1024_S64x1024 _).symm
  rw [hv]
  iapply Hk
  iexists f
  isplitr; · ipureintro; exact hf
  iexact H

/-- Rows of the block of `x` read. -/
theorem wp_ldX (k : Dev nD) (ox : Fin 2 → ℕ) (hox : ∀ a, ox a + S64x64.size a ≤ S1024x64.size a) (ho : ox = ![64 * k.val, 0])
    (x : Vec F S1024x64 .bf16) {hl} (kk : Vec F S64x64 .bf16 → BP F) :
    iprop(at' c xM fullShare x ∗ (at' c xM fullShare x -∗ WP c (kk (xrow x k)) Q))
      ⊢ WP c (.op (.load xM (Rect.unit (s := S1024x64) ox S64x64.size hox).toLoadRect hl) kk) Q := by
  subst ho
  iintro ⟨H, Hk⟩
  ihave H := (Entails.of_eq (owns_whole (c : Thread nD τ) cc0_stg0_0 fullShare x)) $$ H
  iapply (Idealize.ShloMosaic.wp_load 𝒱₀ (c : Thread nD τ) none Set.univ (m := xM) (Finset.subset_univ _)) $$ H
  iintro H
  iapply Hk
  iapply (Entails.of_eq (owns_whole (c : Thread nD τ) cc0_stg0_0 fullShare x).symm); iexact H

/-- The zero offset. -/
theorem hz2 : (![0, 0] : Fin 2 → ℕ) = fun _ => 0 := funext fun a => by fin_cases a <;> rfl

/-- The weights read. -/
theorem wp_ldW (w : Vec F S64x1024 .bf16) {hl} (kk : Vec F S64x1024 .bf16 → BP F) :
    iprop(at' c wM fullShare w ∗ (at' c wM fullShare w -∗ WP c (kk w) Q))
      ⊢ WP c (.op (.load wM (Rect.unit (s := S64x1024) ![0, 0] S64x1024.size inb_S64x1024_S64x1024_0_0).toLoadRect hl) kk) Q := by
  iintro ⟨H, Hk⟩
  ihave H := (Entails.of_eq (owns_whole (c : Thread nD τ) cc0_stg1_0 fullShare w)) $$ H
  iapply (Idealize.ShloMosaic.wp_load 𝒱₀ (c : Thread nD τ) none Set.univ (m := wM) (Finset.subset_univ _)) $$ H
  iintro H
  have hv : (wM : Memref sig .tc .vmem S64x1024 .bf16).view.readAt (Elt F)
      (Rect.unit (s := S64x1024) ![0, 0] S64x1024.size inb_S64x1024_S64x1024_0_0).toLoadRect w = w :=
    Memref.readAt_unit_zero (Elt F) cc0_stg1_0 hz2 _ w
  rw [hv]
  iapply Hk
  iapply (Entails.of_eq (owns_whole (c : Thread nD τ) cc0_stg1_0 fullShare w).symm); iexact H

/-- The device's own share of one row block. -/
theorem wp_own (k : Dev nD) (ox : Fin 2 → ℕ) (hox : ∀ a, ox a + S64x64.size a ≤ S1024x64.size a) (ho : ox = ![64 * k.val, 0])
    (kk : FVec F S64x1024 .f32 → BP F) :
    iprop(at' c xM fullShare (I.x c) ∗ at' c wM fullShare (I.w c)
        ∗ ((at' c xM fullShare (I.x c) ∗ at' c wM fullShare (I.w c)) -∗ WP c (kk (part I c k)) Q))
      ⊢ WP c (ownStep ox hox kk) Q := by
  unfold ownStep
  iintro ⟨HX, HW, Hk⟩
  iapply (wp_ldX c k ox hox ho (I.x c))
  isplitl [HX]; · iexact HX
  iintro HX
  iapply (wp_ldW c (I.w c))
  isplitl [HW]; · iexact HW
  iintro HW
  iapply Hk
  isplitl [HX] <;> iassumption

/-- What a block reads as in the send buffer's slot. -/
theorem p1Pay_cast (x : Vec F S64x64 .bf16) (w : Vec F S64x1024 .bf16) :
    shapeCast S64x1024 (p1Pay x w) shapeCasts_S1x64x1024_S64x1024 = truncf .bf16 (ownPay x w) bitsLt_bf16_f32 := by
  unfold p1Pay k0_pay3
  dsimp only
  rw [shapeCast_self (s := S1x64x1024), shapeCast_shapeCast]
  rfl

section
variable (M : Memref sig .tc .vmem S16x64x1024 .bf16) (o : Fin 3 → ℕ) (h h' : ∀ a, o a + S1x64x1024.size a ≤ S16x64x1024.size a)

/-- A slot of a sixteen-slot buffer is what its load reads, what its store writes, and what it reads as after that. -/
theorem slot16_ld : M.view.setOn (Rect.unit (s := S16x64x1024) o S1x64x1024.size h).set ⊆ (slot16 M o h').view.set := by
  rw [Memref.set_view_squeeze]; exact (View.set_slice M.view _).ge
/-- A store through a slot's rectangle stays in the slot. -/
theorem slot16_st : (M.access (Rect.unit (s := S16x64x1024) o S1x64x1024.size h)).setOn Finset.univ ⊆ (slot16 M o h').view.set := by
  rw [Memref.set_view_squeeze]; exact Finset.Subset.refl _
/-- What was stored through the rectangle is what the slot then reads. -/
theorem slot16_wr (f : M.view.ty.Contents (Elt F)) (v : FVec F S1x64x1024 .bf16) :
    (slot16 M o h').view.read (Elt F) ((M.access (Rect.unit (s := S16x64x1024) o S1x64x1024.size h)).write (Elt F) f v Finset.univ)
      = shapeCast S64x1024 v shapeCasts_S1x64x1024_S64x1024 :=
  (Memref.read_squeeze_slice M (Rect.unit (s := S16x64x1024) o S1x64x1024.size h') (fun _ => rfl) squeezes_S1x64x1024_S64x1024
    shapeCasts_S1x64x1024_S64x1024 _).trans (congrArg (fun v => shapeCast S64x1024 v shapeCasts_S1x64x1024_S64x1024)
      (View.read_write_univ (v := M.access (Rect.unit (s := S16x64x1024) o S1x64x1024.size h)) f v))
end

set_option maxHeartbeats 2000000 in
/-- One block of the first phase: computed, stored into its slot of the send buffer, and its copy started. -/
theorem wp_p1 (n k : Dev nD) (δs δr : DD) (l : List Duty) (M : Memref sig .tc .vmem S8x64x1024 .bf16) (ss rs : DmaSem sig)
    (ox : Fin 2 → ℕ) (hox : ∀ a, ox a + S64x64.size a ≤ S1024x64.size a)
    (oc : Fin 3 → ℕ) (hoc : ∀ a, oc a + S1x64x1024.size a ≤ S16x64x1024.size a)
    (hpk : (sndM.access (Rect.unit (s := S16x64x1024) oc S1x64x1024.size hoc)).Stores Finset.univ)
    (oc' : Fin 3 → ℕ) (hoc' : ∀ a, oc' a + S1x64x1024.size a ≤ S16x64x1024.size a)
    (hw : (slot16 sndM oc' hoc').view.WordExact)
    (os : Fin 3 → ℕ) (hos : ∀ a, os a + S1x64x1024.size a ≤ S8x64x1024.size a)
    (hd : (slot8 M os hos).view.WordExact)
    (e₁ : ox = ![64 * k.val, 0]) (e₂ : oc = ![k.val, 0, 0]) (e₃ : oc' = ![k.val, 0, 0]) (e₄ : os = ![(ix c).val, 0, 0])
    (hn : n = tgt c (.inr δr)) (hs : tgt c (.inr δs) = c)
    (hss : ss = ds (dnum (fun r => ix (bk c r)) δs)) (hrs : rs = ds (dnum (fun r => ix (bk n r)) δr))
    (hp₁ : at' c (sd k) fullShare (P I c k) ⊢ pay I c (.inr δs))
    (hp₂ : at' n (sl M (ix c)) fullShare (P I c k) ⊢ pay I n (.inr δr)) (kk : BP F) :
    iprop(ctx I ∗ Ow c (.inr δr :: l) ∗ tok c (.inr δs) ∗ tok c (.inr δr) ∗ at' c xM fullShare (I.x c) ∗ at' c wM fullShare (I.w c)
        ∗ any' (F := F) c (sd k) ∗ any' (F := F) n (sl M (ix c))
        ∗ ((Ow c l ∗ crd c (.inr δs) ∗ at' c xM fullShare (I.x c) ∗ at' c wM fullShare (I.w c)) -∗ WP c kk Q))
      ⊢ WP c (p1Step n M ss rs ox hox oc hoc hpk oc' hoc' hw os hos hd kk) Q := by
  subst e₂ e₃ e₄
  unfold p1Step
  iintro ⟨#HC, HO, HTs, HTr, HX, HW, ⟨%Y, Hsd⟩, HD, Hk⟩
  iapply (wp_ldX c k ox hox e₁ (I.x c))
  isplitl [HX]; · iexact HX
  iintro HX
  iapply (wp_ldW c (I.w c))
  isplitl [HW]; · iexact HW
  iintro HW
  unfold at' owns
  icases Hsd with ⟨%f, -, Hsd⟩
  iapply (Idealize.ShloMosaic.wp_load 𝒱₀ (c : Thread nD τ) none Set.univ (m := sndM) (f := f)
    (slot16_ld sndM ![k.val, 0, 0] hoc hoc')) $$ Hsd
  iintro Hsd
  iapply (wp_store 𝒱₀ (c : Thread nD τ) none Set.univ (m := sndM) (r := Rect.unit (s := S16x64x1024) ![k.val, 0, 0] S1x64x1024.size hoc)
    (Mk := Finset.univ) (slot16_st sndM ![k.val, 0, 0] hoc hoc')) $$ Hsd
  iintro Hsd
  iapply (wp_send I c n δs δr l (sd k) (sl M (ix c)) ss rs hw hd hn hs hss hrs fullShare (P I c k) hp₁ hp₂ kk)
  isplitr; · iexact HC
  isplitl [HO]; · iexact HO
  isplitl [HTs]; · iexact HTs
  isplitl [HTr]; · iexact HTr
  isplitl [Hsd]
  · unfold at' owns
    iexists _
    isplitr
    rotate_left
    · iexact Hsd
    · ipureintro
      exact (slot16_wr sndM ![k.val, 0, 0] hoc hoc' f _).trans (p1Pay_cast (xrow (I.x c) k) (I.w c))
  isplitl [HD]; · iexact HD
  iintro ⟨HO, Hcr⟩
  iapply Hk
  isplitl [HO]; · iexact HO
  isplitl [Hcr]; · iexact Hcr
  isplitl [HX] <;> iassumption

/-- A 64 × 1024 buffer view whose loads and stores at the origin are of the whole of it. -/
structure Full (F : FTy → Type) [FloatOps F] (M : Memref sig .tc .vmem S64x1024 .bf16) : Prop where
  rd : ∀ f : M.view.ty.Contents (Elt F), M.view.readAt (Elt F)
    (Rect.unit (s := S64x1024) ![0, 0] S64x1024.size inb_S64x1024_S64x1024_0_0).toLoadRect f = M.view.read (Elt F) f
  wr : ∀ (f : M.view.ty.Contents (Elt F)) (v : FVec F S64x1024 .bf16), M.view.read (Elt F)
    ((M.access (Rect.unit (s := S64x1024) ![0, 0] S64x1024.size inb_S64x1024_S64x1024_0_0)).write (Elt F) f v Finset.univ) = v

/-- The partial sum's source is read and written whole, -/
theorem full_sf : Full F sfM := ⟨fun f => Memref.readAt_unit_zero (Elt F) cc0_scratch3 hz2 _ f,
  fun f v => (View.read_whole cc0_scratch3 _).trans (Memref.write_access_unit_zero_univ (Elt F) cc0_scratch3 hz2 _ f v)⟩
/-- as is the buffer in which the mirror's lands, -/
theorem full_fs : Full F fsM := ⟨fun f => Memref.readAt_unit_zero (Elt F) cc0_scratch4 hz2 _ f,
  fun f v => (View.read_whole cc0_scratch4 _).trans (Memref.write_access_unit_zero_univ (Elt F) cc0_scratch4 hz2 _ f v)⟩
/-- the result's source, -/
theorem full_ag : Full F agM := ⟨fun f => Memref.readAt_unit_zero (Elt F) cc0_scratch5 hz2 _ f,
  fun f v => (View.read_whole cc0_scratch5 _).trans (Memref.write_access_unit_zero_univ (Elt F) cc0_scratch5 hz2 _ f v)⟩
/-- and the buffer in which the mirror's result lands. -/
theorem full_mi : Full F miM := ⟨fun f => Memref.readAt_unit_zero (Elt F) cc0_scratch6 hz2 _ f,
  fun f v => (View.read_whole cc0_scratch6 _).trans (Memref.write_access_unit_zero_univ (Elt F) cc0_scratch6 hz2 _ f v)⟩

/-- A whole 64 × 1024 buffer read. -/
theorem wp_get (M : Memref sig .tc .vmem S64x1024 .bf16) (hM : Full F M) (q : PosShare TreeShare) (X : FVec F S64x1024 .bf16)
    (k : Vec F S64x1024 .bf16 → BP F) :
    iprop(at' c M q X ∗ (at' c M q X -∗ WP c (k X) Q)) ⊢ WP c (getStep M k) Q := by
  unfold at' owns getStep
  iintro ⟨⟨%f, %hf, H⟩, Hk⟩
  iapply (Idealize.ShloMosaic.wp_load 𝒱₀ (c : Thread nD τ) none Set.univ (m := M) (f := f) (View.setOn_subset_set _ _)) $$ H
  iintro H
  rw [hM.rd f, hf]
  iapply Hk
  iexists f
  isplitr; · ipureintro; exact hf
  iexact H

/-- A whole 64 × 1024 buffer overwritten. -/
theorem wp_put (M : Memref sig .tc .vmem S64x1024 .bf16) (hM : Full F M)
    (hpk : (M.access (Rect.unit (s := S64x1024) ![0, 0] S64x1024.size inb_S64x1024_S64x1024_0_0)).Stores Finset.univ)
    (v : FVec F S64x1024 .bf16) (k : BP F) :
    iprop(any' (F := F) c M ∗ (at' c M fullShare v -∗ WP c k Q)) ⊢ WP c (putStep M hpk v k) Q := by
  unfold any' at' owns putStep
  iintro ⟨⟨%X, %f, %hf, H⟩, Hk⟩
  iapply (Idealize.ShloMosaic.wp_load 𝒱₀ (c : Thread nD τ) none Set.univ (m := M) (f := f) (View.setOn_subset_set _ _)) $$ H
  iintro H
  iapply (wp_store 𝒱₀ (c : Thread nD τ) none Set.univ (m := M)
    (r := Rect.unit (s := S64x1024) ![0, 0] S64x1024.size inb_S64x1024_S64x1024_0_0) (Mk := Finset.univ) (View.set_slice_subset _ _)) $$ H
  iintro H
  iapply Hk
  iexists _
  isplitr
  rotate_left
  · iexact H
  · ipureintro; exact hM.wr f v

/-- Rows `64 k` to `64 k + 63` of the output. -/
abbrev row (k : Dev nD) : Memref sig .tc .vmem S64x1024 .f32 :=
  (outM : Memref sig .tc .vmem S1024x1024 .f32).slice (Rect.unit (s := S1024x1024) ![64 * k.val, 0] S64x1024.size (inb_out k)) (fun _ => rfl)

/-- A store of a row block stays in it. -/
theorem row_st (M : Memref sig .tc .vmem S1024x1024 .f32) (o : Fin 2 → ℕ) (h h' : ∀ a, o a + S64x1024.size a ≤ S1024x1024.size a) :
    (M.access (Rect.unit (s := S1024x1024) o S64x1024.size h)).setOn Finset.univ
      ⊆ (M.slice (Rect.unit (s := S1024x1024) o S64x1024.size h') (fun _ => rfl)).view.set := Finset.Subset.refl _
/-- A load of a row block stays in it. -/
theorem row_ld (M : Memref sig .tc .vmem S1024x1024 .f32) (o : Fin 2 → ℕ) (h h' : ∀ a, o a + S64x1024.size a ≤ S1024x1024.size a) :
    M.view.setOn (Rect.unit (s := S1024x1024) o S64x1024.size h).set
      ⊆ (M.slice (Rect.unit (s := S1024x1024) o S64x1024.size h') (fun _ => rfl)).view.set := (View.set_slice M.view _).ge

/-- One row block of the output written. -/
theorem wp_out (k : Dev nD) (o : Fin 2 → ℕ) (ho : ∀ a, o a + S64x1024.size a ≤ S1024x1024.size a) (e : o = ![64 * k.val, 0])
    (v : FVec F S64x1024 .f32) (kk : BP F) :
    iprop(any' (F := F) c (row k) ∗ (at' c (row k) fullShare v -∗ WP c kk Q)) ⊢ WP c (outStep o ho v kk) Q := by
  subst e
  unfold any' at' owns outStep
  iintro ⟨⟨%X, %f, %hf, H⟩, Hk⟩
  iapply (Idealize.ShloMosaic.wp_load 𝒱₀ (c : Thread nD τ) none Set.univ (m := outM) (f := f)
    (row_ld outM ![64 * k.val, 0] ho (inb_out k))) $$ H
  iintro H
  iapply (wp_store 𝒱₀ (c : Thread nD τ) none Set.univ (m := outM)
    (r := Rect.unit (s := S1024x1024) ![64 * k.val, 0] S64x1024.size ho) (Mk := Finset.univ) (row_st outM ![64 * k.val, 0] ho (inb_out k))) $$ H
  iintro H
  iapply Hk
  iexists _
  isplitr
  rotate_left
  · iexact H
  · ipureintro
    exact View.read_write_univ (v := (outM : Memref sig .tc .vmem S1024x1024 .f32).access (Rect.unit (s := S1024x1024) ![64 * k.val, 0] S64x1024.size ho)) f v

/-! ## A step repeated -/

/-- A product over a list, its head apart. -/
theorem bsl_cons {A : Type} (a : A) (l : List A) (Φ : A → sProp (MT nD τ sig Unit (Elt F) ℕ UU ℕ)) :
    bigSepL (a :: l) Φ = iprop(Φ a ∗ bigSepL l Φ) := bigSepL_cons a l Φ

/-- A step repeated over a list: each member spends its own resources and moves the rest along. -/
theorem wp_loop {A : Type} (R : sProp 𝕄) [BI.Persistent R] (f : A → BP F → BP F) (J : List A → sProp 𝕄) (Pre Post : A → sProp 𝕄)
    (h : ∀ a l (k : BP F), iprop(R ∗ J (a :: l) ∗ Pre a ∗ ((J l ∗ Post a) -∗ WP c k Q)) ⊢ WP c (f a k) Q) (l : List A) (k : BP F) :
    iprop(R ∗ J l ∗ bigSepL l Pre ∗ ((J [] ∗ bigSepL l Post) -∗ WP c k Q)) ⊢ WP c (loop f l k) Q := by
  induction l with
  | nil =>
    iintro ⟨#HR, HJ, Hpre, Hk⟩
    unfold loop
    iapply Hk
    isplitl [HJ]; · iexact HJ
    iexact Hpre
  | cons a l ih =>
    rw [bsl_cons, bsl_cons]
    unfold loop
    iintro ⟨#HR, HJ, ⟨Ha, Hl⟩, Hk⟩
    iapply (h a l (loop f l k))
    isplitr; · iexact HR
    isplitl [HJ]; · iexact HJ
    isplitl [Ha]; · iexact Ha
    iintro ⟨HJ, Hb⟩
    iapply ih
    isplitr; · iexact HR
    isplitl [HJ]; · iexact HJ
    isplitl [Hl]; · iexact Hl
    iintro ⟨HJ, Hl⟩
    iapply Hk
    isplitl [HJ]; · iexact HJ
    isplitl [Hb] <;> iassumption

/-- The running sum over a list of received blocks. -/
theorem wp_acc (R : sProp 𝕄) [BI.Persistent R] (step : Fin 7 → (Vec F S1x64x1024 .bf16 → BP F) → BP F) (J : sProp 𝕄)
    (Pre Post : Fin 7 → sProp 𝕄) (v : Fin 7 → FVec F S64x1024 .bf16)
    (h : ∀ r (k : Vec F S1x64x1024 .bf16 → BP F),
      iprop(R ∗ J ∗ Pre r ∗ ((J ∗ Post r) -∗ WP c (k (shapeCast S1x64x1024 (v r) shapeCasts_S64x1024_S1x64x1024)) Q)) ⊢ WP c (step r k) Q)
    (l : List (Fin 7)) (a : FVec F S64x1024 .f32) (k : FVec F S64x1024 .f32 → BP F) :
    iprop(R ∗ J ∗ bigSepL l Pre ∗ ((J ∗ bigSepL l Post) -∗ WP c (k (l.foldl (fun a r => acc a (v r)) a)) Q))
      ⊢ WP c (accLoop step l a k) Q := by
  induction l generalizing a with
  | nil =>
    iintro ⟨#HR, HJ, Hpre, Hk⟩
    unfold accLoop
    iapply Hk
    isplitl [HJ]; · iexact HJ
    iexact Hpre
  | cons r l ih =>
    rw [bsl_cons, bsl_cons]
    unfold accLoop
    iintro ⟨#HR, HJ, ⟨Ha, Hl⟩, Hk⟩
    iapply (h r _)
    isplitr; · iexact HR
    isplitl [HJ]; · iexact HJ
    isplitl [Ha]; · iexact Ha
    iintro ⟨HJ, Hb⟩
    have e : accPay a (shapeCast S1x64x1024 (v r) shapeCasts_S64x1024_S1x64x1024) = acc a (v r) := by
      unfold accPay k0_pay23 acc
      dsimp only
      rw [shapeCast_shapeCast]
    rw [e]
    iapply (ih (acc a (v r)))
    isplitr; · iexact HR
    isplitl [HJ]; · iexact HJ
    isplitl [Hl]; · iexact Hl
    iintro ⟨HJ, Hl⟩
    iapply Hk
    isplitl [HJ]; · iexact HJ
    isplitl [Hb] <;> iassumption

end Cert.KProof

end
-- ==== Proof.Phases.lean ====
/-
# The phases

Each phase of the body: what a device needs when it enters the phase, and what it has when it leaves it.
-/
module

public import proofs.«01_k».proof.Proof.Steps

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## The semaphores by number -/

/-- Entry `s` of an array of eight consecutive semaphores. -/
theorem sem_of (n : ℕ) (hn : n + S8.numel ≤ 71) (o : Fin 1 → ℕ) (h : ∀ a, o a + S1.size a ≤ S8.size a) (s : Fin 8) (e : o = ![s.val]) :
    (sem8 (SemArray.consecutive n S8 hn) o h).val = n + s.val := by
  subst e
  have key : ∀ j : S1.Idx, (S8.rowMajor ((Rect.unit (s := S8) ![s.val] S1.size h).emb j)).val = s.val := fun j => by
    have e : j = fun a => ⟨0, by fin_cases a; exact Nat.one_pos⟩ := funext fun a => by
      fin_cases a; exact Subsingleton.elim (α := Fin 1) _ _
    subst e; fin_cases s <;> rfl
  exact congrArg (n + ·) (key _)

/-- A lone semaphore. -/
theorem sem_one (n : ℕ) (hn : n + S1.numel ≤ 71) : (sem1 (SemArray.consecutive n S1 hn)).val = n := by
  have key : ∀ j : S1.Idx, (S1.rowMajor ((Rect.unit (s := S1) ![0] S1.size inb_S1_S1_0).emb j)).val = 0 := fun j => by
    have := (S1.rowMajor ((Rect.unit (s := S1) ![0] S1.size inb_S1_S1_0).emb j)).isLt
    have h : S1.numel = 1 := by decide
    omega
  exact congrArg (n + ·) (key _)
/-- The semaphore that the partial sum's copy pays on its sender, -/
theorem s13_eq (b : Fin 7 → Fin 8) : sem1 cc0_scratch13 = ds (dnum b (.inr .f)) := Fin.ext (sem_one _ _)
/-- and on its receiver. -/
theorem s14_eq (b : Fin 7 → Fin 8) : sem1 cc0_scratch14 = ds (dnum b (.inr .fr)) := Fin.ext (sem_one _ _)
/-- The semaphore that the result's copy pays on its sender, -/
theorem s15_eq (b : Fin 7 → Fin 8) : sem1 cc0_scratch15 = ds (dnum b (.inr .m)) := Fin.ext (sem_one _ _)
/-- and on its receiver. -/
theorem s16_eq (b : Fin 7 → Fin 8) : sem1 cc0_scratch16 = ds (dnum b (.inr .mr)) := Fin.ext (sem_one _ _)

abbrev up (r : Fin 7) : Fin 8 := ⟨r.val + 1, by omega⟩
abbrev bx (c : Dev nD) (r : Fin 7) : Fin 8 := ix (bk c r)

/-- The semaphore a send of offset `r` pays on its own device. -/
theorem snd_pa (b : Fin 7 → Fin 8) (r : Fin 7) : sem8 cc0_scratch9 ![r.val + 1] (inb_send r) = ds (dnum b (.inl (.pa, r))) :=
  Fin.ext ((sem_of _ _ _ _ (up r) rfl).trans (by show 3 + (r.val + 1) = 4 + r.val; omega))
/-- The semaphore a copy for the far half pays on its sender, -/
theorem snd_pb (b : Fin 7 → Fin 8) (r : Fin 7) : sem8 cc0_scratch10 ![r.val + 1] (inb_send r) = ds (dnum b (.inl (.pb, r))) :=
  Fin.ext ((sem_of _ _ _ _ (up r) rfl).trans (by show 11 + (r.val + 1) = 12 + r.val; omega))
/-- that of a gathered block, -/
theorem snd_qa (b : Fin 7 → Fin 8) (r : Fin 7) : sem8 cc0_scratch17 ![r.val + 1] (inb_send r) = ds (dnum b (.inl (.qa, r))) :=
  Fin.ext ((sem_of _ _ _ _ (up r) rfl).trans (by show 39 + (r.val + 1) = 40 + r.val; omega))
/-- and that of a mirror's gathered block. -/
theorem snd_qb (b : Fin 7 → Fin 8) (r : Fin 7) : sem8 cc0_scratch19 ![r.val + 1] (inb_send r) = ds (dnum b (.inl (.qb, r))) :=
  Fin.ext ((sem_of _ _ _ _ (up r) rfl).trans (by show 55 + (r.val + 1) = 56 + r.val; omega))

/-- A peer finds the device at the device's own place. -/
theorem ix_bk_pr (c : Dev nD) (r : Fin 7) : ix (bk (pr c r) r) = ix c := by rw [bk_pr]

/-- The semaphore it pays on its peer. -/
theorem to_pa (c : Dev nD) (r : Fin 7) : sem8 cc0_scratch11 (k0_off3 c) (k0_off3_inb c) = ds (dnum (bx (pr c r)) (.inl (.ra, r))) :=
  Fin.ext ((sem_of _ _ _ _ (ix c) (off3_eq c)).trans (by show _ = 19 + (ix (bk (pr c r) r)).val; rw [ix_bk_pr]))
/-- The semaphore a copy for the far half pays on the peer, -/
theorem to_pb (c : Dev nD) (r : Fin 7) : sem8 cc0_scratch12 (k0_off3 c) (k0_off3_inb c) = ds (dnum (bx (pr c r)) (.inl (.rb, r))) :=
  Fin.ext ((sem_of _ _ _ _ (ix c) (off3_eq c)).trans (by show _ = 27 + (ix (bk (pr c r) r)).val; rw [ix_bk_pr]))
/-- that of a gathered block, -/
theorem to_qa (c : Dev nD) (r : Fin 7) : sem8 cc0_scratch18 (k0_off3 c) (k0_off3_inb c) = ds (dnum (bx (pr c r)) (.inl (.sa, r))) :=
  Fin.ext ((sem_of _ _ _ _ (ix c) (off3_eq c)).trans (by show _ = 47 + (ix (bk (pr c r) r)).val; rw [ix_bk_pr]))
/-- and that of a mirror's gathered block. -/
theorem to_qb (c : Dev nD) (r : Fin 7) : sem8 cc0_scratch20 (k0_off3 c) (k0_off3_inb c) = ds (dnum (bx (pr c r)) (.inl (.sb, r))) :=
  Fin.ext ((sem_of _ _ _ _ (ix c) (off3_eq c)).trans (by show _ = 63 + (ix (bk (pr c r) r)).val; rw [ix_bk_pr]))

/-- The semaphore the peer `r + 1` places back pays here. -/
theorem from_pa (c : Dev nD) (r : Fin 7) : sem8 cc0_scratch11 (k0_off11 c (wd r)) (k0_off11_inb c r) = ds (dnum (bx c) (.inl (.ra, r))) :=
  Fin.ext (sem_of _ _ _ _ (bx c r) (off11_eq c r))
/-- The semaphore on which a device waits for a peer's copy for the far half, -/
theorem from_pb (c : Dev nD) (r : Fin 7) : sem8 cc0_scratch12 (k0_off11 c (wd r)) (k0_off11_inb c r) = ds (dnum (bx c) (.inl (.rb, r))) :=
  Fin.ext (sem_of _ _ _ _ (bx c r) (off11_eq c r))
/-- for its gathered block, -/
theorem from_qa (c : Dev nD) (r : Fin 7) : sem8 cc0_scratch18 (k0_off11 c (wd r)) (k0_off11_inb c r) = ds (dnum (bx c) (.inl (.sa, r))) :=
  Fin.ext (sem_of _ _ _ _ (bx c r) (off11_eq c r))
/-- and for its mirror's gathered block. -/
theorem from_qb (c : Dev nD) (r : Fin 7) : sem8 cc0_scratch20 (k0_off11 c (wd r)) (k0_off11_inb c r) = ds (dnum (bx c) (.inl (.sb, r))) :=
  Fin.ext (sem_of _ _ _ _ (bx c r) (off11_eq c r))

/-! ## Families over the seven peers -/

/-- The sending order meets every offset once. -/
theorem bs_order (Φ : Fin 7 → sProp 𝕄) : bigSepL order Φ = bigSep Finset.univ Φ :=
  (bigSep_univ_eq_bigSepL order (by decide) (by decide) Φ).symm
/-- So does the receiving order. -/
theorem bs_asc (Φ : Fin 7 → sProp 𝕄) : bigSepL asc Φ = bigSep Finset.univ Φ :=
  (bigSep_univ_eq_bigSepL asc (by decide) (by decide) Φ).symm

/-- Two families of the same offsets are one family of pairs. -/
theorem bs_zip {α : Type} [Fintype α] (Φ Ψ : α → sProp 𝕄) :
    iprop(bigSep Finset.univ Φ ∗ bigSep Finset.univ Ψ) ⊢ bigSep Finset.univ (fun a => iprop(Φ a ∗ Ψ a)) :=
  Entails.of_eq (bigSep_sep' _ _ _).symm
/-- A product of pairs is a pair of products. -/
theorem bs_unzip {α : Type} [Fintype α] (Φ Ψ : α → sProp 𝕄) :
    bigSep Finset.univ (fun a => iprop(Φ a ∗ Ψ a)) ⊢ iprop(bigSep Finset.univ Φ ∗ bigSep Finset.univ Ψ) :=
  Entails.of_eq (bigSep_sep' _ _ _)

/-- The peers back are the peers on, in the other order. -/
theorem bs_bk (c : Dev nD) (Φ : Dev nD → sProp 𝕄) :
    bigSep Finset.univ (fun r => Φ (bk c r)) = bigSep Finset.univ (fun r => Φ (pr c r)) := by
  rw [bigSep_univ_equiv Fin.revPerm (fun r => Φ (pr c r))]
  exact congrArg (bigSep Finset.univ) (funext fun r => by rw [bk_eq]; rfl)

/-- A loop over all seven offsets in the sending order, and in the receiving order. -/
theorem wp_loop_order (c : Dev nD) {Q : PUnit.{1} → sProp 𝕄} (R : sProp 𝕄) [BI.Persistent R] (f : Fin 7 → BP F → BP F) (J : List (Fin 7) → sProp 𝕄)
    (Pre Post : Fin 7 → sProp 𝕄)
    (h : ∀ a l (k : BP F), iprop(R ∗ J (a :: l) ∗ Pre a ∗ ((J l ∗ Post a) -∗ WP c k Q)) ⊢ WP c (f a k) Q) (k : BP F) :
    iprop(R ∗ J order ∗ bigSep Finset.univ Pre ∗ ((J [] ∗ bigSep Finset.univ Post) -∗ WP c k Q)) ⊢ WP c (loop f order k) Q := by
  rw [← bs_order Pre, ← bs_order Post]; exact wp_loop c R f J Pre Post h order k
/-- A step repeated over the offsets in receiving order, from the rule of one step. -/
theorem wp_loop_asc (c : Dev nD) {Q : PUnit.{1} → sProp 𝕄} (R : sProp 𝕄) [BI.Persistent R] (f : Fin 7 → BP F → BP F) (J : List (Fin 7) → sProp 𝕄)
    (Pre Post : Fin 7 → sProp 𝕄)
    (h : ∀ a l (k : BP F), iprop(R ∗ J (a :: l) ∗ Pre a ∗ ((J l ∗ Post a) -∗ WP c k Q)) ⊢ WP c (f a k) Q) (k : BP F) :
    iprop(R ∗ J asc ∗ bigSep Finset.univ Pre ∗ ((J [] ∗ bigSep Finset.univ Post) -∗ WP c k Q)) ⊢ WP c (loop f asc k) Q := by
  rw [← bs_asc Pre, ← bs_asc Post]; exact wp_loop c R f J Pre Post h asc k

/-! ## What is owed when each phase is entered -/

abbrev lRelay : List Duty := order.map (dd .sb)
abbrev lGath : List Duty := order.map (dd .sa) ++ lRelay
abbrev lShare : List Duty := d1 .mr :: lGath
abbrev lSum : List Duty := d1 .fr :: lShare
abbrev lP1 (l : List (Fin 7)) : List Duty := l.flatMap (fun r => [dd .rb r, dd .ra r]) ++ lSum
abbrev lAll : List Duty := asc.map (fun r => .inl (some r)) ++ .inl none :: lP1 order

variable (I : Inp F) (c : Dev nD) {Q : PUnit.{1} → sProp (MT nD τ sig Unit (Elt F) ℕ UU ℕ)}

/-- What an entry signal hands over, at its receiver. -/
theorem pay_entry (r : Fin 7) : pay I (tgt c (.inl (some r))) (.inl (some r))
    = iprop(any' (F := F) c (sl paM (ix (pr c r))) ∗ any' (F := F) c (sl pbM (ix (pr c r)))
        ∗ any' (F := F) c (sl qaM (ix (pr c r))) ∗ any' (F := F) c (sl qbM (ix (pr c r)))) := by
  show iprop(any' (F := F) (bk (pr c r) r) (sl paM (ix (pr c r))) ∗ any' (F := F) (bk (pr c r) r) (sl pbM (ix (pr c r)))
      ∗ any' (F := F) (bk (pr c r) r) (sl qaM (ix (pr c r))) ∗ any' (F := F) (bk (pr c r) r) (sl qbM (ix (pr c r)))) = _
  rw [bk_pr]
/-- The mirror's barrier signal hands over the two buffers that the device's copies to it fill. -/
theorem pay_mirror : pay I (tgt c (.inl none)) (.inl none) = iprop(any' (F := F) c fsM ∗ any' (F := F) c miM) := by
  show iprop(any' (F := F) (mi (mi c)) fsM ∗ any' (F := F) (mi (mi c)) miM) = _
  rw [mi_mi]

/-- The entry handshake: the slots kept for the peers and the mirror are handed out, theirs for this device come in. -/
theorem ph_entry (k : BP F) :
    iprop(ctx I ∗ Ow c lAll ∗ bigSep Finset.univ (fun r : Fin 7 => tok c (.inl (some r))) ∗ tok c (.inl none)
        ∗ bigSep Finset.univ (fun r : Fin 7 => iprop(any' (F := F) c (sl paM (ix (pr c r))) ∗ any' (F := F) c (sl pbM (ix (pr c r)))
            ∗ any' (F := F) c (sl qaM (ix (pr c r))) ∗ any' (F := F) c (sl qbM (ix (pr c r)))))
        ∗ any' (F := F) c fsM ∗ any' (F := F) c miM
        ∗ cred (tallyAt (cell c (.inl none)) () 8) ∗ pos c (.inl none)
        ∗ ((Ow c (lP1 order) ∗ zro c (.inl none)
            ∗ bigSep Finset.univ (fun r : Fin 7 => iprop(any' (F := F) (pr c r) (sl paM (ix c)) ∗ any' (F := F) (pr c r) (sl pbM (ix c))
              ∗ any' (F := F) (pr c r) (sl qaM (ix c)) ∗ any' (F := F) (pr c r) (sl qbM (ix c))))
            ∗ any' (F := F) (mi c) fsM ∗ any' (F := F) (mi c) miM) -∗ WP c k Q))
      ⊢ WP c (phEntry c k) Q := by
  unfold phEntry
  iintro ⟨#HC, HO, HT, HTm, HS, Hfs, Hmi, HcB, HA, Hk⟩
  iapply (wp_loop_asc c (ctx I) (fun r => sigStep (devBar r c)) (fun l => Ow c (l.map (fun r => (.inl (some r) : Duty)) ++ .inl none :: lP1 order))
    (fun r => iprop(tok c (.inl (some r)) ∗ (any' (F := F) c (sl paM (ix (pr c r))) ∗ any' (F := F) c (sl pbM (ix (pr c r)))
            ∗ any' (F := F) c (sl qaM (ix (pr c r))) ∗ any' (F := F) c (sl qbM (ix (pr c r))))))
    (fun _ => iprop(emp)) ?_ _)
  · intro r l k
    iintro ⟨#HC, HO, ⟨HT, HS⟩, Hk⟩
    rw [devBar_eq]
    iapply (wp_sig I c (some r) _ k)
    isplitr; · iexact HC
    isplitl [HO]; · iexact HO
    isplitl [HT]; · iexact HT
    isplitl [HS]
    · rw [pay_entry]; iexact HS
    iintro HO
    iapply Hk
    isplitl [HO]; · iexact HO
    iempintro
  isplitr; · iexact HC
  isplitl [HO]; · iexact HO
  isplitl [HT HS]
  · iapply (bs_zip _ _)
    isplitl [HT] <;> iassumption
  iintro ⟨HO, -⟩
  rw [dev8_eq]
  iapply (wp_sig I c none _ _)
  isplitr; · iexact HC
  isplitl [HO]; · iexact HO
  isplitl [HTm]; · iexact HTm
  isplitl [Hfs Hmi]
  · rw [pay_mirror]; isplitl [Hfs] <;> iassumption
  iintro HO
  iapply (wp_bar I c (lP1 order) (by decide) k)
  isplitr; · iexact HC
  isplitl [HO]; · iexact HO
  isplitl [HcB]; · iexact HcB
  isplitl [HA]; · iexact HA
  iintro ⟨HO, Hp, Hz⟩
  ihave Hp := (Entails.of_eq (show bigSep Finset.univ (fun o : Option (Fin 7) => pay I c (.inl o))
      = iprop(pay I c (.inl none) ∗ bigSep Finset.univ (fun r : Fin 7 => pay I c (.inl (some r)))) from by
    rw [bigSep_univ_eq_bigSepL [none, some 0, some 1, some 2, some 3, some 4, some 5, some 6] (by decide) (by decide), bigSepL_cons, ← bs_asc]
    rfl)) $$ Hp
  icases Hp with ⟨Hm, Hp⟩
  iapply Hk
  isplitl [HO]; · iexact HO
  isplitl [Hz]; · iexact Hz
  isplitl [Hp]
  · rw [← bs_bk c (fun d => iprop(any' (F := F) d (sl paM (ix c)) ∗ any' (F := F) d (sl pbM (ix c))
              ∗ any' (F := F) d (sl qaM (ix c)) ∗ any' (F := F) d (sl qbM (ix c))))]
    iexact Hp
  iapply (Entails.of_eq (show pay I c (.inl none) = iprop(any' (F := F) (mi c) fsM ∗ any' (F := F) (mi c) miM) from rfl))
  iexact Hm

/-- The first phase: fourteen blocks computed and sent. -/
theorem ph_p1 (k : BP F) :
    iprop(ctx I ∗ Ow c (lP1 order) ∗ at' c xM fullShare (I.x c) ∗ at' c wM fullShare (I.w c)
        ∗ bigSep Finset.univ (fun r : Fin 7 => iprop((tok c (dd .pb r) ∗ tok c (dd .rb r) ∗ any' (F := F) c (sd (mi (pr c r))) ∗ any' (F := F) (pr c r) (sl pbM (ix c)))
            ∗ (tok c (dd .pa r) ∗ tok c (dd .ra r) ∗ any' (F := F) c (sd (pr c r)) ∗ any' (F := F) (pr c r) (sl paM (ix c)))))
        ∗ ((Ow c lSum ∗ at' c xM fullShare (I.x c) ∗ at' c wM fullShare (I.w c)
            ∗ bigSep Finset.univ (fun r : Fin 7 => iprop(crd c (dd .pb r) ∗ crd c (dd .pa r)))) -∗ WP c k Q))
      ⊢ WP c (loop (p1Pair c) order k) Q := by
  iintro ⟨#HC, HO, HX, HW, HP, Hk⟩
  iapply (wp_loop_order c (ctx I) (p1Pair c) (fun l => iprop(Ow c (lP1 l) ∗ at' c xM fullShare (I.x c) ∗ at' c wM fullShare (I.w c)))
    (fun r : Fin 7 => iprop((tok c (dd .pb r) ∗ tok c (dd .rb r) ∗ any' (F := F) c (sd (mi (pr c r))) ∗ any' (F := F) (pr c r) (sl pbM (ix c)))
            ∗ (tok c (dd .pa r) ∗ tok c (dd .ra r) ∗ any' (F := F) c (sd (pr c r)) ∗ any' (F := F) (pr c r) (sl paM (ix c)))))
    (fun r => iprop(crd c (dd .pb r) ∗ crd c (dd .pa r))) ?_ k)
  · intro r l k
    unfold p1Pair
    rw [devP1b_eq, devP1a_eq]
    iintro ⟨#HC, ⟨HO, HX, HW⟩, ⟨⟨HT1, HT2, HS, HD⟩, HT3, HT4, HS', HD'⟩, Hk⟩
    iapply (wp_p1 I c (pr c r) (mi (pr c r)) (.inl (.pb, r)) (.inl (.rb, r)) (dd .ra r :: lP1 l) pbM _ _ _ _ _ _ _ _ _ _ _ _ _
      (off1_eq c r) (off2_eq c r) (off5_eq c r) (off4_eq c) rfl rfl (snd_pb _ r) (to_pb c r) (BI.Entails.refl _)
      (by show _ ⊢ at' (pr c r) (sl pbM (ix (bk (pr c r) r))) fullShare (P I (bk (pr c r) r) (mi (pr c r))); rw [bk_pr]) _)
    isplitr; · iexact HC
    isplitl [HO]; · iexact HO
    isplitl [HT1]; · iexact HT1
    isplitl [HT2]; · iexact HT2
    isplitl [HX]; · iexact HX
    isplitl [HW]; · iexact HW
    isplitl [HS]; · iexact HS
    isplitl [HD]; · iexact HD
    iintro ⟨HO, Hcb, HX, HW⟩
    iapply (wp_p1 I c (pr c r) (pr c r) (.inl (.pa, r)) (.inl (.ra, r)) (lP1 l) paM _ _ _ _ _ _ _ _ _ _ _ _ _
      (off6_eq c r) (off7_eq c r) (off8_eq c r) (off4_eq c) rfl rfl (snd_pa _ r) (to_pa c r) (BI.Entails.refl _)
      (by show _ ⊢ at' (pr c r) (sl paM (ix (bk (pr c r) r))) fullShare (P I (bk (pr c r) r) (pr c r)); rw [bk_pr]) _)
    isplitr; · iexact HC
    isplitl [HO]; · iexact HO
    isplitl [HT3]; · iexact HT3
    isplitl [HT4]; · iexact HT4
    isplitl [HX]; · iexact HX
    isplitl [HW]; · iexact HW
    isplitl [HS']; · iexact HS'
    isplitl [HD']; · iexact HD'
    iintro ⟨HO, Hca, HX, HW⟩
    iapply Hk
    isplitl [HO HX HW]
    · isplitl [HO]; · iexact HO
      isplitl [HX] <;> iassumption
    isplitl [Hcb] <;> iassumption
  isplitr; · iexact HC
  isplitl [HO HX HW]
  · isplitl [HO]; · iexact HO
    isplitl [HX] <;> iassumption
  isplitl [HP]; · iexact HP
  iintro ⟨⟨HO, HX, HW⟩, Hc⟩
  iapply Hk
  isplitl [HO]; · iexact HO
  isplitl [HX]; · iexact HX
  isplitl [HW] <;> iassumption

end Cert.KProof

end
-- ==== Proof.Phases2.lean ====
/-
# The phases, continued

The sums, the exchange with the mirror, the gathering and the last waits.
-/
module

public import proofs.«01_k».proof.Proof.Phases

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-- A buffer at known contents is one at some contents. -/
theorem at_any (c : Dev nD) {s : Shape} {e : EltTy} (M : Memref sig .tc .vmem s e) (X : Vec F s e) :
    (at' c M fullShare X : sProp 𝕄) ⊢ any' (F := F) c M := by
  unfold any'; iintro H; iexists X; iexact H

/-- A whole buffer's share split into seven readers' and a remainder, and put back together. -/
theorem toks_split (c : Dev nD) (b : Ref sig .tc) (f) :
    (owns (c : Thread nD τ) (Memref.whole b) fullShare f : sProp 𝕄)
      ⊢ iprop(owns (c : Thread nD τ) (Memref.whole b) qRest f ∗ bigSep Finset.univ (fun r : Fin 7 => owns (c : Thread nD τ) (Memref.whole b) (qTok r) f)) := by
  simp only [owns_whole]; exact pointsTo_toks_split fullShare 7
/-- The shares the gathering copies read by join to the whole. -/
theorem toks_join (c : Dev nD) (b : Ref sig .tc) (f) :
    iprop(owns (c : Thread nD τ) (Memref.whole b) qRest f ∗ bigSep Finset.univ (fun r : Fin 7 => owns (c : Thread nD τ) (Memref.whole b) (qTok r) f))
      ⊢ (owns (c : Thread nD τ) (Memref.whole b) fullShare f : sProp 𝕄) := by
  simp only [owns_whole]; exact pointsTo_toks_join fullShare 7

variable (I : Inp F) (c : Dev nD) {Q : PUnit.{1} → sProp (MT nD τ sig Unit (Elt F) ℕ UU ℕ)}

/-- One received block: its slot is waited for and read. -/
theorem wp_rcv (δ : DD) (l : List Duty) (hl : ∀ δ' ∈ l, dlev (.inr δ) < dlev δ') {s : Shape}
    (M : Memref sig .tc .vmem S8x64x1024 .bf16) (src : Memref sig .tc .vmem s .bf16) (sem : DmaSem sig) (j : Fin 8) (X : FVec F S64x1024 .bf16)
    (os : Fin 3 → ℕ) (hos : ∀ a, os a + S1x64x1024.size a ≤ S8x64x1024.size a)
    (ol : Fin 3 → ℕ) (hol : ∀ a, ol a + S1x64x1024.size a ≤ S8x64x1024.size a)
    (hw : src.view.WordExact) (hd : (slot8 M os hos).view.WordExact)
    (hsem : sem = ds (dnum (fun r => ix (bk c r)) δ)) (eo : ol = ![j.val, 0, 0])
    (hp : pay I c (.inr δ) = at' c (sl M j) fullShare X) (k : Vec F S1x64x1024 .bf16 → BP F) :
    iprop(ctx I ∗ Ow c l ∗ (crd c (.inr δ) ∗ pos c (.inr δ))
        ∗ ((Ow c l ∗ (zro c (.inr δ) ∗ at' c (sl M j) fullShare X)) -∗ WP c (k (shapeCast S1x64x1024 X shapeCasts_S64x1024_S1x64x1024)) Q))
      ⊢ WP c (rcvStep M src sem os hos ol hol hw hd k) Q := by
  subst eo
  unfold rcvStep
  iintro ⟨#HC, HO, ⟨Hc, HA⟩, Hk⟩
  iapply (wp_wait I c δ l hl hsem _)
  isplitr; · iexact HC
  isplitl [HO]; · iexact HO
  isplitl [Hc]; · iexact Hc
  isplitl [HA]; · iexact HA
  iintro ⟨HO, Hp, Hz⟩
  ihave Hp := (Entails.of_eq hp) $$ Hp
  iapply (wp_ldSlot c M _ hol (inb_8 j) fullShare X k)
  isplitl [Hp]; · iexact Hp
  iintro Hp
  iapply Hk
  isplitl [HO]; · iexact HO
  isplitl [Hz] <;> iassumption

/-- The ring's blocks added up. -/
theorem ph_acc (a : Fam) (l : List Duty) (hl : ∀ r, ∀ δ' ∈ l, dlev (dd a r) < dlev δ') (k : Dev nD) (M : Memref sig .tc .vmem S8x64x1024 .bf16)
    (hM : M.IsWhole) (A : DmaSems sig S8)
    (hsem : ∀ r, sem8 A (k0_off11 c (wd r)) (k0_off11_inb c r) = ds (dnum (bx c) (.inl (a, r))))
    (hp : ∀ r, pay I c (dd a r) = at' c (sl M (bx c r)) fullShare (P I (bk c r) k)) (kk : FVec F S64x1024 .f32 → BP F) :
    iprop(ctx I ∗ Ow c l ∗ bigSep Finset.univ (fun r => iprop(crd c (dd a r) ∗ pos c (dd a r)))
        ∗ ((Ow c l ∗ bigSep Finset.univ (fun r => iprop(zro c (dd a r) ∗ at' c (sl M (bx c r)) fullShare (P I (bk c r) k)))) -∗ WP c (kk (half I c k)) Q))
      ⊢ WP c (accLoop (rcv1 c M hM A) asc (part I c k) kk) Q := by
  rw [← bs_asc, ← bs_asc]
  exact wp_acc c (ctx I) (rcv1 c M hM A) (Ow c l) _ _ (fun r => P I (bk c r) k)
    (fun r kk => wp_rcv I c (.inl (a, r)) l (hl r) M _ _ (bx c r) _ _ _ _ _ _ _ (hsem r) (off13_eq c r) (hp r) kk) asc (part I c k) kk

/-- The sum completed with the mirror's half. -/
theorem ph_sum (k : FVec F S64x1024 .f32 → BP F) :
    iprop(ctx I ∗ Ow c lSum ∗ bigSep Finset.univ (fun r => iprop(crd c (dd .rb r) ∗ pos c (dd .rb r)))
        ∗ bigSep Finset.univ (fun r => iprop(crd c (dd .ra r) ∗ pos c (dd .ra r)))
        ∗ any' (F := F) c sfM ∗ any' (F := F) (mi c) fsM ∗ tok c (d1 .f) ∗ tok c (d1 .fr) ∗ crd c (d1 .fr) ∗ pos c (d1 .fr)
        ∗ ((Ow c lShare ∗ bigSep Finset.univ (fun r => iprop(zro c (dd .rb r) ∗ at' c (sl pbM (bx c r)) fullShare (P I (bk c r) (mi c))))
            ∗ bigSep Finset.univ (fun r => iprop(zro c (dd .ra r) ∗ at' c (sl paM (bx c r)) fullShare (P I (bk c r) c)))
            ∗ crd c (d1 .f) ∗ zro c (d1 .fr) ∗ any' (F := F) c fsM) -∗ WP c (k (tot I c)) Q))
      ⊢ WP c (phSum c (part I c c) (part I c (mi c)) k) Q := by
  unfold phSum
  have hp : at' (mi c) fsM fullShare (Sb I c) ⊢ pay I (mi c) (d1 .fr) :=
    Entails.of_eq (congrArg (fun d => at' (mi c) fsM fullShare (Sb I d)) (mi_mi c).symm)
  rw [dev23_eq]
  iintro ⟨#HC, HO, Hb, Ha, Hsf, Hfs, HT1, HT2, Hc, HA, Hk⟩
  iapply (ph_acc I c .rb lSum (by decide) (mi c) pbM _ cc0_scratch12 (from_pb c) (fun _ => rfl) _)
  isplitr; · iexact HC
  isplitl [HO]; · iexact HO
  isplitl [Hb]; · iexact Hb
  iintro ⟨HO, Hb⟩
  iapply (wp_put c sfM full_sf _ _ _)
  isplitl [Hsf]; · iexact Hsf
  iintro Hsf
  iapply (wp_send I c _ (.inr .f) (.inr .fr) lShare sfM fsM _ _ _ _ rfl rfl (s13_eq _) (s14_eq _) fullShare (Sb I c) (BI.Entails.refl _)
    hp _)
  isplitr; · iexact HC
  isplitl [HO]; · iexact HO
  isplitl [HT1]; · iexact HT1
  isplitl [HT2]; · iexact HT2
  isplitl [Hsf]; · iexact Hsf
  isplitl [Hfs]; · iexact Hfs
  iintro ⟨HO, Hcf⟩
  iapply (ph_acc I c .ra lShare (by decide) c paM _ cc0_scratch11 (from_pa c) (fun _ => rfl) _)
  isplitr; · iexact HC
  isplitl [HO]; · iexact HO
  isplitl [Ha]; · iexact Ha
  iintro ⟨HO, Ha⟩
  unfold waitStep
  iapply (wp_wait I c (.inr .fr) lShare (by decide) (s14_eq _) _)
  isplitr; · iexact HC
  isplitl [HO]; · iexact HO
  isplitl [Hc]; · iexact Hc
  isplitl [HA]; · iexact HA
  iintro ⟨HO, Hp, Hz⟩
  ihave Hp := (Entails.of_eq (show pay I c (d1 .fr) = at' c fsM fullShare (Sb I (mi c)) from rfl)) $$ Hp
  iapply (wp_get c fsM full_fs fullShare (Sb I (mi c)) _)
  isplitl [Hp]; · iexact Hp
  iintro Hp
  iapply Hk
  isplitl [HO]; · iexact HO
  isplitl [Hb]; · iexact Hb
  isplitl [Ha]; · iexact Ha
  isplitl [Hcf]; · iexact Hcf
  isplitl [Hz]; · iexact Hz
  iapply (at_any c fsM (Sb I (mi c)))
  iexact Hp

/-- A whole buffer sent to the same slot of the seven peers. -/
theorem ph_bc (a a' : Fam) (dv : Fin 7 → Dev nD) (hdv : ∀ r, dv r = pr c r) (lr : List Duty) (b : Ref sig .tc) (S : Memref sig .tc .vmem S64x1024 .bf16)
    (hS : S.IsWhole) (M : Memref sig .tc .vmem S8x64x1024 .bf16) (hM : M.IsWhole) (A B : DmaSems sig S8)
    (hss : ∀ r, sem8 A ![r.val + 1] (inb_send r) = ds (dnum (bx c) (.inl (a, r))))
    (hrs : ∀ r, sem8 B (k0_off3 c) (k0_off3_inb c) = ds (dnum (bx (pr c r)) (.inl (a', r))))
    (ht : ∀ r, tgt c (dd a r) = c) (ht' : ∀ r, tgt c (dd a' r) = pr c r) (X : FVec F S64x1024 .bf16)
    (hp₁ : ∀ r, at' c S (qTok r) X ⊢ pay I c (dd a r)) (hp₂ : ∀ r, at' (pr c r) (sl M (ix c)) fullShare X ⊢ pay I (pr c r) (dd a' r)) (k : BP F) :
    iprop(ctx I ∗ Ow c (order.map (dd a') ++ lr)
        ∗ bigSep Finset.univ (fun r => iprop(at' c S (qTok r) X ∗ (tok c (dd a r) ∗ tok c (dd a' r)) ∗ any' (F := F) (pr c r) (sl M (ix c))))
        ∗ ((Ow c lr ∗ bigSep Finset.univ (fun r => crd c (dd a r))) -∗ WP c k Q))
      ⊢ WP c (loop (fun r => bcStep c (dv r) b S hS M hM A B r) order k) Q := by
  refine wp_loop_order c (ctx I) _ (fun l => Ow c (l.map (dd a') ++ lr)) _ _ (fun r l k => ?_) k
  unfold bcStep
  iintro ⟨#HC, HO, ⟨HS, ⟨HT1, HT2⟩, HD⟩, Hk⟩
  have e := off4_eq c
  generalize k0_off4_inb c = h4
  iapply (wp_send I c _ (.inl (a, r)) (.inl (a', r)) _ S _ _ _ _ _ ((hdv r).trans (ht' r).symm) (ht r) (hss r)
    (by rw [hdv]; exact hrs r) (qTok r) X (hp₁ r) ?_ _)
  · rw [hdv]; revert h4; rw [e]; intro _; exact hp₂ r
  isplitr; · iexact HC
  isplitl [HO]; · iexact HO
  isplitl [HT1]; · iexact HT1
  isplitl [HT2]; · iexact HT2
  isplitl [HS]; · iexact HS
  isplitl [HD]
  · rw [hdv]; revert h4; rw [e]; intro _; iexact HD
  iintro ⟨HO, Hc⟩
  iapply Hk
  isplitl [HO] <;> iassumption

/-- The finished block sent to the mirror and the peers, and written to its rows of the output. -/
theorem ph_share (k : BP F) :
    iprop(ctx I ∗ Ow c lShare ∗ any' (F := F) c agM ∗ any' (F := F) (mi c) miM ∗ tok c (d1 .m) ∗ tok c (d1 .mr)
        ∗ bigSep Finset.univ (fun r => iprop((tok c (dd .qa r) ∗ tok c (dd .sa r)) ∗ any' (F := F) (pr c r) (sl qaM (ix c))))
        ∗ any' (F := F) c (row c)
        ∗ ((Ow c lRelay ∗ crd c (d1 .m) ∗ bigSep Finset.univ (fun r => crd c (dd .qa r)) ∗ at' c (row c) fullShare (gel I c)) -∗ WP c k Q))
      ⊢ WP c (phShare c (tot I c) k) Q := by
  unfold phShare
  have hp : at' (mi c) miM fullShare (AG I c) ⊢ pay I (mi c) (d1 .mr) :=
    Entails.of_eq (congrArg (fun d => at' (mi c) miM fullShare (AG I d)) (mi_mi c).symm)
  rw [dev24_eq]
  iintro ⟨#HC, HO, Hag, Hmi, HT1, HT2, HB, Hrow, Hk⟩
  iapply (wp_put c agM full_ag _ (AG I c) _)
  isplitl [Hag]; · iexact Hag
  iintro Hag
  ihave Hag := (toks_split c cc0_scratch5 (AG I c)) $$ Hag
  icases Hag with ⟨Hag, Htk⟩
  iapply (wp_send I c _ (.inr .m) (.inr .mr) lGath agM miM _ _ _ _ rfl rfl (s15_eq _) (s16_eq _) qRest (AG I c) (BI.Entails.refl _) hp _)
  isplitr; · iexact HC
  isplitl [HO]; · iexact HO
  isplitl [HT1]; · iexact HT1
  isplitl [HT2]; · iexact HT2
  isplitl [Hag]; · iexact Hag
  isplitl [Hmi]; · iexact Hmi
  iintro ⟨HO, Hcm⟩
  iapply (ph_bc I c .qa .sa (fun r => devQa r c) (devQa_eq c) lRelay cc0_scratch5 agM _ qaM _ cc0_scratch17 cc0_scratch18
    (snd_qa _) (to_qa c) (fun _ => rfl) (fun _ => rfl) (AG I c) (fun _ => BI.Entails.refl _)
    (fun r => Entails.of_eq (congrArg (fun d => at' (pr c r) (sl qaM (ix d)) fullShare (AG I d)) (bk_pr c r).symm)) _)
  isplitr; · iexact HC
  isplitl [HO]; · iexact HO
  isplitl [Htk HB]
  · iapply (bs_zip (fun r : Fin 7 => at' c agM (qTok r) (AG I c)) _)
    isplitl [Htk]
    · iexact Htk
    · iexact HB
  iintro ⟨HO, Hcq⟩
  iapply (wp_out c c _ _ (off14_eq c) _ _)
  isplitl [Hrow]; · iexact Hrow
  iintro Hrow
  iapply Hk
  isplitl [HO]; · iexact HO
  isplitl [Hcm]; · iexact Hcm
  isplitl [Hcq]; · iexact Hcq
  iexact Hrow

end Cert.KProof

end
-- ==== Proof.Phases3.lean ====
/-
# The phases, concluded

The relay of the mirror's block, the gathered blocks, and the last waits.
-/
module

public import proofs.«01_k».proof.Proof.Phases2

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (I : Inp F) (c : Dev nD) {Q : PUnit.{1} → sProp (MT nD τ sig Unit (Elt F) ℕ UU ℕ)}

/-- A finished block as it is written from the wire. -/
def wide (d : Dev nD) : FVec F S64x1024 .f32 := extf .f32 (AG I d) bitsLt_bf16_f32

/-- The mirror's finished block received, relayed to the peers, and written to its rows of the output. -/
theorem ph_relay (k : BP F) :
    iprop(ctx I ∗ Ow c lRelay ∗ crd c (d1 .mr) ∗ pos c (d1 .mr)
        ∗ bigSep Finset.univ (fun r => iprop((tok c (dd .qb r) ∗ tok c (dd .sb r)) ∗ any' (F := F) (pr c r) (sl qbM (ix c))))
        ∗ any' (F := F) c (row (mi c))
        ∗ ((Ow c [] ∗ zro c (d1 .mr) ∗ bigSep Finset.univ (fun r => crd c (dd .qb r)) ∗ at' c miM qRest (AG I (mi c))
            ∗ at' c (row (mi c)) fullShare (wide I (mi c))) -∗ WP c k Q))
      ⊢ WP c (phRelay c k) Q := by
  unfold phRelay waitStep
  iintro ⟨#HC, HO, Hc, HA, HB, Hrow, Hk⟩
  iapply (wp_wait I c (.inr .mr) lRelay (by decide) (s16_eq _) _)
  isplitr; · iexact HC
  isplitl [HO]; · iexact HO
  isplitl [Hc]; · iexact Hc
  isplitl [HA]; · iexact HA
  iintro ⟨HO, Hp, Hz⟩
  ihave Hp := (Entails.of_eq (show pay I c (d1 .mr) = at' c miM fullShare (AG I (mi c)) from rfl)) $$ Hp
  ihave Hp := (toks_split c cc0_scratch6 (AG I (mi c))) $$ Hp
  icases Hp with ⟨Hp, Htk⟩
  iapply (ph_bc I c .qb .sb (fun r => devQb r c) (devQb_eq c) [] cc0_scratch6 miM _ qbM _ cc0_scratch19 cc0_scratch20
    (snd_qb _) (to_qb c) (fun _ => rfl) (fun _ => rfl) (AG I (mi c)) (fun _ => BI.Entails.refl _)
    (fun r => Entails.of_eq (congrArg (fun d => at' (pr c r) (sl qbM (ix d)) fullShare (AG I (mi d))) (bk_pr c r).symm)) _)
  isplitr; · iexact HC
  isplitl [HO]; · iexact HO
  isplitl [Htk HB]
  · iapply (bs_zip (fun r : Fin 7 => at' c miM (qTok r) (AG I (mi c))) _)
    isplitl [Htk]
    · iexact Htk
    · iexact HB
  iintro ⟨HO, Hcq⟩
  iapply (wp_get c miM full_mi qRest (AG I (mi c)) _)
  isplitl [Hp]; · iexact Hp
  iintro Hp
  iapply (wp_out c (mi c) _ _ (off15_eq c) _ _)
  isplitl [Hrow]; · iexact Hrow
  iintro Hrow
  iapply Hk
  isplitl [HO]; · iexact HO
  isplitl [Hz]; · iexact Hz
  isplitl [Hcq]; · iexact Hcq
  isplitl [Hp]; · iexact Hp
  iexact Hrow

/-- What is written of a block read from a slot. -/
theorem outPay_cast (X : FVec F S64x1024 .bf16) :
    outPay (shapeCast S1x64x1024 X shapeCasts_S64x1024_S1x64x1024) = extf .f32 X bitsLt_bf16_f32 := by
  show extf .f32 (shapeCast S64x1024 (shapeCast S1x64x1024 X shapeCasts_S64x1024_S1x64x1024) _) bitsLt_bf16_f32 = _
  rw [shapeCast_shapeCast]

/-- One ring of finished blocks received and written to their rows of the output. -/
theorem ph_gat (a : Fam) (M : Memref sig .tc .vmem S8x64x1024 .bf16) (hM : M.IsWhole) (A : DmaSems sig S8)
    (oo : Fin 7 → Fin 2 → ℕ) (hoo : ∀ r, ∀ a, oo r a + S64x1024.size a ≤ S1024x1024.size a) (d : Fin 7 → Dev nD)
    (eo : ∀ r, oo r = ![64 * (d r).val, 0])
    (hsem : ∀ r, sem8 A (k0_off11 c (wd r)) (k0_off11_inb c r) = ds (dnum (bx c) (.inl (a, r))))
    (hp : ∀ r, pay I c (dd a r) = at' c (sl M (bx c r)) fullShare (AG I (d r))) (k : BP F) :
    iprop(ctx I ∗ Ow c [] ∗ bigSep Finset.univ (fun r => iprop((crd c (dd a r) ∗ pos c (dd a r)) ∗ any' (F := F) c (row (d r))))
        ∗ ((Ow c [] ∗ bigSep Finset.univ (fun r => iprop((zro c (dd a r) ∗ at' c (sl M (bx c r)) fullShare (AG I (d r)))
            ∗ at' c (row (d r)) fullShare (wide I (d r))))) -∗ WP c k Q))
      ⊢ WP c (loop (gatherStep c M hM A oo hoo) asc k) Q := by
  refine wp_loop_asc c (ctx I) _ (fun _ => Ow c []) _ _ (fun r l k => ?_) k
  unfold gatherStep rcv2
  iintro ⟨#HC, HO, ⟨Hc, Hrow⟩, Hk⟩
  iapply (wp_rcv I c (.inl (a, r)) [] (by intro _ h; cases h) M _ _ (bx c r) (AG I (d r)) _ _ _ _ _ _ (hsem r) (off13_eq c r) (hp r) _)
  isplitr; · iexact HC
  isplitl [HO]; · iexact HO
  isplitl [Hc]; · iexact Hc
  iintro ⟨HO, Hs⟩
  rw [outPay_cast]
  iapply (wp_out c (d r) _ _ (eo r) _ _)
  isplitl [Hrow]; · iexact Hrow
  iintro Hrow
  iapply Hk
  isplitl [HO]; · iexact HO
  isplitl [Hs]; · iexact Hs
  iexact Hrow

/-- Both rings' finished blocks received. -/
theorem ph_gather (k : BP F) :
    iprop(ctx I ∗ Ow c []
        ∗ bigSep Finset.univ (fun r => iprop((crd c (dd .sa r) ∗ pos c (dd .sa r)) ∗ any' (F := F) c (row (bk c r))))
        ∗ bigSep Finset.univ (fun r => iprop((crd c (dd .sb r) ∗ pos c (dd .sb r)) ∗ any' (F := F) c (row (mi (bk c r)))))
        ∗ ((Ow c [] ∗ bigSep Finset.univ (fun r => iprop((zro c (dd .sa r) ∗ at' c (sl qaM (bx c r)) fullShare (AG I (bk c r)))
              ∗ at' c (row (bk c r)) fullShare (wide I (bk c r))))
            ∗ bigSep Finset.univ (fun r => iprop((zro c (dd .sb r) ∗ at' c (sl qbM (bx c r)) fullShare (AG I (mi (bk c r))))
              ∗ at' c (row (mi (bk c r))) fullShare (wide I (mi (bk c r)))))) -∗ WP c k Q))
      ⊢ WP c (phGather c k) Q := by
  unfold phGather
  iintro ⟨#HC, HO, Ha, Hb, Hk⟩
  iapply (ph_gat I c .sa qaM _ cc0_scratch18 _ _ (fun r => bk c r) (off16_eq c) (from_qa c) (fun _ => rfl) _)
  isplitr; · iexact HC
  isplitl [HO]; · iexact HO
  isplitl [Ha]; · iexact Ha
  iintro ⟨HO, Ha⟩
  iapply (ph_gat I c .sb qbM _ cc0_scratch20 _ _ (fun r => mi (bk c r)) (off17_eq c) (from_qb c) (fun _ => rfl) _)
  isplitr; · iexact HC
  isplitl [HO]; · iexact HO
  isplitl [Hb]; · iexact Hb
  iintro ⟨HO, Hb⟩
  iapply Hk
  isplitl [HO]; · iexact HO
  isplitl [Ha]; · iexact Ha
  iexact Hb

/-- One send's completion. -/
theorem wp_done (δ : DD) {s : Shape} {sem : DmaSem sig} {S : Memref sig .tc .vmem s .bf16} {D : Memref sig .tc .vmem S64x1024 .bf16}
    (hsem : sem = ds (dnum (bx c) δ)) {hS : S.view.WordExact} {hD : D.view.WordExact} (k : PUnit → BP F) :
    iprop(ctx I ∗ Ow c [] ∗ (crd c (.inr δ) ∗ pos c (.inr δ)) ∗ ((Ow c [] ∗ (pay I c (.inr δ) ∗ zro c (.inr δ))) -∗ WP c (k ⟨⟩) Q))
      ⊢ WP c (.op (.waitDma2 sem S D hS hD) k) Q := by
  iintro ⟨#HC, HO, ⟨Hc, HA⟩, Hk⟩
  iapply (wp_wait I c δ [] (by intro _ h; cases h) hsem k)
  isplitr; · iexact HC
  isplitl [HO]; · iexact HO
  isplitl [Hc]; · iexact Hc
  isplitl [HA]; · iexact HA
  iexact Hk

/-- A broadcast's sends complete. -/
theorem ph_doneBc (a : Fam) (M : Memref sig .tc .vmem S8x64x1024 .bf16) (hM : M.IsWhole) (S : Memref sig .tc .vmem S64x1024 .bf16) (hS : S.IsWhole)
    (A : DmaSems sig S8) (hss : ∀ r, sem8 A ![r.val + 1] (inb_send r) = ds (dnum (bx c) (.inl (a, r)))) (k : BP F) :
    iprop(ctx I ∗ Ow c [] ∗ bigSep Finset.univ (fun r => iprop(crd c (dd a r) ∗ pos c (dd a r)))
        ∗ ((Ow c [] ∗ bigSep Finset.univ (fun r => iprop(pay I c (dd a r) ∗ zro c (dd a r)))) -∗ WP c k Q))
      ⊢ WP c (loop (doneBc c M hM S hS A) order k) Q :=
  wp_loop_order c (ctx I) _ (fun _ => Ow c []) _ _ (fun r l k => by unfold doneBc waitStep; exact wp_done I c (.inl (a, r)) (hss r) (fun _ => k)) k

/-- The last waits: every send has read its source. -/
theorem ph_done :
    iprop(ctx I ∗ Ow c []
        ∗ bigSep Finset.univ (fun r => iprop((crd c (dd .pb r) ∗ pos c (dd .pb r)) ∗ (crd c (dd .pa r) ∗ pos c (dd .pa r))))
        ∗ (crd c (d1 .f) ∗ pos c (d1 .f)) ∗ (crd c (d1 .m) ∗ pos c (d1 .m))
        ∗ bigSep Finset.univ (fun r => iprop(crd c (dd .qa r) ∗ pos c (dd .qa r)))
        ∗ bigSep Finset.univ (fun r => iprop(crd c (dd .qb r) ∗ pos c (dd .qb r)))
        ∗ ((Ow c [] ∗ bigSep Finset.univ (fun r => iprop((pay I c (dd .pb r) ∗ zro c (dd .pb r)) ∗ (pay I c (dd .pa r) ∗ zro c (dd .pa r))))
            ∗ (pay I c (d1 .f) ∗ zro c (d1 .f)) ∗ (pay I c (d1 .m) ∗ zro c (d1 .m))
            ∗ bigSep Finset.univ (fun r => iprop(pay I c (dd .qa r) ∗ zro c (dd .qa r)))
            ∗ bigSep Finset.univ (fun r => iprop(pay I c (dd .qb r) ∗ zro c (dd .qb r)))) -∗ Q ⟨⟩))
      ⊢ WP c (phDone c) Q := by
  unfold phDone
  iintro ⟨#HC, HO, Hp, Hf, Hm, Ha, Hb, Hk⟩
  iapply (wp_loop_order c (ctx I) (doneP1 c) (fun _ => Ow c []) _ (fun r => iprop((pay I c (dd .pb r) ∗ zro c (dd .pb r)) ∗ (pay I c (dd .pa r) ∗ zro c (dd .pa r)))) ?_ _)
  rotate_left
  · isplitr; · iexact HC
    isplitl [HO]; · iexact HO
    isplitl [Hp]; · iexact Hp
    iintro ⟨HO, Hp⟩
    unfold waitStep
    iapply (wp_done I c (.inr .f) (s13_eq _) _)
    isplitr; · iexact HC
    isplitl [HO]; · iexact HO
    isplitl [Hf]; · iexact Hf
    iintro ⟨HO, Hf⟩
    iapply (wp_done I c (.inr .m) (s15_eq _) _)
    isplitr; · iexact HC
    isplitl [HO]; · iexact HO
    isplitl [Hm]; · iexact Hm
    iintro ⟨HO, Hm⟩
    iapply (ph_doneBc I c .qa _ _ _ _ _ (snd_qa _) _)
    isplitr; · iexact HC
    isplitl [HO]; · iexact HO
    isplitl [Ha]; · iexact Ha
    iintro ⟨HO, Ha⟩
    iapply (ph_doneBc I c .qb _ _ _ _ _ (snd_qb _) _)
    isplitr; · iexact HC
    isplitl [HO]; · iexact HO
    isplitl [Hb]; · iexact Hb
    iintro ⟨HO, Hb⟩
    iapply (le_wp_ret _ _)
    iapply Hk
    isplitl [HO]; · iexact HO
    isplitl [Hp]; · iexact Hp
    isplitl [Hf]; · iexact Hf
    isplitl [Hm]; · iexact Hm
    isplitl [Ha]; · iexact Ha
    iexact Hb
  · intro r l k
    unfold doneP1 waitStep
    iintro ⟨#HC, HO, ⟨H1, H2⟩, Hk⟩
    iapply (wp_done I c (.inl (.pb, r)) (snd_pb _ r) _)
    isplitr; · iexact HC
    isplitl [HO]; · iexact HO
    isplitl [H1]; · iexact H1
    iintro ⟨HO, H1⟩
    iapply (wp_done I c (.inl (.pa, r)) (snd_pa _ r) _)
    isplitr; · iexact HC
    isplitl [HO]; · iexact HO
    isplitl [H2]; · iexact H2
    iintro ⟨HO, H2⟩
    iapply Hk
    isplitl [HO]; · iexact HO
    isplitl [H1] <;> iassumption

end Cert.KProof

end
-- ==== Proof.Slots.lean ====
/-
# Slots

The buffers cut into the slots the copies use, and put back together.
-/
module

public import proofs.«01_k».proof.Proof.Phases3

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## Slabs along the leading axis -/

/-- Rectangles of one size standing apart along an axis share nothing. -/
theorem slab_disj {s : Shape} {T : Type} (a₀ : Fin s.rank) (off : T → Fin s.rank → ℕ) (sz : Fin s.rank → ℕ)
    (inb : ∀ t a, off t a + sz a ≤ s.size a) (h : ∀ t t', t ≠ t' → off t a₀ + sz a₀ ≤ off t' a₀ ∨ off t' a₀ + sz a₀ ≤ off t a₀) (t t' : T) (ht : t ≠ t') :
    Disjoint (Rect.unit (s := s) (off t) sz (inb t)).set (Rect.unit (s := s) (off t') sz (inb t')).set := by
  rw [Finset.disjoint_left]
  intro i hi hi'
  have h1 := Rect.mem_set_unit.mp hi a₀
  have h2 := Rect.mem_set_unit.mp hi' a₀
  rcases h t t' ht with h | h <;> omega

/-- Rectangles cover a shape when each of its elements has one. -/
theorem slab_cover {s : Shape} {T : Type} [Fintype T] (off : T → Fin s.rank → ℕ) (sz : Fin s.rank → ℕ)
    (inb : ∀ t a, off t a + sz a ≤ s.size a) (f : s.Idx → T) (h : ∀ i a, off (f i) a ≤ (i a : ℕ) ∧ (i a : ℕ) < off (f i) a + sz a) :
    (Finset.univ : Finset T).biUnion (fun t => (Rect.unit (s := s) (off t) sz (inb t)).set) = Finset.univ := by
  ext i
  simp only [Finset.mem_biUnion, Finset.mem_univ, true_and, iff_true]
  exact ⟨f i, Rect.mem_set_unit.mpr (h i)⟩

abbrev r8 (s : Fin 8) : Rect S8x64x1024 := Rect.unit (s := S8x64x1024) ![s.val, 0, 0] S1x64x1024.size (inb_8 s)
abbrev r16 (k : Dev nD) : Rect S16x64x1024 := Rect.unit (s := S16x64x1024) ![k.val, 0, 0] S1x64x1024.size (inb_16 k)
abbrev rO (k : Dev nD) : Rect S1024x1024 := Rect.unit (s := S1024x1024) ![64 * k.val, 0] S64x1024.size (inb_out k)

/-- Two slots of an eight-slot buffer do not overlap, -/
theorem r8_apart : ∀ a b : Fin 8, a ≠ b → (![a.val, 0, 0] : Fin 3 → ℕ) 0 + S1x64x1024.size 0 ≤ (![b.val, 0, 0] : Fin 3 → ℕ) 0
    ∨ (![b.val, 0, 0] : Fin 3 → ℕ) 0 + S1x64x1024.size 0 ≤ (![a.val, 0, 0] : Fin 3 → ℕ) 0 := by decide +kernel
/-- nor do two slots of the send buffer, -/
theorem r16_apart : ∀ a b : Dev nD, a ≠ b → (![a.val, 0, 0] : Fin 3 → ℕ) 0 + S1x64x1024.size 0 ≤ (![b.val, 0, 0] : Fin 3 → ℕ) 0
    ∨ (![b.val, 0, 0] : Fin 3 → ℕ) 0 + S1x64x1024.size 0 ≤ (![a.val, 0, 0] : Fin 3 → ℕ) 0 := by decide +kernel
/-- nor two row blocks of the output. -/
theorem rO_apart : ∀ a b : Dev nD, a ≠ b → (![64 * a.val, 0] : Fin 2 → ℕ) 0 + S64x1024.size 0 ≤ (![64 * b.val, 0] : Fin 2 → ℕ) 0
    ∨ (![64 * b.val, 0] : Fin 2 → ℕ) 0 + S64x1024.size 0 ≤ (![64 * a.val, 0] : Fin 2 → ℕ) 0 := by decide +kernel
/-- The eight slots are disjoint, -/
theorem r8_disj (t t' : Fin 8) (h : t ≠ t') : Disjoint (r8 t).set (r8 t').set :=
  slab_disj (s := S8x64x1024) 0 (fun t : Fin 8 => ![t.val, 0, 0]) S1x64x1024.size inb_8 r8_apart t t' h
/-- as are the sixteen, -/
theorem r16_disj (t t' : Dev nD) (h : t ≠ t') : Disjoint (r16 t).set (r16 t').set :=
  slab_disj (s := S16x64x1024) 0 (fun t : Dev nD => ![t.val, 0, 0]) S1x64x1024.size inb_16 r16_apart t t' h
/-- and the row blocks. -/
theorem rO_disj (t t' : Dev nD) (h : t ≠ t') : Disjoint (rO t).set (rO t').set :=
  slab_disj (s := S1024x1024) 0 (fun t : Dev nD => ![64 * t.val, 0]) S64x1024.size inb_out rO_apart t t' h

/-- The eight slots fill their buffer, -/
theorem r8_cover : (Finset.univ : Finset (Fin 8)).biUnion (fun t => (r8 t).set) = Finset.univ := by
  refine slab_cover _ _ _ (fun i => ⟨(i 0).val, (i 0).isLt⟩) (fun i a => ?_)
  fin_cases a
  · exact ⟨le_refl _, Nat.lt_succ_self _⟩
  · exact ⟨Nat.zero_le _, by have := (i 1).isLt; show (i 1).val < 0 + 64; rw [Nat.zero_add]; exact this⟩
  · exact ⟨Nat.zero_le _, by have := (i 2).isLt; show (i 2).val < 0 + 1024; rw [Nat.zero_add]; exact this⟩
/-- the sixteen theirs, -/
theorem r16_cover : (Finset.univ : Finset (Dev nD)).biUnion (fun t => (r16 t).set) = Finset.univ := by
  refine slab_cover _ _ _ (fun i => (⟨(i 0).val, (i 0).isLt⟩ : Dev nD)) (fun i a => ?_)
  fin_cases a
  · exact ⟨le_refl _, Nat.lt_succ_self _⟩
  · exact ⟨Nat.zero_le _, by have := (i 1).isLt; show (i 1).val < 0 + 64; rw [Nat.zero_add]; exact this⟩
  · exact ⟨Nat.zero_le _, by have := (i 2).isLt; show (i 2).val < 0 + 1024; rw [Nat.zero_add]; exact this⟩
/-- The row block an element of the output lies in. -/
def blockOf (i : S1024x1024.Idx) : Dev nD := ⟨(i 0).val / 64, by
  have h : (i 0).val < 1024 := (i 0).isLt
  show (i 0).val / 64 < 16; omega⟩
/-- and the row blocks the output. -/
theorem rO_cover : (Finset.univ : Finset (Dev nD)).biUnion (fun t => (rO t).set) = Finset.univ := by
  refine slab_cover _ _ _ blockOf (fun i a => ?_)
  fin_cases a
  · show 64 * ((i 0).val / 64) ≤ (i 0).val ∧ (i 0).val < 64 * ((i 0).val / 64) + 64
    omega
  · exact ⟨Nat.zero_le _, by have := (i 1).isLt; show (i 1).val < 0 + 1024; rw [Nat.zero_add]; exact this⟩

/-! ## Cutting and joining -/

/-- A product grows where its factors do. -/
theorem bs_mono {α : Type} [Fintype α] (Φ Ψ : α → sProp 𝕄) (h : ∀ a, Φ a ⊢ Ψ a) : bigSep Finset.univ Φ ⊢ bigSep Finset.univ Ψ :=
  bigSep_mono fun a _ => h a

section
variable (c : Dev nD) {sh : Shape} {e : EltTy} {T : Type} [Fintype T] [DecidableEq T]

/-- A memref at some contents is its elements at some contents of the buffer. -/
theorem any_pts (m : Memref sig .tc .vmem sh e) :
    (any' (F := F) c m : sProp 𝕄) ⊢ iprop(∃ g, m.view.loc (c : Thread nD τ) ↦[m.view.set]{fullShare} g) := by
  iintro ⟨%X, H⟩
  ihave H := (show at' (F := F) c m fullShare X ⊢ iprop(∃ g, ⌜m.view.read (Elt F) g = X⌝ ∗ m.view.loc (c : Thread nD τ) ↦[m.view.set]{fullShare} g) from .rfl) $$ H
  icases H with ⟨%g, %hg, H⟩
  iexists g; iexact H
/-- A view owned at some contents, the other way round. -/
theorem pts_any (m : Memref sig .tc .vmem sh e) :
    iprop(∃ g, m.view.loc (c : Thread nD τ) ↦[m.view.set]{fullShare} g) ⊢ (any' (F := F) c m : sProp 𝕄) := by
  iintro ⟨%g, H⟩
  iexists m.view.read (Elt F) g
  iapply (owns_intro (c : Thread nD τ) m fullShare g); iexact H

/-- Some contents of a squeezed slot are some contents of the slot. -/
theorem any_squeeze {sh' : Shape} (m : Memref sig .tc .vmem sh e) (h : sh.Squeezes sh') :
    (any' (F := F) c (m.squeeze sh' h) : sProp 𝕄) = any' (F := F) c m := by
  refine BI.equiv_iff.mp ⟨?_, ?_⟩
  · refine (any_pts c _).trans ?_
    rw [Memref.set_view_squeeze]; exact pts_any c m
  · refine (any_pts c m).trans ?_
    have := pts_any (F := F) c (m.squeeze sh' h)
    rw [Memref.set_view_squeeze] at this; exact this

/-- A buffer at some contents is the product of its parts at some contents. -/
theorem any_split (m : Memref sig .tc .vmem sh e) (r : T → Rect sh) (hr : ∀ t a, (r t).stride a = 1)
    (hd : ∀ t t', t ≠ t' → Disjoint (r t).set (r t').set)
    (hcov : (Finset.univ : Finset T).biUnion (fun t => (r t).set) = Finset.univ) :
    (any' (F := F) c m : sProp 𝕄) ⊢ bigSep Finset.univ (fun t => any' (F := F) c (m.slice (r t) (hr t))) := by
  iintro ⟨%X, H⟩
  ihave H := (owns_rects (c : Thread nD τ) m fullShare r hr hd hcov X) $$ H
  iapply (bs_mono (fun t => owns (c : Thread nD τ) (m.slice (r t) (hr t)) fullShare (fun j => X ((r t).emb j)))
    (fun t => any' (F := F) c (m.slice (r t) (hr t))) (fun t => at_any c (m.slice (r t) (hr t)) _))
  iexact H

/-- The parts at some contents make the buffer. -/
theorem any_join (m : Memref sig .tc .vmem sh e) (r : T → Rect sh) (hr : ∀ t a, (r t).stride a = 1)
    (hd : ∀ t t', t ≠ t' → Disjoint (r t).set (r t').set)
    (hcov : (Finset.univ : Finset T).biUnion (fun t => (r t).set) = Finset.univ) :
    bigSep Finset.univ (fun t => any' (F := F) c (m.slice (r t) (hr t))) ⊢ (any' (F := F) c m : sProp 𝕄) := by
  refine (BI.bigSep_exists_pi Finset.univ (fun t X => at' (F := F) c (m.slice (r t) (hr t)) fullShare X)).trans ?_
  iintro ⟨%Xs, H⟩
  have hg (t : T) : (fun j => Rect.glue r hcov Xs ((r t).emb j)) = Xs t := funext fun y => Rect.glue_emb r hcov hd Xs t y
  iexists (Rect.glue r hcov Xs)
  iapply (owns_of_rects (c : Thread nD τ) m fullShare r hr hd hcov (Rect.glue r hcov Xs))
  simp only [hg]
  iexact H
end

/-! ## A device's slots by peer -/

/-- A family over an offset or none. -/
theorem bs_option (Φ : Option (Fin 7) → sProp 𝕄) :
    bigSep Finset.univ Φ = iprop(Φ none ∗ bigSep Finset.univ (fun r => Φ (some r))) := by
  rw [bigSep_univ_eq_bigSepL [none, some 0, some 1, some 2, some 3, some 4, some 5, some 6] (by decide) (by decide), bigSepL_cons, ← bs_asc]
  rfl

/-- The eight places of a ring: this device's and its peers'. -/
theorem bs_slot (c : Dev nD) (Φ : Fin 8 → sProp 𝕄) :
    bigSep Finset.univ Φ = iprop(Φ (ix c) ∗ bigSep Finset.univ (fun r => Φ (bx c r))) := by
  rw [bigSep_univ_equiv (slotE c) Φ, bs_option]; rfl
/-- A product over the slots: the device's own and those of its peers forward. -/
theorem bs_slot' (c : Dev nD) (Φ : Fin 8 → sProp 𝕄) :
    bigSep Finset.univ Φ = iprop(Φ (ix c) ∗ bigSep Finset.univ (fun r => Φ (ix (pr c r)))) := by
  rw [bs_slot c, ← bs_bk c (fun d => Φ (ix d))]

/-- The devices: this one and its mirror, the peers and theirs. -/
theorem bs_dev (c : Dev nD) (Φ : Dev nD → sProp 𝕄) :
    bigSep Finset.univ Φ = iprop((Φ (mi c) ∗ Φ c) ∗ bigSep Finset.univ (fun r => iprop(Φ (mi (pr c r)) ∗ Φ (pr c r)))) := by
  have hb : ∀ Ψ : Bool → sProp 𝕄, bigSep Finset.univ Ψ = iprop(Ψ true ∗ Ψ false) := fun Ψ => by
    rw [bigSep_univ_eq_bigSepL [true, false] (by decide) (by decide), bigSepL_cons, bigSepL_singleton]; rfl
  rw [bigSep_univ_equiv (devE c) Φ, bigSep_univ_prod, bs_option, hb, bigSep_congr (fun r _ => hb _)]
  rfl

/-- An eight-slot buffer cut up, for its peers to fill; -/
theorem split8 (c : Dev nD) (M : Memref sig .tc .vmem S8x64x1024 .bf16) :
    (any' (F := F) c M : sProp 𝕄) ⊢ iprop(any' (F := F) c (sl M (ix c)) ∗ bigSep Finset.univ (fun r => any' (F := F) c (sl M (ix (pr c r))))) := by
  refine (any_split c M r8 (fun _ _ => rfl) r8_disj r8_cover).trans (Entails.of_eq ?_)
  rw [bs_slot' c, any_squeeze c _ squeezes_S1x64x1024_S64x1024, bigSep_congr (fun r _ => any_squeeze c _ squeezes_S1x64x1024_S64x1024)]; rfl
/-- and put back together. -/
theorem join8 (c : Dev nD) (M : Memref sig .tc .vmem S8x64x1024 .bf16) :
    iprop(any' (F := F) c (sl M (ix c)) ∗ bigSep Finset.univ (fun r => any' (F := F) c (sl M (bx c r)))) ⊢ (any' (F := F) c M : sProp 𝕄) := by
  refine (Entails.of_eq ?_).trans (any_join c M r8 (fun _ _ => rfl) r8_disj r8_cover)
  rw [bs_slot c, any_squeeze c _ squeezes_S1x64x1024_S64x1024, bigSep_congr (fun r _ => any_squeeze c _ squeezes_S1x64x1024_S64x1024)]; rfl

/-- The send buffer's sixteen slots. -/
theorem snd_eq (c : Dev nD) :
    (any' (F := F) c sndM : sProp 𝕄) = iprop((any' (F := F) c (sd (mi c)) ∗ any' (F := F) c (sd c))
      ∗ bigSep Finset.univ (fun r => iprop(any' (F := F) c (sd (mi (pr c r))) ∗ any' (F := F) c (sd (pr c r))))) := by
  have h : (any' (F := F) c sndM : sProp 𝕄) = bigSep Finset.univ (fun k => any' (F := F) c (sd k)) := by
    rw [bigSep_congr (fun k _ => any_squeeze c _ squeezes_S1x64x1024_S64x1024)]
    exact BI.equiv_iff.mp ⟨any_split c sndM r16 (fun _ _ => rfl) r16_disj r16_cover, any_join c sndM r16 (fun _ _ => rfl) r16_disj r16_cover⟩
  rw [h, bs_dev c]

/-- The output's sixteen row blocks, by ring. -/
theorem bs_rows (c : Dev nD) (Φ : Dev nD → sProp 𝕄) :
    bigSep Finset.univ Φ = iprop((Φ (mi c) ∗ Φ c) ∗ bigSep Finset.univ (fun r => Φ (mi (bk c r))) ∗ bigSep Finset.univ (fun r => Φ (bk c r))) := by
  rw [bs_dev c, bs_bk c (fun d => Φ (mi d)), bs_bk c Φ, bigSep_sep']
/-- The output by row blocks, in the order in which the kernel writes them. -/
theorem split_out (c : Dev nD) :
    (any' (F := F) c outM : sProp 𝕄) ⊢ iprop((any' (F := F) c (row (mi c)) ∗ any' (F := F) c (row c))
      ∗ bigSep Finset.univ (fun r => any' (F := F) c (row (mi (bk c r)))) ∗ bigSep Finset.univ (fun r => any' (F := F) c (row (bk c r)))) :=
  (any_split c outM rO (fun _ _ => rfl) rO_disj rO_cover).trans (Entails.of_eq (bs_rows c _))

variable (I : Inp F)

/-- The whole output of device `c`. -/
def outAt (c : Dev nD) : Vec F S1024x1024 .f32 := Rect.glue rO rO_cover (fun d => outRow I c d)
/-- A row block of the output is what was written there. -/
theorem outAt_emb (c d : Dev nD) : (fun j => outAt I c ((rO d).emb j)) = outRow I c d :=
  funext fun y => Rect.glue_emb rO rO_cover rO_disj (fun d => outRow I c d) d y
/-- A device is not its mirror, -/
theorem mi_ne (c : Dev nD) : mi c ≠ c := by revert c; decide +kernel
/-- nor its peer back, -/
theorem bk_ne (c : Dev nD) (r : Fin 7) : bk c r ≠ c := by revert c r; decide +kernel
/-- nor that peer's mirror. -/
theorem mi_bk_ne (c : Dev nD) (r : Fin 7) : mi (bk c r) ≠ c := by revert c r; decide +kernel

/-- The row blocks, each written, make the output. -/
theorem join_out (c : Dev nD) :
    iprop((at' c (row (mi c)) fullShare (wide I (mi c)) ∗ at' c (row c) fullShare (gel I c))
      ∗ bigSep Finset.univ (fun r => at' c (row (mi (bk c r))) fullShare (wide I (mi (bk c r))))
      ∗ bigSep Finset.univ (fun r => at' c (row (bk c r)) fullShare (wide I (bk c r))))
      ⊢ (at' c outM fullShare (outAt I c) : sProp 𝕄) := by
  refine (Entails.of_eq ?_).trans (owns_of_rects (c : Thread nD τ) outM fullShare rO (fun _ _ => rfl) rO_disj rO_cover (outAt I c))
  simp only [outAt_emb]
  rw [bs_rows c]
  have h : ∀ d, d ≠ c → outRow I c d = wide I d := fun d h => if_neg h
  rw [h _ (mi_ne c), show outRow I c c = gel I c from if_pos rfl]
  simp only [fun r => h _ (bk_ne c r), fun r => h _ (mi_bk_ne c r)]

end Cert.KProof

end
-- ==== Proof.Shares.lean ====
/-
# A device's shares

The families a device holds — over all duties, over all its semaphores — member by member.
-/
module

public import proofs.«01_k».proof.Proof.Slots

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-- One family of copies. -/
abbrev fam (Φ : DD → sProp 𝕄) (a : Fam) : sProp 𝕄 := bigSep Finset.univ (fun r : Fin 7 => Φ (.inl (a, r)))

/-- All copies: the eight families and the four exchanges with the mirror. -/
theorem bs_DD (Φ : DD → sProp 𝕄) :
    bigSep Finset.univ Φ = iprop((fam Φ .pa ∗ fam Φ .pb ∗ fam Φ .ra ∗ fam Φ .rb ∗ fam Φ .qa ∗ fam Φ .sa ∗ fam Φ .qb ∗ fam Φ .sb)
      ∗ (Φ (.inr .f) ∗ Φ (.inr .fr) ∗ Φ (.inr .m) ∗ Φ (.inr .mr))) := by
  have h1 : bigSep Finset.univ (fun a : One => Φ (.inr a)) = iprop(Φ (.inr .f) ∗ Φ (.inr .fr) ∗ Φ (.inr .m) ∗ Φ (.inr .mr)) := by
    rw [bigSep_univ_eq_bigSepL [.f, .fr, .m, .mr] (by decide) (by decide)]
    simp only [bigSepL_cons_cons, bigSepL_singleton]; rfl
  have h2 : ∀ Ψ : Fam → sProp 𝕄, bigSep Finset.univ Ψ = iprop(Ψ .pa ∗ Ψ .pb ∗ Ψ .ra ∗ Ψ .rb ∗ Ψ .qa ∗ Ψ .sa ∗ Ψ .qb ∗ Ψ .sb) := fun Ψ => by
    rw [bigSep_univ_eq_bigSepL [.pa, .pb, .ra, .rb, .qa, .sa, .qb, .sb] (by decide) (by decide)]
    simp only [bigSepL_cons_cons, bigSepL_singleton]; rfl
  rw [bigSep_univ_sum, h1, bigSep_univ_prod, h2]; rfl

/-- All duties: the peers' and the mirror's entry signals, and the copies. -/
theorem bs_duty (Φ : Duty → sProp 𝕄) :
    bigSep Finset.univ Φ = iprop((Φ (.inl none) ∗ bigSep Finset.univ (fun r => Φ (.inl (some r)))) ∗ bigSep Finset.univ (fun δ => Φ (.inr δ))) := by
  rw [bigSep_univ_sum, bs_option]; rfl

/-- The eight semaphores of a device that nothing pays. -/
def un (c : Dev nD) (u : Fin 8) : Fin 68 :=
  ![0, 8, 36, 52, ⟨16 + (ix c).val, by omega⟩, ⟨24 + (ix c).val, by omega⟩, ⟨44 + (ix c).val, by omega⟩, ⟨60 + (ix c).val, by omega⟩] u

/-- The number of a copy's semaphore among the device's own. -/
def un' (c : Dev nD) (δ : DD) : Fin 68 := ⟨(dnum (fun r => ix (bk c r)) δ).val - 3, by
  have := (dnum (fun r => ix (bk c r)) δ).isLt; omega⟩

/-- The cells with no copy on them are different. -/
theorem un_inj (c : Dev nD) : ∀ u u', un c u = un c u' → u = u' := by revert c; decide +kernel
/-- None of them is a copy's cell. -/
theorem un_ne (c : Dev nD) : ∀ δ u, un' c δ ≠ un c u := by revert c; decide +kernel
/-- The copies' cells are different. -/
theorem un'_inj (c : Dev nD) : ∀ δ δ', un' c δ = un' c δ' → δ = δ' := fun δ δ' h => by
  apply dnum_inj c
  have h1 := dnum_ge (fun r => ix (bk c r)) δ
  have h2 := dnum_ge (fun r => ix (bk c r)) δ'
  have h3 : (dnum (fun r => ix (bk c r)) δ).val - 3 = (dnum (fun r => ix (bk c r)) δ').val - 3 := congrArg Fin.val h
  exact Fin.ext (by omega)

/-- A device's own semaphores: the copies', and the rest. -/
def cellE (c : Dev nD) : DD ⊕ Fin 8 ≃ Fin 68 :=
  Equiv.ofBijective (fun x => match x with | .inl δ => un' c δ | .inr u => un c u) <| by
    rw [Fintype.bijective_iff_injective_and_card]
    refine ⟨?_, by decide +kernel⟩
    rintro (a | a) (b | b) h
    · exact congrArg _ (un'_inj c a b h)
    · exact absurd h (un_ne c a b)
    · exact absurd h.symm (un_ne c b a)
    · exact congrArg _ (un_inj c a b h)

/-- All of a device's cells: the barrier's, the copies', and the rest. -/
theorem bs_cells (c : Dev nD) (Φ : GSem nD τ sig → sProp 𝕄) :
    bigSep Finset.univ (fun i : CI => Φ (kcell (c, i))) = iprop(Φ (cell c (.inl none)) ∗ bigSep Finset.univ (fun δ => Φ (cell c (.inr δ)))
      ∗ bigSep Finset.univ (fun u => Φ (kcell (c, .inr (un c u))))) := by
  rw [bigSep_univ_sum, bigSep_univ_equiv (cellE c) (fun i => Φ (kcell (c, .inr i))), bigSep_univ_sum]
  have h : ∀ δ : DD, Φ (kcell (c, .inr (cellE c (.inl δ)))) = Φ (cell c (.inr δ)) := fun δ => congrArg Φ (kcell_ci c (.inr δ))
  rw [bigSep_congr (fun δ _ => h δ), bigSep_univ_eq_bigSepL [()] (by decide) (by decide), bigSepL_singleton]
  rfl

variable (I : Inp F)

/-- The semaphores nothing pays stay at zero. -/
theorem close_rest (c : Dev nD) :
    iprop(ctx I ∗ bigSep Finset.univ (fun u => (atPos ER (kcell (c, .inr (un c u))) 0 ∅ 0 : sProp 𝕄)))
      ⊢ iprop(|={Set.univ}=> bigSep Finset.univ (fun u => (semVal (kcell (c, .inr (un c u))) 0 : sProp 𝕄))) := by
  refine (bigSep_with_persistent (R := ctx I) (Ψ := fun u => iprop(|={Set.univ}=> semVal (kcell (c, .inr (un c u))) 0)) (fun u _ => ?_)).trans (bigSep_fupd _ _)
  refine close_unused I c (un c u) (fun δ h => ?_)
  have h' : csem (ci c δ) = osem (un c u) := by
    have := congrArg Prod.snd (kcell_ci c δ)
    exact this.trans h
  rcases δ with o | δ
  · cases h'
  · have e : osem (un' c δ) = osem (un c u) := h'
    have e' : 3 + (un' c δ).val = 3 + (un c u).val := by
      injection e with e; injection e
    exact un_ne c δ u (Fin.ext (by omega))

/-! ## Four families at once -/

/-- Four products as one. -/
theorem zip4 {α : Type} [Fintype α] (Φ₁ Φ₂ Φ₃ Φ₄ : α → sProp 𝕄) :
    iprop(bigSep Finset.univ Φ₁ ∗ bigSep Finset.univ Φ₂ ∗ bigSep Finset.univ Φ₃ ∗ bigSep Finset.univ Φ₄)
      = bigSep Finset.univ (fun a => iprop(Φ₁ a ∗ Φ₂ a ∗ Φ₃ a ∗ Φ₄ a)) := by
  rw [bigSep_sep', bigSep_sep', bigSep_sep']

end Cert.KProof

end
-- ==== Proof.Body.lean ====
/-
# The body

One device's whole body: from what the launch hands it to what it leaves.
-/
module

public import proofs.«01_k».proof.Proof.Shares

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (I : Inp F) (c : Dev nD) {Q : PUnit.{1} → sProp (MT nD τ sig Unit (Elt F) ℕ UU ℕ)}

/-- The credit a device is launched with: the barrier's eight, and its fourteen and fourteen receives and the mirror's two. -/
def crd₀ : sProp 𝕄 :=
  iprop(cred (tallyAt (cell c (.inl none)) () 8)
    ∗ (bigSep Finset.univ (fun r : Fin 7 => crd c (dd .ra r)) ∗ bigSep Finset.univ (fun r : Fin 7 => crd c (dd .rb r))
      ∗ bigSep Finset.univ (fun r : Fin 7 => crd c (dd .sa r)) ∗ bigSep Finset.univ (fun r : Fin 7 => crd c (dd .sb r)))
    ∗ (crd c (d1 .fr) ∗ crd c (d1 .mr)))

/-- Every scratch buffer, at some contents. -/
def scr : sProp 𝕄 :=
  iprop(any' (F := F) c sndM ∗ any' (F := F) c paM ∗ any' (F := F) c pbM ∗ any' (F := F) c sfM ∗ any' (F := F) c fsM
    ∗ any' (F := F) c agM ∗ any' (F := F) c miM ∗ any' (F := F) c qaM ∗ any' (F := F) c qbM)

set_option maxHeartbeats 4000000 in
/-- The body's rule: from the setup, its tokens, places and credits, its scratch and its operands, a device's body
    ends with the output written, the scratch back and every semaphore at zero. -/
theorem body_run :
    iprop(ctx I ∗ Ow c lAll ∗ bigSep Finset.univ (fun δ : Duty => tok c δ)
        ∗ bigSep Finset.univ (fun i : CI => (atPos ER (kcell (c, i)) 0 ∅ 0 : sProp 𝕄)) ∗ crd₀ c
        ∗ at' c xM fullShare (I.x c) ∗ at' c wM fullShare (I.w c) ∗ any' (F := F) c outM ∗ scr c
        ∗ ((Ow c [] ∗ at' c xM fullShare (I.x c) ∗ at' c wM fullShare (I.w c) ∗ at' c outM fullShare (outAt I c) ∗ scr c
            ∗ bigSep Finset.univ (fun i : CI => (semVal (kcell (c, i)) 0 : sProp 𝕄))) -∗ Q ⟨⟩))
      ⊢ WP c (phAll c) Q := by
  rw [bs_duty, bs_DD, bs_cells c (fun g => (atPos ER g 0 ∅ 0 : sProp 𝕄)), bs_DD, bs_cells c (fun g => (semVal g 0 : sProp 𝕄)), bs_DD]
  unfold scr crd₀ phAll
  iintro ⟨#HC, HO, ⟨⟨⟨Tm, Te⟩, ⟨Tpa, Tpb, Tra, Trb, Tqa, Tsa, Tqb, Tsb⟩, Tf, Tfr, Tmm, Tmr⟩, ⟨Pbar, ⟨⟨Ppa, Ppb, Pra, Prb, Pqa, Psa, Pqb, Psb⟩, Pf, Pfr, Pm, Pmr⟩, Pun⟩,
    ⟨Cbar, ⟨Cra, Crb, Csa, Csb⟩, Cfr, Cmr⟩, HX, HW, Hout, ⟨Hsnd, Hpa, Hpb, Hsf, Hfs, Hag, Hmi, Hqa, Hqb⟩, Hk⟩⟩
  imod (close_rest I c) $$ [Pun] with Zun
  · isplitr
    · iexact HC
    · iexact Pun
  ihave Hpa := (split8 c paM) $$ Hpa
  ihave Hpb := (split8 c pbM) $$ Hpb
  ihave Hqa := (split8 c qaM) $$ Hqa
  ihave Hqb := (split8 c qbM) $$ Hqb
  icases Hpa with ⟨Opa, Hpa⟩
  icases Hpb with ⟨Opb, Hpb⟩
  icases Hqa with ⟨Oqa, Hqa⟩
  icases Hqb with ⟨Oqb, Hqb⟩
  ihave Hsnd := (Entails.of_eq (snd_eq (F := F) c)) $$ Hsnd
  icases Hsnd with ⟨Osnd, Hsnd⟩
  ihave Hout := (split_out c) $$ Hout
  icases Hout with ⟨⟨Rm, Rc⟩, Rb, Ra⟩
  -- the entry
  iapply (ph_entry I c _)
  isplitr; · iexact HC
  isplitl [HO]; · iexact HO
  isplitl [Te]; · iexact Te
  isplitl [Tm]; · iexact Tm
  isplitl [Hpa Hpb Hqa Hqb]
  · iapply (Entails.of_eq (zip4 (fun r : Fin 7 => any' (F := F) c (sl paM (ix (pr c r)))) (fun r => any' (F := F) c (sl pbM (ix (pr c r))))
      (fun r => any' (F := F) c (sl qaM (ix (pr c r)))) (fun r => any' (F := F) c (sl qbM (ix (pr c r))))))
    isplitl [Hpa]; · iexact Hpa
    isplitl [Hpb]; · iexact Hpb
    isplitl [Hqa]; · iexact Hqa
    iexact Hqb
  isplitl [Hfs]; · iexact Hfs
  isplitl [Hmi]; · iexact Hmi
  isplitl [Cbar]; · iexact Cbar
  isplitl [Pbar]; · iexact Pbar
  iintro ⟨HO, Zbar, Hin, Hfs, Hmi⟩
  ihave Hin := (Entails.of_eq (zip4 (fun r : Fin 7 => any' (F := F) (pr c r) (sl paM (ix c))) (fun r => any' (F := F) (pr c r) (sl pbM (ix c)))
      (fun r => any' (F := F) (pr c r) (sl qaM (ix c))) (fun r => any' (F := F) (pr c r) (sl qbM (ix c)))).symm) $$ Hin
  icases Hin with ⟨Ipa, Ipb, Iqa, Iqb⟩
  ihave Hsnd := (bs_unzip (fun r : Fin 7 => any' (F := F) c (sd (mi (pr c r)))) _) $$ Hsnd
  icases Hsnd with ⟨Hsb, Hsa⟩
  -- the first phase
  iapply (ph_p1 I c _)
  isplitr; · iexact HC
  isplitl [HO]; · iexact HO
  isplitl [HX]; · iexact HX
  isplitl [HW]; · iexact HW
  isplitl [Tpb Trb Hsb Ipb Tpa Tra Hsa Ipa]
  · iapply (bs_zip (fun r : Fin 7 => iprop(tok c (dd .pb r) ∗ tok c (dd .rb r) ∗ any' (F := F) c (sd (mi (pr c r))) ∗ any' (F := F) (pr c r) (sl pbM (ix c)))) _)
    isplitl [Tpb Trb Hsb Ipb]
    · iapply (Entails.of_eq (zip4 (fun r : Fin 7 => tok c (dd .pb r)) (fun r => tok c (dd .rb r)) _ _))
      isplitl [Tpb]; · iexact Tpb
      isplitl [Trb]; · iexact Trb
      isplitl [Hsb]; · iexact Hsb
      iexact Ipb
    · iapply (Entails.of_eq (zip4 (fun r : Fin 7 => tok c (dd .pa r)) (fun r => tok c (dd .ra r)) _ _))
      isplitl [Tpa]; · iexact Tpa
      isplitl [Tra]; · iexact Tra
      isplitl [Hsa]; · iexact Hsa
      iexact Ipa
  iintro ⟨HO, HX, HW, Cp⟩
  ihave Cp := (bs_unzip (fun r : Fin 7 => crd c (dd .pb r)) _) $$ Cp
  icases Cp with ⟨Cpb, Cpa⟩
  -- this device's own blocks
  iapply (wp_own I c (mi c) _ _ (off9_eq c) _)
  isplitl [HX]; · iexact HX
  isplitl [HW]; · iexact HW
  iintro ⟨HX, HW⟩
  iapply (wp_own I c c _ _ (off10_eq c) _)
  isplitl [HX]; · iexact HX
  isplitl [HW]; · iexact HW
  iintro ⟨HX, HW⟩
  -- the sum
  iapply (ph_sum I c _)
  isplitr; · iexact HC
  isplitl [HO]; · iexact HO
  isplitl [Crb Prb]
  · iapply (bs_zip (fun r : Fin 7 => crd c (dd .rb r)) _)
    isplitl [Crb]; · iexact Crb
    iexact Prb
  isplitl [Cra Pra]
  · iapply (bs_zip (fun r : Fin 7 => crd c (dd .ra r)) _)
    isplitl [Cra]; · iexact Cra
    iexact Pra
  isplitl [Hsf]; · iexact Hsf
  isplitl [Hfs]; · iexact Hfs
  isplitl [Tf]; · iexact Tf
  isplitl [Tfr]; · iexact Tfr
  isplitl [Cfr]; · iexact Cfr
  isplitl [Pfr]; · iexact Pfr
  iintro ⟨HO, Hb, Ha, Cf, Zfr, Hfs⟩
  ihave Hb := (bs_unzip (fun r : Fin 7 => zro c (dd .rb r)) _) $$ Hb
  icases Hb with ⟨Zrb, Hpb⟩
  ihave Ha := (bs_unzip (fun r : Fin 7 => zro c (dd .ra r)) _) $$ Ha
  icases Ha with ⟨Zra, Hpa⟩
  -- the share
  iapply (ph_share I c _)
  isplitr; · iexact HC
  isplitl [HO]; · iexact HO
  isplitl [Hag]; · iexact Hag
  isplitl [Hmi]; · iexact Hmi
  isplitl [Tmm]; · iexact Tmm
  isplitl [Tmr]; · iexact Tmr
  isplitl [Tqa Tsa Iqa]
  · iapply (bs_zip (fun r : Fin 7 => iprop(tok c (dd .qa r) ∗ tok c (dd .sa r))) _)
    isplitl [Tqa Tsa]
    · iapply (bs_zip (fun r : Fin 7 => tok c (dd .qa r)) _)
      isplitl [Tqa]; · iexact Tqa
      iexact Tsa
    · iexact Iqa
  isplitl [Rc]; · iexact Rc
  iintro ⟨HO, Cm, Cqa, Rc⟩
  -- the relay
  iapply (ph_relay I c _)
  isplitr; · iexact HC
  isplitl [HO]; · iexact HO
  isplitl [Cmr]; · iexact Cmr
  isplitl [Pmr]; · iexact Pmr
  isplitl [Tqb Tsb Iqb]
  · iapply (bs_zip (fun r : Fin 7 => iprop(tok c (dd .qb r) ∗ tok c (dd .sb r))) _)
    isplitl [Tqb Tsb]
    · iapply (bs_zip (fun r : Fin 7 => tok c (dd .qb r)) _)
      isplitl [Tqb]; · iexact Tqb
      iexact Tsb
    · iexact Iqb
  isplitl [Rm]; · iexact Rm
  iintro ⟨HO, Zmr, Cqb, Hmi, Rm⟩
  -- the gathering
  iapply (ph_gather I c _)
  isplitr; · iexact HC
  isplitl [HO]; · iexact HO
  isplitl [Csa Psa Ra]
  · iapply (bs_zip (fun r : Fin 7 => iprop(crd c (dd .sa r) ∗ pos c (dd .sa r))) _)
    isplitl [Csa Psa]
    · iapply (bs_zip (fun r : Fin 7 => crd c (dd .sa r)) _)
      isplitl [Csa]; · iexact Csa
      iexact Psa
    · iexact Ra
  isplitl [Csb Psb Rb]
  · iapply (bs_zip (fun r : Fin 7 => iprop(crd c (dd .sb r) ∗ pos c (dd .sb r))) _)
    isplitl [Csb Psb]
    · iapply (bs_zip (fun r : Fin 7 => crd c (dd .sb r)) _)
      isplitl [Csb]; · iexact Csb
      iexact Psb
    · iexact Rb
  iintro ⟨HO, Ga, Gb⟩
  ihave Ga := (bs_unzip (fun r : Fin 7 => iprop(zro c (dd .sa r) ∗ at' c (sl qaM (bx c r)) fullShare (AG I (bk c r)))) _) $$ Ga
  icases Ga with ⟨Ga, Ra⟩
  ihave Ga := (bs_unzip (fun r : Fin 7 => zro c (dd .sa r)) _) $$ Ga
  icases Ga with ⟨Zsa, Hqa⟩
  ihave Gb := (bs_unzip (fun r : Fin 7 => iprop(zro c (dd .sb r) ∗ at' c (sl qbM (bx c r)) fullShare (AG I (mi (bk c r))))) _) $$ Gb
  icases Gb with ⟨Gb, Rb⟩
  ihave Gb := (bs_unzip (fun r : Fin 7 => zro c (dd .sb r)) _) $$ Gb
  icases Gb with ⟨Zsb, Hqb⟩
  -- the last waits
  iapply (ph_done I c)
  isplitr; · iexact HC
  isplitl [HO]; · iexact HO
  isplitl [Cpb Ppb Cpa Ppa]
  · iapply (bs_zip (fun r : Fin 7 => iprop(crd c (dd .pb r) ∗ pos c (dd .pb r))) _)
    isplitl [Cpb Ppb]
    · iapply (bs_zip (fun r : Fin 7 => crd c (dd .pb r)) _)
      isplitl [Cpb]; · iexact Cpb
      iexact Ppb
    · iapply (bs_zip (fun r : Fin 7 => crd c (dd .pa r)) _)
      isplitl [Cpa]; · iexact Cpa
      iexact Ppa
  isplitl [Cf Pf]
  · isplitl [Cf]; · iexact Cf
    iexact Pf
  isplitl [Cm Pm]
  · isplitl [Cm]; · iexact Cm
    iexact Pm
  isplitl [Cqa Pqa]
  · iapply (bs_zip (fun r : Fin 7 => crd c (dd .qa r)) _)
    isplitl [Cqa]; · iexact Cqa
    iexact Pqa
  isplitl [Cqb Pqb]
  · iapply (bs_zip (fun r : Fin 7 => crd c (dd .qb r)) _)
    isplitl [Cqb]; · iexact Cqb
    iexact Pqb
  iintro ⟨HO, Dp, ⟨Df, Zf⟩, ⟨Dm, Zm⟩, Da, Db⟩
  ihave Dp := (bs_unzip (fun r : Fin 7 => iprop(pay I c (dd .pb r) ∗ zro c (dd .pb r))) _) $$ Dp
  icases Dp with ⟨Dpb, Dpa⟩
  ihave Dpb := (bs_unzip (fun r : Fin 7 => pay I c (dd .pb r)) _) $$ Dpb
  icases Dpb with ⟨Dpb, Zpb⟩
  ihave Dpa := (bs_unzip (fun r : Fin 7 => pay I c (dd .pa r)) _) $$ Dpa
  icases Dpa with ⟨Dpa, Zpa⟩
  ihave Da := (bs_unzip (fun r : Fin 7 => pay I c (dd .qa r)) _) $$ Da
  icases Da with ⟨Da, Zqa⟩
  ihave Db := (bs_unzip (fun r : Fin 7 => pay I c (dd .qb r)) _) $$ Db
  icases Db with ⟨Db, Zqb⟩
  iapply Hk
  isplitl [HO]; · iexact HO
  isplitl [HX]; · iexact HX
  isplitl [HW]; · iexact HW
  isplitl [Rm Rc Ra Rb]
  · iapply (join_out I c)
    isplitl [Rm Rc]
    · isplitl [Rm]; · iexact Rm
      iexact Rc
    isplitl [Rb]; · iexact Rb
    iexact Ra
  isplitl [Osnd Dpb Dpa Opa Hpa Opb Hpb Df Hfs Dm Da Hmi Db Oqa Hqa Oqb Hqb]
  · isplitl [Osnd Dpb Dpa]
    · iapply (Entails.of_eq (snd_eq (F := F) c).symm)
      isplitl [Osnd]; · iexact Osnd
      iapply (bs_zip (fun r : Fin 7 => any' (F := F) c (sd (mi (pr c r)))) _)
      isplitl [Dpb]
      · iapply (bs_mono (fun r : Fin 7 => pay I c (dd .pb r)) _ (fun r => at_any c (sd (mi (pr c r))) (P I c (mi (pr c r))))); iexact Dpb
      · iapply (bs_mono (fun r : Fin 7 => pay I c (dd .pa r)) _ (fun r => at_any c (sd (pr c r)) (P I c (pr c r)))); iexact Dpa
    isplitl [Opa Hpa]
    · iapply (join8 c paM)
      isplitl [Opa]; · iexact Opa
      iapply (bs_mono _ _ (fun r : Fin 7 => at_any c (sl paM (bx c r)) (P I (bk c r) c))); iexact Hpa
    isplitl [Opb Hpb]
    · iapply (join8 c pbM)
      isplitl [Opb]; · iexact Opb
      iapply (bs_mono _ _ (fun r : Fin 7 => at_any c (sl pbM (bx c r)) (P I (bk c r) (mi c)))); iexact Hpb
    isplitl [Df]
    · ihave Df := (Entails.of_eq (show pay I c (d1 .f) = at' c sfM fullShare (Sb I c) from rfl)) $$ Df
      iapply (at_any c sfM (Sb I c)); iexact Df
    isplitl [Hfs]; · iexact Hfs
    isplitl [Dm Da]
    · iapply (at_any c agM (AG I c))
      iapply (toks_join c cc0_scratch5 (AG I c))
      isplitl [Dm]
      · ihave Dm := (Entails.of_eq (show pay I c (d1 .m) = at' c agM qRest (AG I c) from rfl)) $$ Dm
        iexact Dm
      iexact Da
    isplitl [Hmi Db]
    · iapply (at_any c miM (AG I (mi c)))
      iapply (toks_join c cc0_scratch6 (AG I (mi c)))
      isplitl [Hmi]; · iexact Hmi
      iexact Db
    isplitl [Oqa Hqa]
    · iapply (join8 c qaM)
      isplitl [Oqa]; · iexact Oqa
      iapply (bs_mono _ _ (fun r : Fin 7 => at_any c (sl qaM (bx c r)) (AG I (bk c r)))); iexact Hqa
    · iapply (join8 c qbM)
      isplitl [Oqb]; · iexact Oqb
      iapply (bs_mono _ _ (fun r : Fin 7 => at_any c (sl qbM (bx c r)) (AG I (mi (bk c r))))); iexact Hqb
  isplitl [Zbar]; · iexact Zbar
  isplitr [Zun]
  · isplitr [Zf Zfr Zm Zmr]
    · isplitl [Zpa]; · iexact Zpa
      isplitl [Zpb]; · iexact Zpb
      isplitl [Zra]; · iexact Zra
      isplitl [Zrb]; · iexact Zrb
      isplitl [Zqa]; · iexact Zqa
      isplitl [Zsa]; · iexact Zsa
      isplitl [Zqb]; · iexact Zqb
      iexact Zsb
    · isplitl [Zf]; · iexact Zf
      isplitl [Zfr]; · iexact Zfr
      isplitl [Zm]; · iexact Zm
      iexact Zmr
  iexact Zun

end Cert.KProof

end
-- ==== Proof.Credit.lean ====
/-
# What the launch gives each device

How much of each cell's credit the devices owe together when they start, and from that the credit each device is
launched with.
-/
module

public import proofs.«01_k».proof.Proof.Body

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-- What a device owes at the start. -/
def O₀ (c : Dev nD) : CellTallies nD τ sig Unit := owedBy c lAll

/-- How often a duty stands on a list. -/
def times (l : List Duty) (δ : Duty) : ℕ := (l.map fun δ' => if δ' = δ then 1 else 0).sum

/-- How often a duty stands in a longer list. -/
theorem times_cons (δ' : Duty) (l : List Duty) (δ : Duty) : times (δ' :: l) δ = times l δ + if δ' = δ then 1 else 0 := by
  unfold times; rw [List.map_cons, List.sum_cons, Nat.add_comm]

/-- A duty does not stand in the empty list. -/
theorem times_nil (δ : Duty) : times [] δ = 0 := rfl

/-- A list of duties, counted duty by duty: what it owes at a cell. -/
theorem owedBy_count (d : Dev nD) (l : List Duty) (g : GSem nD τ sig) :
    owedBy d l g () = ∑ δ : Duty, times l δ * (if g = cell (tgt d δ) δ then amt δ else 0) := by
  induction l with
  | nil =>
    simp only [owedBy_nil, times_nil, Nat.zero_mul, Finset.sum_const_zero, Pi.zero_apply, Finsupp.zero_apply]
  | cons δ' l ih =>
    rw [owedBy_cons, Pi.add_apply, Finsupp.add_apply, tallyAt_apply, ih]
    simp only [times_cons, Nat.add_mul, Finset.sum_add_distrib]
    refine congrArg (HAdd.hAdd _) ?_
    rw [Finset.sum_eq_single δ']
    · rw [if_pos rfl, Nat.one_mul]
      exact if_congr ⟨fun h => h.1, fun h => ⟨h, trivial⟩⟩ rfl rfl
    · intro δ _ h
      rw [if_neg fun h' => h h'.symm, Nat.zero_mul]
    · intro h; exact absurd (Finset.mem_univ _) h

/-- A duty of device `d` pays a cell of device `c` exactly where `c` is its target and the semaphore its own. -/
theorem cell_eq_iff (c d : Dev nD) (s : SemLoc sig) (δ : Duty) :
    (((c : Thread nD τ), s) : GSem nD τ sig) = cell (tgt d δ) δ ↔ d = (tgtE δ).symm c ∧ s = loc c δ := by
  constructor
  · intro h
    have h1 : c = tgt d δ := by have := congrArg (fun g : GSem nD τ sig => g.1.1) h; exact this
    have h2 : s = loc (tgt d δ) δ := congrArg Prod.snd h
    exact ⟨by rw [h1]; exact ((tgtE δ).symm_apply_apply d).symm, by rw [h1]; exact h2⟩
  · rintro ⟨h1, h2⟩
    have h3 : tgt d δ = c := by rw [h1]; exact (tgtE δ).apply_symm_apply c
    rw [h3, h2]

/-- All that is owed at a cell at the start. -/
theorem launch_sum (c : Dev nD) (s : SemLoc sig) :
    launchCredit (Pipeline.owing O₀) 0 ((c : Thread nD τ), s) () = ∑ δ : Duty, times lAll δ * (if s = loc c δ then amt δ else 0) := by
  rw [Pipeline.launchCredit_owing]
  unfold O₀
  simp only [owedBy_count]
  rw [Finset.sum_comm]
  refine Finset.sum_congr rfl fun δ _ => ?_
  rw [← Finset.mul_sum]
  refine congrArg (HMul.hMul _) ?_
  rw [Finset.sum_eq_single ((tgtE δ).symm c)]
  · exact if_congr ⟨fun h => ((cell_eq_iff c _ s δ).mp h).2, fun h => (cell_eq_iff c _ s δ).mpr ⟨rfl, h⟩⟩ rfl rfl
  · intro d _ h
    exact if_neg fun h' => h ((cell_eq_iff c d s δ).mp h').1
  · intro h; exact absurd (Finset.mem_univ _) h

/-- A copy on the launch's list brings its cell one row's credit. -/
theorem launch_copy (c : Dev nD) (δ : DD) (h : times lAll (.inr δ) = 1) :
    tallyOn (cell c (.inr δ)) (launchCredit (Pipeline.owing O₀) 0 (cell c (.inr δ))) = (tallyAt (cell c (.inr δ)) () (amt (.inr δ)) : CellTallies nD τ sig Unit) := by
  unfold tallyAt; refine congrArg _ (Finsupp.ext fun u => ?_); cases u
  rw [launch_sum, Finsupp.single_eq_same, Finset.sum_eq_single (Sum.inr δ)]
  · rw [h, if_pos rfl, Nat.one_mul]
  · intro δ' _ hne
    rw [if_neg fun h' => hne (loc_inj c h'.symm), Nat.mul_zero]
  · intro h; exact absurd (Finset.mem_univ _) h

/-- Each barrier signal is owed once. -/
theorem once_bar : ∀ o, times lAll (.inl o) = 1 := by decide +kernel

/-- The barrier is owed eight. -/
theorem launch_bar (c : Dev nD) :
    tallyOn (cell c (.inl none)) (launchCredit (Pipeline.owing O₀) 0 (cell c (.inl none))) = (tallyAt (cell c (.inl none)) () 8 : CellTallies nD τ sig Unit) := by
  unfold tallyAt; refine congrArg _ (Finsupp.ext fun u => ?_); cases u
  rw [launch_sum, Finsupp.single_eq_same, Fintype.sum_sum_type, Finset.sum_eq_zero (s := (Finset.univ : Finset DD))]
  · rw [Nat.add_zero, Finset.sum_congr rfl fun o _ => show _ = 1 by rw [once_bar o, Nat.one_mul]; exact if_pos rfl]
    rfl
  · intro δ _
    rw [if_neg fun h => loc_dma_ne c δ h.symm, Nat.mul_zero]

/-- The cells of a device have different semaphores. -/
theorem csem_inj : Function.Injective csem := by
  intro a b h
  rcases a with a | a <;> rcases b with b | b
  · rfl
  · cases h
  · cases h
  · have : (3 + a.val : ℕ) = 3 + b.val := by
      have h' : osem a = osem b := h
      simp only [osem, SemLoc.dma.injEq, Fin.mk.injEq] at h'; exact h'
    exact congrArg Sum.inr (Fin.ext (by omega))

/-- Each first-phase landing for this half is owed once, -/
theorem once_ra : ∀ r, times lAll (dd .ra r) = 1 := by decide +kernel
/-- each for the far half, -/
theorem once_rb : ∀ r, times lAll (dd .rb r) = 1 := by decide +kernel
/-- each landing of a gathered block, -/
theorem once_sa : ∀ r, times lAll (dd .sa r) = 1 := by decide +kernel
/-- each of a gathered mirror's block, -/
theorem once_sb : ∀ r, times lAll (dd .sb r) = 1 := by decide +kernel
/-- the landing of the mirror's partial sum, -/
theorem once_fr : times lAll (d1 .fr) = 1 := by decide +kernel
/-- and the landing of the mirror's result. -/
theorem once_mr : times lAll (d1 .mr) = 1 := by decide +kernel

/-- A family whose duties are each owed once is credited one copy at each of its cells. -/
theorem fam_crd (c : Dev nD) (a : Fam) (h : ∀ r, times lAll (dd a r) = 1) :
    fam (fun δ => (cred (tallyOn (cell c (.inr δ)) (launchCredit (Pipeline.owing O₀) 0 (cell c (.inr δ)))) : sProp 𝕄)) a
      ⊢ bigSep Finset.univ (fun r : Fin 7 => crd c (dd a r)) :=
  bs_mono _ _ fun r => Entails.of_eq (congrArg cred (launch_copy c _ (h r)))

/-- The credit of a device at the launch holds the credit its body starts from. -/
theorem creds (c : Dev nD) : (Pipeline.launchCred O₀ c : sProp 𝕄) ⊢ crd₀ c := by
  have h1 : (Pipeline.launchCred O₀ c : sProp 𝕄)
      ⊢ bigSep Finset.univ (fun i : CI => (cred (tallyOn (kcell (c, i)) (launchCredit (Pipeline.owing O₀) 0 (kcell (c, i)))) : sProp 𝕄)) := by
    unfold Pipeline.launchCred
    refine (BI.bigSep_subset (Finset.subset_univ (Finset.univ.map ⟨csem, csem_inj⟩))).trans ?_
    rw [bigSep_map]; exact BI.Entails.refl _
  refine h1.trans ?_
  rw [bs_cells c (fun g => (cred (tallyOn g (launchCredit (Pipeline.owing O₀) 0 g)) : sProp 𝕄)), bs_DD]
  unfold crd₀
  iintro ⟨Hb, ⟨⟨-, -, Hra, Hrb, -, Hsa, -, Hsb⟩, -, Hfr, -, Hmr⟩, -⟩
  isplitl [Hb]
  · iapply (Entails.of_eq (congrArg cred (launch_bar c))); iexact Hb
  isplitl [Hra Hrb Hsa Hsb]
  · isplitl [Hra]; · iapply (fam_crd c .ra once_ra); iexact Hra
    isplitl [Hrb]; · iapply (fam_crd c .rb once_rb); iexact Hrb
    isplitl [Hsa]; · iapply (fam_crd c .sa once_sa); iexact Hsa
    iapply (fam_crd c .sb once_sb); iexact Hsb
  · isplitl [Hfr]; · iapply (Entails.of_eq (congrArg cred (launch_copy c (.inr .fr) once_fr))); iexact Hfr
    iapply (Entails.of_eq (congrArg cred (launch_copy c (.inr .mr) once_mr))); iexact Hmr

end Cert.KProof

end
-- ==== Proof.Oblig.lean ====
/-
# The kernel body under its pipeline

What the windows hold before and after the one grid point, what the body starts from, and that the body takes the
first to the second.
-/
module

public import proofs.«01_k».proof.Proof.Credit
public import proofs.«01_k».proof.Proof.Gen.KernelIdeal.Frame

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The blocks the devices stage from their argument arrays. -/
def inp : Inp F where
  x c := iblk m c 0 t0_0
  w c := iblk m c 1 t0_0

/-- What a device's body starts from, its scratch aside. -/
def start (c : Dev nD) : sProp 𝕄 :=
  iprop(ctx (inp m) ∗ bigSep Finset.univ (fun δ : Duty => tok c δ)
    ∗ bigSep Finset.univ (fun i : CI => (atPos ER (kcell (c, i)) 0 ∅ 0 : sProp 𝕄)) ∗ crd₀ c)

def Φ₀ (c : Dev nD) : sProp 𝕄 := iprop(start m c ∗ scr c)
def Φ₁ (c : Dev nD) : sProp 𝕄 := iprop(scr c ∗ bigSep Finset.univ (fun i : CI => (semVal (kcell (c, i)) 0 : sProp 𝕄)))

/-- The windows' contents around the body, and what else is held and owed there. -/
def dats (_ : Fin 1) (c : Dev nD) : Dat τ (Elt F) Unit ℕ UU ℕ cfg0 c where
  A w := m ((cfg0.win w).arr.view.loc (c : Thread nD τ))
  after w _ := match w with
    | ⟨0, _⟩ => (inp m).x c
    | ⟨1, _⟩ => (inp m).w c
    | ⟨2, _⟩ => outAt (inp m) c
  Φ t := match t with
    | ⟨0, _⟩ => Φ₀ m c
    | ⟨_ + 1, _⟩ => Φ₁ c
  q _ := fullShare
  owed t := match t with
    | ⟨0, _⟩ => O₀ c
    | ⟨_ + 1, _⟩ => 0

/-- The pipeline stages the device's block of `x`, -/
theorem before_x (c : Dev nD) (d) : (dats m 0 c).before (0 : Fin 3) t0_0 d = (inp m).x c := by
  unfold Dat.before; rw [if_pos (fetch0_0 t0_0)]; rfl
/-- and its block of `w`. -/
theorem before_w (c : Dev nD) (d) : (dats m 0 c).before (1 : Fin 3) t0_0 d = (inp m).w c := by
  unfold Dat.before; rw [if_pos (fetch0_1 t0_0)]; rfl

def bodyPre (c : Dev nD) : sProp 𝕄 :=
  iprop(Φ₀ m c ∗ (dats m 0 c).owesAt () t0_0.castSucc
    ∗ (∃ d, at' c xM fullShare ((dats m 0 c).before (0 : Fin 3) t0_0 d))
    ∗ (∃ d, at' c wM fullShare ((dats m 0 c).before (1 : Fin 3) t0_0 d))
    ∗ (∃ d, at' c outM fullShare ((dats m 0 c).before (2 : Fin 3) t0_0 d)))

def bodyPost (c : Dev nD) : sProp 𝕄 :=
  iprop(Φ₁ c ∗ (dats m 0 c).owesAt () t0_0.succ
    ∗ at' c xM fullShare ((inp m).x c) ∗ at' c wM fullShare ((inp m).w c) ∗ at' c outM fullShare (outAt (inp m) c))

/-- The body, from what its windows hold to what it leaves in them. -/
theorem sound_body (c : Dev nD) :
    bodyPre m c ⊢ WP c (cc0_body xM (whole' _) wM (whole' _) outM (whole' _) sndM (whole' _) paM (whole' _) pbM (whole' _) sfM (whole' _) fsM (whole' _)
      agM (whole' _) miM (whole' _) qaM (whole' _) qbM (whole' _) cc0_scratch9 cc0_scratch10 cc0_scratch11 cc0_scratch12 cc0_scratch13
      cc0_scratch14 cc0_scratch15 cc0_scratch16 cc0_scratch17 cc0_scratch18 cc0_scratch19 cc0_scratch20) (fun _ => bodyPost m c) := by
  rw [body_eq]
  simp only [WP, wp_deviceId]
  unfold bodyPre Φ₀ start
  iintro ⟨⟨⟨HC, HT, HP, HK⟩, Hs⟩, Ho, ⟨%d0, Hx⟩, ⟨%d1, Hw⟩, ⟨%d2, Hout⟩⟩
  ihave Hx := (Entails.of_eq (congrArg (at' c xM fullShare) (before_x m c d0))) $$ Hx
  ihave Hw := (Entails.of_eq (congrArg (at' c wM fullShare) (before_w m c d1))) $$ Hw
  unfold Dat.owesAt Pipeline.owesWithin
  icases Ho with ⟨%W, %hW, HO⟩
  iapply (body_run (inp m) c)
  isplitl [HC]; · iexact HC
  isplitl [HO]; · unfold Ow; iexists W; iexact HO
  isplitl [HT]; · iexact HT
  isplitl [HP]; · iexact HP
  isplitl [HK]; · iexact HK
  isplitl [Hx]; · iexact Hx
  isplitl [Hw]; · iexact Hw
  isplitl [Hout]; · iexists _; iexact Hout
  isplitl [Hs]; · iexact Hs
  iintro ⟨HO, Hx, Hw, Hout, Hs, Hz⟩
  unfold bodyPost Φ₁ Dat.owesAt Pipeline.owesWithin Ow
  icases HO with ⟨%W', HO⟩
  isplitl [Hs Hz]
  · isplitl [Hs]; · iexact Hs
    iexact Hz
  isplitl [HO]
  · iexists W'
    isplitr
    · ipureintro; exact fun _ _ => Or.inl trivial
    · iexact HO
  isplitl [Hx]; · iexact Hx
  isplitl [Hw]; · iexact Hw
  iexact Hout

set_option maxRecDepth 100000 in
/-- The body does what the pipeline asks of it at its one grid point. -/
theorem body_obligation (c : Dev nD) : BodyObligation (dats (F := F) m 0 c) (defs₀ (F := F)) 𝒱₀ () Set.univ := fun t => by
  rw [fin_N0 t]
  rw [bigSep_W0, bigSep_W0]
  show bodyPre m c ⊢ wp frame (wpE (defs₀ (F := F)) 𝒱₀ c none) Set.univ _ (fun _ => bodyPost m c)
  exact sound_body m c

end Cert.KProof

end
-- ==== Proof.Launch.lean ====
/-
# The launch

The cells are set up, their tokens are dealt to the devices that pay with them, and every device's body runs: the
kernel's run, at any float values.
-/
module

public import proofs.«01_k».proof.Proof.Oblig
public import Idealize.ShloMosaic.Lib.Pipeline.CollectiveSegs

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own semaphores are distinct, scoped and not the pipeline's. -/
theorem ownSemFacts : Pipeline.OwnSemFacts cfg0.spec osem := by decide +kernel

/-- Every window is held whole. -/
theorem share_eq (c : Dev nD) (w : Fin cfg0.W) : (dats m 0 c).share w = fullShare := by unfold Dat.share; split <;> rfl

/-! ## The cells and the tokens -/

/-- Different cells have different names. -/
theorem kcell_inj : Function.Injective kcell := by
  rintro ⟨c, i⟩ ⟨d, j⟩ h
  have h1 : c = d := by have := congrArg (fun g : GSem nD τ sig => g.1.1) h; exact this
  have h2 : csem i = csem j := congrArg Prod.snd h
  rw [h1, csem_inj h2]
def allCells : Finset (GSem nD τ sig) := Finset.univ.map ⟨kcell, kcell_inj⟩

abbrev tokOf (p : Dev nD × Duty) : GSem nD τ sig × ℕ × Duty := (cell p.1 p.2, 0, p.2)
/-- Different duties have different tokens. -/
theorem tokOf_inj : Function.Injective tokOf := by
  rintro ⟨c, a⟩ ⟨d, b⟩ h
  have h1 : c = d := by have := congrArg (fun x : GSem nD τ sig × ℕ × Duty => x.1.1.1) h; exact this
  have h2 : a = b := congrArg (fun x : GSem nD τ sig × ℕ × Duty => x.2.2) h
  rw [h1, h2]
def allToks : Finset (GSem nD τ sig × ℕ × Duty) := Finset.univ.map ⟨tokOf, tokOf_inj⟩

/-- The launch's element: the pipeline's and the cells'. -/
def u₀ : UU := (initOf (Pipeline.cells cfgs cellOf_inj) (Pipeline.launchToks cfgs cellOf_inj), initOf allCells allToks)

/-- What the launch deals a device: its cells' states, its places and marks there, its cells' tokens. -/
def G (c : Dev nD) : sProp 𝕄 :=
  iprop((bigSep Finset.univ fun i : CI => roundState ER (Rd (inp m)) (kcell (c, i)) 0)
    ∗ (bigSep Finset.univ fun i : CI => (atPos ER (kcell (c, i)) 0 ∅ 0 : sProp 𝕄))
    ∗ (bigSep Finset.univ fun i : CI => (reached ER (kcell (c, i)) 0 : sProp 𝕄))
    ∗ bigSep Finset.univ fun δ : Duty => (dutyTok ER (cell c δ) 0 δ : sProp 𝕄))

/-- What is known of the cells for good, the levels aside. -/
def known : sProp 𝕄 :=
  iprop(∃ K : Dev nD × CI → ℕ, bigSep Finset.univ (fun ck => cellInv ER (Rd (inp m)) (K ck) (kcell ck))
    ∗ bigSep Finset.univ (fun ck : Dev nD × CI => (reached ER (kcell ck) 0 : sProp 𝕄)))

/-- What is known for good may be used again and again. -/
instance known_persistent : BI.Persistent (known m) := by unfold known; infer_instance

/-- What a device holds of its own once the tokens are dealt. -/
def mine (c : Dev nD) : sProp 𝕄 :=
  iprop(bigSep Finset.univ (fun i : CI => (atPos ER (kcell (c, i)) 0 ∅ 0 : sProp 𝕄)) ∗ bigSep Finset.univ (fun δ : Duty => tok c δ))

def G' (c : Dev nD) : sProp 𝕄 := iprop(known m ∗ mine c)

/-- A product over all cells, device by device. -/
theorem by_dev (Φ : Dev nD × CI → sProp (MT nD τ sig Unit (Elt F) ℕ UU ℕ)) :
    bigSep Finset.univ Φ = bigSep Finset.univ fun c : Dev nD => bigSep Finset.univ fun i : CI => Φ (c, i) :=
  bigSep_univ_prod Φ

/-- Four products over the devices as one. -/
theorem four_zip (Φ₁ Φ₂ Φ₃ Φ₄ : Dev nD → sProp (MT nD τ sig Unit (Elt F) ℕ UU ℕ)) :
    iprop(bigSep Finset.univ Φ₁ ∗ bigSep Finset.univ Φ₂ ∗ bigSep Finset.univ Φ₃ ∗ bigSep Finset.univ Φ₄)
      ⊢ bigSep Finset.univ (fun a => iprop(Φ₁ a ∗ Φ₂ a ∗ Φ₃ a ∗ Φ₄ a)) := Entails.of_eq (zip4 Φ₁ Φ₂ Φ₃ Φ₄)

/-- The launch's element, dealt. -/
theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun i : CI => Φ (kcell (c, i)) := by
    unfold allCells; rw [bigSep_map]; exact bigSep_univ_prod _
  have hT : bigSep allToks (fun x => (dutyTok ER x.1 x.2.1 x.2.2 : sProp 𝕄))
      = bigSep Finset.univ fun c : Dev nD => bigSep Finset.univ fun δ : Duty => (dutyTok ER (cell c δ) 0 δ : sProp 𝕄) := by
    unfold allToks; rw [bigSep_map]; exact bigSep_univ_prod _
  iintro HX
  imod (Rounds.fund ER (Rd (inp m)) allCells allToks) $$ HX with ⟨Hst, Hr, Hat, Htok⟩
  imodintro
  ihave Hst := (Entails.of_eq (hX fun g => roundState ER (Rd (inp m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G
  iapply (four_zip (fun c : Dev nD => bigSep Finset.univ fun i : CI => roundState ER (Rd (inp m)) (kcell (c, i)) 0)
    (fun c : Dev nD => bigSep Finset.univ fun i : CI => (atPos ER (kcell (c, i)) 0 ∅ 0 : sProp 𝕄))
    (fun c : Dev nD => bigSep Finset.univ fun i : CI => (reached ER (kcell (c, i)) 0 : sProp 𝕄))
    (fun c : Dev nD => bigSep Finset.univ fun δ : Duty => (dutyTok ER (cell c δ) 0 δ : sProp 𝕄)))
  isplitl [Hst]; · iexact Hst
  isplitl [Hat]; · iexact Hat
  isplitl [Hr]; · iexact Hr
  iexact Htok

/-! ## The semaphores -/

/-- The one semaphore that outlives the kernel is the barrier's. -/
theorem unscoped_eq (c : Dev nD) : (unscopedSems0 c : sProp 𝕄) = semVal (kcell (c, .inl ())) 0 := by
  unfold unscopedSems0; rw [bigSep_eq_bigSepL_of_eq [SemLoc.reg barS] (by decide +kernel) (by decide)]; rfl

/-- A device's semaphores, all at zero: the barrier's and its own. -/
theorem sems_eq (c : Dev nD) :
    bigSep Finset.univ (fun i : CI => (semVal (kcell (c, i)) 0 : sProp 𝕄))
      = iprop(unscopedSems0 c ∗ Pipeline.ownSems0 (Ix := Unit) (Name := ℕ) (U := UU) (Lvl := ℕ) (Val := Elt F) (τ := τ) osem c) := by
  rw [bigSep_univ_sum, unscoped_eq]
  refine congrArg₂ _ ?_ rfl
  exact (bigSep_eq_bigSepL_of_eq [()] (by decide) (by decide) _)

/-- A device's semaphores at zero and its cells' states become its cells' invariants. -/
theorem alloc_cells (c : Dev nD) :
    iprop(bigSep Finset.univ (fun i : CI => (semVal (kcell (c, i)) 0 : sProp 𝕄)) ∗ bigSep Finset.univ fun i : CI => roundState ER (Rd (inp m)) (kcell (c, i)) 0)
      ⊢ (|={Set.univ}=> bigSep Finset.univ fun i : CI => iprop(∃ κ : ℕ, cellInv ER (Rd (inp m)) κ (kcell (c, i))) : sProp 𝕄) :=
  (bs_zip _ _).trans ((bigSep_mono fun i _ => (Rounds.body_intro ER (Rd (inp m)) (kcell (c, i))).trans inv_alloc).trans (bigSep_fupd _ _))

/-- What a device holds once its cells' invariants stand. -/
abbrev stood (c : Dev nD) : sProp 𝕄 :=
  iprop((bigSep Finset.univ fun i : CI => iprop(∃ κ : ℕ, cellInv ER (Rd (inp m)) κ (kcell (c, i))))
    ∗ (bigSep Finset.univ fun i : CI => (atPos ER (kcell (c, i)) 0 ∅ 0 : sProp 𝕄))
    ∗ (bigSep Finset.univ fun i : CI => (reached ER (kcell (c, i)) 0 : sProp 𝕄))
    ∗ bigSep Finset.univ fun δ : Duty => (dutyTok ER (cell c δ) 0 δ : sProp 𝕄))

/-- One device's share of the set-up: its cells' invariants stand. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> stood m c := by
  unfold G stood
  iintro ⟨Hos, Hus, Hst, Hrest⟩
  ihave Hv := (Entails.of_eq (sems_eq (F := F) c).symm) $$ [Hos Hus]
  · isplitl [Hus] <;> iassumption
  imod (alloc_cells m c) $$ [Hv Hst] with Hinv
  · isplitl [Hv] <;> iassumption
  imodintro
  isplitl [Hinv]; · iexact Hinv
  iexact Hrest

/-- Every duty's token goes from the device it was made at to the device that pays with it. -/
theorem toks_around :
    (bigSep Finset.univ fun c : Dev nD => bigSep Finset.univ fun δ : Duty => (dutyTok ER (cell c δ) 0 δ : sProp 𝕄))
      = bigSep Finset.univ fun c : Dev nD => bigSep Finset.univ fun δ : Duty => (tok c δ : sProp 𝕄) := by
  have hs (Φ : Dev nD → Duty → sProp 𝕄) : (bigSep Finset.univ fun c : Dev nD => bigSep Finset.univ fun δ : Duty => Φ c δ)
      = bigSep Finset.univ fun δ : Duty => bigSep Finset.univ fun c : Dev nD => Φ c δ := by
    rw [← bigSep_univ_prod (fun p : Dev nD × Duty => Φ p.1 p.2), bigSep_univ_equiv (Equiv.prodComm Duty (Dev nD)), bigSep_univ_prod]
    rfl
  rw [hs, hs]
  exact bigSep_congr fun δ _ => (bigSep_univ_equiv (tgtE δ) (fun c : Dev nD => (dutyTok ER (cell c δ) 0 δ : sProp 𝕄))).trans rfl

/-- All devices' shares together: the invariants are known to all, and every token goes to its payer. -/
theorem regroup : bigSep Finset.univ (stood m) ⊢ bigSep Finset.univ (G' m) := by
  unfold stood
  rw [← zip4, toks_around, ← by_dev (fun ck => iprop(∃ κ : ℕ, cellInv ER (Rd (inp m)) κ (kcell ck))),
    ← by_dev (fun ck => (reached ER (kcell ck) 0 : sProp 𝕄))]
  iintro ⟨HI, Hat, #HR, Htok⟩
  ihave HK := (BI.bigSep_exists_pi Finset.univ (fun (ck : Dev nD × CI) (κ : ℕ) => (cellInv ER (Rd (inp m)) κ (kcell ck) : sProp 𝕄))) $$ HI
  icases HK with ⟨%K, #HI⟩
  iapply (bigSep_with_persistent (R := known m) (Φ := fun c => mine c) (Ψ := G' m) fun c _ => BI.Entails.refl _)
  isplitr
  · unfold known; iexists K
    isplitl; · iexact HI
    iexact HR
  · unfold mine
    iapply (bs_zip (fun c : Dev nD => bigSep Finset.univ (fun i : CI => (atPos ER (kcell (c, i)) 0 ∅ 0 : sProp 𝕄)))
      (fun c : Dev nD => bigSep Finset.univ (fun δ : Duty => tok c δ)))
    isplitl [Hat]; · iexact Hat
    iexact Htok

/-- The set-up over the mesh. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The scratch buffers -/

/-- A whole buffer at some contents, in both forms. -/
theorem any_whole (c : Dev nD) (b : Ref sig .tc) :
    (iprop(∃ f : Buf (Elt F) ((c : Thread nD τ).loc b), ((c : Thread nD τ).loc b) ↦{fullShare} f) : sProp 𝕄)
      = iprop(∃ X, owns (Ix := Unit) (Name := ℕ) (U := UU) (Lvl := ℕ) (c : Thread nD τ) (Memref.whole b) fullShare X) := by
  exact congrArg _ (funext fun X => (owns_whole (c : Thread nD τ) b fullShare X).symm)

/-- The scratch buffers the launch hands out are the body's. -/
theorem rest_eq (c : Dev nD) : (Pipeline.scopedRest (Ix := Unit) (Name := ℕ) (U := UU) (Lvl := ℕ) (Val := Elt F) cfg0.spec c : sProp 𝕄) = scr c := by
  rw [scopedRest0_eq]
  simp only [any_whole]
  rfl

/-! ## The launch theorem's side conditions -/

/-- What a device starts with, from what the launch gives it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' known mine start ctx
  iintro ⟨-, Hlev, Hcr, -, ⟨%K, HI, HR⟩, Hat, Htok⟩
  ihave Hc := (creds (F := F) c) $$ Hcr
  imodintro
  isplitl
  · isplitl [HI HR Hlev]
    · iexists K
      isplitl [HI]; · iexact HI
      isplitl [HR]; · iexact HR
      iexact Hlev
    isplitl [Htok]; · iexact Htok
    isplitl [Hat]; · iexact Hat
    iexact Hc
  · iempintro

/-- The body's invariant at the start. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, rest_eq]
  unfold Φ₀
  iintro ⟨Hs, -, Hr⟩
  isplitl [Hs]; · iexact Hs
  iexact Hr

/-- The body's invariant at the end gives back the semaphores and the scratch. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, rest_eq]
  unfold Φ₁
  rw [sems_eq]
  iintro ⟨Hr, Hu, Ho⟩
  isplitl [Hu]; · iexact Hu
  isplitl [Ho]; · iexact Ho
  iexact Hr

/-- Every duty has a level above the staging copies'. -/
theorem lAll_pos : ∀ δ ∈ lAll, 0 < dlev δ := by decide

/-- A device may wait on a staging semaphore whatever it owes. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  have hz : lv ((c : Thread nD τ), .dma q) () = 0 := by
    show slev q.val = 0
    unfold slev
    rw [if_neg (by omega), if_neg (by omega), if_neg (by omega), if_neg (by omega)]
  rcases hO with rfl | rfl
  · exact mayWait c (.dma q) lAll fun δ h => by rw [hz]; exact lAll_pos δ h
  · exact mayWait c (.dma q) [] fun δ h => by cases h

/-- A device may wait for its staging copies at every point. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What a window's array holds after the run. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 100000 in
/-- At any float values, from any memory and with every counter at zero, the program on the sixteen devices ends in
    every weakly fair execution; then every array of its windows holds the computed contents and every counter is zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays hold what they held. -/
theorem finalA_x (c : Dev nD) : finalA m c (0 : Fin 3) = m ((c : Thread nD τ).loc main_arg0) := (dats (F := F) m 0 c).arrAt_in (0 : Fin 3) rfl _
/-- The weights' array holds what it held. -/
theorem finalA_w (c : Dev nD) : finalA m c (1 : Fin 3) = m ((c : Thread nD τ).loc main_arg1) := (dats (F := F) m 0 c).arrAt_in (1 : Fin 3) rfl _

end Cert.KProof

end
-- ==== Proof.Frames.lean ====
/-
# The frames

Both readings of the kernel run, leave their arguments as they were and every semaphore at zero.
-/
module

public import proofs.«01_k».proof.Defs
public import proofs.«01_k».proof.Proof.Gen.Kernel
public import proofs.«01_k».proof.Proof.Launch

@[expose] public section

noncomputable section

namespace Cert.KProof

open Idealize.ShloMosaic Idealize.SL.Sem

variable {F : FTy → Type} [FloatOps F]

/-- At any float values the kernel runs, leaves its arguments as they were and every semaphore at zero. -/
theorem frame_run (m : (ℓ : Loc KernelIdeal.nD KernelIdeal.τ KernelIdeal.sig) → Buf (Elt F) ℓ) (ρ : Dev KernelIdeal.nD → PrngReg) :
    θ_run KernelIdeal.defs (onTc (τ := KernelIdeal.τ) (KernelIdeal.main (F := F))) (s₀ m ρ) (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1))
      ∧ r.2.sem = fun _ => 0) :=
  (θ_run KernelIdeal.defs _ _).mono (fun _ h => ⟨fun c => ⟨(h.1 c (0 : Fin 3)).trans (finalA_x m c), (h.1 c (1 : Fin 3)).trans (finalA_w m c)⟩, h.2⟩) (run_main m ρ)

/-- The kernel's frame at extended reals. -/
theorem frame_kernelIdeal : Cert.quiescent_KernelIdeal := fun m ρ _ => frame_run (F := Ideal) m ρ

/-! ## The printed kernel and its reading are one text -/

set_option maxRecDepth 100000 in
/-- The two programs' kernel functions are one text. -/
theorem text_eq : @Kernel.cc0_body F _ Kernel.Gen.facts = @KernelIdeal.cc0_body F _ KernelIdeal.Gen.facts := rfl

set_option maxRecDepth 100000 in
/-- So are their body tables, -/
theorem defs₀_eq : Kernel.defs₀ (F := F) = KernelIdeal.defs₀ (F := F) := by
  refine congrArg Defs.onTc (funext fun ℓ => funext fun a => ?_)
  match ℓ, a with
  | 0, (t, s) => exact rfl
  | ⟨_ + 1, h⟩, _ => exact absurd h (Nat.not_lt.2 (Nat.le_add_left _ _))

/-- and their tables with the region's own bodies. -/
theorem defs_eq : Kernel.defs (F := F) = KernelIdeal.defs (F := F) := congrArg (Pipeline.defs KernelIdeal.pcfgs) defs₀_eq

/-- The printed kernel's frame, at bit patterns. -/
theorem frame_kernel : Cert.quiescent_Kernel := fun m ρ _ => by
  rw [defs_eq]
  exact frame_run (F := Bits) m ρ

end Cert.KProof

end
-- ==== Proof.Sum.lean ====
/-
# The sum over the mesh

The kernel adds the devices' shares in the order of two rings; each share contracts one sixteenth of the inner
axis. Together they contract all of it.
-/
module

public import proofs.«01_k».proof.Proof.Mesh
public import Mathlib.Algebra.BigOperators.Fin
public import Mathlib.Logic.Equiv.Fin.Basic

@[expose] public section

noncomputable section

namespace Cert.KProof

open Cert.KernelIdeal Idealize.ShloMosaic

open scoped BigOperators

/-- The devices in the order in which device `d`'s sum takes them: its ring, then its mirror's. -/
def visit (d : Dev nD) : List (Dev nD) :=
  (d :: asc.map (bk d)) ++ (mi d :: asc.map (bk (mi d)))

/-- Every device is visited once. -/
theorem visit_perm (d : Dev nD) : (visit d).Perm (List.finRange 16) := by revert d; decide +kernel

/-- A fold of additions is a sum. -/
theorem foldl_add {M : Type} [AddCommMonoid M] {ι : Type} (f : ι → M) (l : List ι) (a : M) :
    l.foldl (fun s r => s + f r) a = a + (l.map f).sum := by
  induction l generalizing a with
  | nil => simp
  | cons x l ih => rw [List.foldl_cons, ih, List.map_cons, List.sum_cons, add_assoc]

/-- The two rings' folds, added, are the sum over the mesh. -/
theorem rings_sum {M : Type} [AddCommMonoid M] (f : Dev nD → M) (d : Dev nD) :
    asc.foldl (fun s r => s + f (bk d r)) (f d) + asc.foldl (fun s r => s + f (bk (mi d) r)) (f (mi d)) = ∑ e : Fin 16, f e := by
  rw [foldl_add (fun r => f (bk d r)), foldl_add (fun r => f (bk (mi d) r))]
  have h := ((visit_perm d).map f).sum_eq
  rw [← List.ofFn_eq_map, List.sum_ofFn] at h
  rw [← h]
  simp only [visit, List.map_append, List.sum_append, List.map_cons, List.map_nil, List.sum_cons, List.sum_nil]

/-- A sum over the inner axis, cut in sixteen. -/
theorem cut_sum {M : Type} [AddCommMonoid M] (g : Fin 1024 → M) :
    ∑ e : Fin 16, ∑ k : Fin 64, g ⟨64 * e.val + k.val, by omega⟩ = ∑ k : Fin 1024, g k := by
  rw [← Fintype.sum_prod_type' (fun (e : Fin 16) (k : Fin 64) => g ⟨64 * e.val + k.val, by omega⟩)]
  refine Fintype.sum_equiv (finProdFinEquiv (m := 16) (n := 64)) _ _ fun p => congrArg g (Fin.ext ?_)
  show 64 * p.1.val + p.2.val = p.2.val + 64 * p.1.val
  omega

end Cert.KProof

end
-- ==== Proof.Value.lean ====
/-
# What the kernel computes, over the extended reals

Where casts are the identity and sums have no order, a row block of the output is the gelu of the whole
product's row block.
-/
module

public import proofs.«01_k».proof.Proof.Slots
public import proofs.«01_k».proof.Proof.Sum
public import Idealize.ShloMosaic.Lib.MatmulPlain
public import Idealize.ShloMosaic.Lib.Layout
public import Idealize.ShloMosaic.Lib.Pipeline.Value
public import Idealize.ShloMosaic.PureOps.Ideal

@[expose] public section

noncomputable section

namespace Cert.KProof

open Cert.KernelIdeal Cert.KernelIdeal.Gen
open Idealize.ShloMosaic Idealize.ShloMosaic.TcCoe Idealize.ShloMosaic.ValueIdx

open scoped BigOperators

/-! ## The gelu -/

/-- The tanh gelu of one number, its constants as the programs print them. -/
def gelu1 (t : EReal) : EReal :=
  Ideal.ofBits .f32 0x3F000000#32 * t * (Ideal.ofBits .f32 0x3F800000#32
    + Ideal.tanh (Ideal.ofBits .f32 0x3F4C422A#32 * (t + Ideal.ofBits .f32 0x3D372713#32 * (t * t * t))))

/-- The kernel's gelu at an index. -/
theorem gelPay_apply (t : FVec Ideal S64x1024 .f32) (j : S64x1024.Idx) : gelPay t j = gelu1 (t j) := by
  show Ideal.ofBits .f32 0x3F000000#32 * t j * (Ideal.ofBits .f32 0x3F800000#32
    + Ideal.tanh (Ideal.ofBits .f32 0x3F4C422A#32 * (t j + Ideal.ofBits .f32 0x3D372713#32 * (t j * (t j * t j))))) = _
  unfold gelu1
  rw [mul_assoc (t j)]

/-! ## One device's share -/

/-- Rows `64 k + r` of a device's block of `x`. -/
theorem xrow_apply (x : Vec Ideal S1024x64 .bf16) (k : Dev nD) (r c : Fin 64) :
    xrow x k (ix2 r c) = x (ix2 ⟨64 * k.val + r.val, by have := k.isLt; simp only [nD] at this; omega⟩ c) := by
  unfold xrow
  refine congrArg x (funext fun a => ?_)
  match a with
  | ⟨0, _⟩ => exact Fin.ext (by show 64 * k.val + 1 * r.val = 64 * k.val + r.val; omega)
  | ⟨1, _⟩ => exact Fin.ext (by show 0 + 1 * c.val = c.val; omega)

/-- The product of a row block by the weights, at an index. -/
theorem ownPay_apply (x : Vec Ideal S64x64 .bf16) (w : Vec Ideal S64x1024 .bf16) (r : Fin 64) (c : Fin 1024) :
    (ownPay x w : FVec Ideal S64x1024 .f32) (ix2 r c) = ∑ k : Fin 64, (x (ix2 r k) * w (ix2 k c) : EReal) := by
  unfold ownPay k0_pay21
  simp only [shapeCast_self]
  refine (Ideal.matmul_plain_apply (M := 64) (K := 64) (N := 1024) none x w (constant S64x1024 .f32 0x00000000#32) r c).trans ?_
  show Ideal.ofBits .f32 0x00000000#32 + _ = _
  rw [Ideal.ofBits_zero_f32, zero_add]

/-! ## The whole product -/

section Whole
variable (X W : (⟨2, ![1024, 1024]⟩ : Shape).Idx → EReal)

/-- The operands as the mesh holds them: `x` cut by columns, `w` by rows. -/
def cut : Inp Ideal where
  x c := Layout.block ⟨2, ![1024, 64]⟩ ⟨2, ![1024, 1024]⟩ 1 16 c X
  w c := Layout.block ⟨2, ![64, 1024]⟩ ⟨2, ![1024, 1024]⟩ 0 16 c W

/-- The product of the whole operands. -/
def prod (r c : Fin 1024) : EReal := ∑ k : Fin 1024, X (ix2 r k) * W (ix2 k c)

/-- Row `r` of row block `d`. -/
def rw64 (d : Dev nD) (r : Fin 64) : Fin 1024 := ⟨64 * d.val + r.val, by have := d.isLt; simp only [nD] at this; omega⟩

/-- A device's share of a row block is the sum over its sixteenth of the inner axis. -/
theorem part_apply (e d : Dev nD) (r : Fin 64) (c : Fin 1024) :
    part (cut X W) e d (ix2 r c)
      = ∑ k : Fin 64, X (ix2 (rw64 d r) ⟨64 * e.val + k.val, by have := e.isLt; simp only [nD] at this; omega⟩)
          * W (ix2 ⟨64 * e.val + k.val, by have := e.isLt; simp only [nD] at this; omega⟩ c) := by
  unfold part
  rw [ownPay_apply]
  refine Finset.sum_congr rfl fun k _ => ?_
  rw [xrow_apply]
  refine congrArg₂ (· * ·) (congrArg X (funext fun a => ?_)) (congrArg W (funext fun a => ?_))
  · match a with
    | ⟨0, _⟩ => exact Fin.ext rfl
    | ⟨1, _⟩ => exact Fin.ext (by show e.val * 64 + k.val = 64 * e.val + k.val; omega)
  · match a with
    | ⟨0, _⟩ => exact Fin.ext (by show e.val * 64 + k.val = 64 * e.val + k.val; omega)
    | ⟨1, _⟩ => exact Fin.ext rfl

/-- A ring's sum, at an index. -/
theorem half_apply (d k : Dev nD) (j : S64x1024.Idx) :
    half (cut X W) d k j = asc.foldl (fun (s : EReal) r => s + part (cut X W) (bk d r) k j) (part (cut X W) d k j) := by
  unfold half
  generalize part (cut X W) d k = a
  generalize asc = l
  induction l generalizing a with
  | nil => rfl
  | cons r l ih => exact ih _

/-- A row block's sum over the mesh is that row block of the whole product. -/
theorem tot_apply (d : Dev nD) (r : Fin 64) (c : Fin 1024) : tot (cut X W) d (ix2 r c) = prod X W (rw64 d r) c := by
  have h : tot (cut X W) d (ix2 r c) = (half (cut X W) d d (ix2 r c) + half (cut X W) (mi d) d (ix2 r c) : EReal) := by
    unfold tot sumPay Sb rndPay
    rw [mi_mi, shapeCast_self]
    rfl
  rw [h, half_apply, half_apply, rings_sum (fun e => (part (cut X W) e d (ix2 r c) : EReal)) d]
  simp only [part_apply]
  exact cut_sum fun k => X (ix2 (rw64 d r) k) * W (ix2 k c)

/-- A row block of the result is the gelu of the whole product's row block. -/
theorem gel_apply (d : Dev nD) (r : Fin 64) (c : Fin 1024) : gel (cut X W) d (ix2 r c) = gelu1 (prod X W (rw64 d r) c) := by
  unfold gel
  rw [gelPay_apply, tot_apply]

/-- Every device writes the same rows. -/
theorem outRow_eq (c d : Dev nD) : outRow (cut X W) c d = gel (cut X W) d := by
  unfold outRow AG rndPay
  split
  · rfl
  · rw [shapeCast_self]; rfl

/-- Every device's output is the gelu of the whole product. -/
theorem outAt_apply (c : Dev nD) (i j : Fin 1024) : outAt (cut X W) c (ix2 i j) = gelu1 (prod X W i j) := by
  have hd : i.val / 64 < 16 := by omega
  have e : (ix2 i j : S1024x1024.Idx) = (rO ⟨i.val / 64, hd⟩).emb (ix2 ⟨i.val % 64, Nat.mod_lt _ (by decide)⟩ j) := by
    funext a
    match a with
    | ⟨0, _⟩ => exact Fin.ext (by show i.val = 64 * (i.val / 64) + 1 * (i.val % 64); omega)
    | ⟨1, _⟩ => exact Fin.ext (by show j.val = 0 + 1 * j.val; omega)
  rw [e]
  refine (congrFun (outAt_emb (cut X W) c ⟨i.val / 64, hd⟩) (ix2 ⟨i.val % 64, _⟩ j)).trans ?_
  rw [outRow_eq, gel_apply]
  refine congrArg (fun r => gelu1 (prod X W r j)) (Fin.ext ?_)
  show 64 * (i.val / 64) + i.val % 64 = i.val
  omega

end Whole

end Cert.KProof

end
-- ==== Proof.Algebraic.lean ====
/-
# The value claim

The reference's result is the gelu of the whole product; so is the result array of every device.
-/
module

public import proofs.«01_k».proof.Defs
public import proofs.«01_k».proof.Proof.Gen.ReferenceIdeal.Run
public import proofs.«01_k».proof.Proof.Launch
public import proofs.«01_k».proof.Proof.Value

@[expose] public section

noncomputable section

namespace Cert.KProof

open Cert.KernelIdeal Cert.KernelIdeal.Gen
open Idealize.ShloMosaic Idealize.ShloMosaic.TcCoe Idealize.ShloMosaic.ValueIdx Idealize.SL.Sem

open scoped BigOperators

/-! ## The kernel's arrays -/

section Arrays
variable {F : FTy → Type} [FloatOps F] (m : (ℓ : Loc nD τ sig) → Buf (Elt F) ℓ)

/-- The one block of each window is its whole array. -/
theorem inp_x (c : Dev nD) : (inp m).x c = m ((c : Thread nD τ).loc main_arg0) := by
  funext i
  refine congrArg (m ((c : Thread nD τ).loc main_arg0)) (funext fun a => ?_)
  match a with
  | ⟨0, _⟩ => exact Fin.ext (by show 0 + 1 * (i 0).val = (i 0).val; omega)
  | ⟨1, _⟩ => exact Fin.ext (by show 0 + 1 * (i 1).val = (i 1).val; omega)

/-- The weights a device reads are its whole argument array. -/
theorem inp_w (c : Dev nD) : (inp m).w c = m ((c : Thread nD τ).loc main_arg1) := by
  funext i
  refine congrArg (m ((c : Thread nD τ).loc main_arg1)) (funext fun a => ?_)
  match a with
  | ⟨0, _⟩ => exact Fin.ext (by show 0 + 1 * (i 0).val = (i 0).val; omega)
  | ⟨1, _⟩ => exact Fin.ext (by show 0 + 1 * (i 1).val = (i 1).val; omega)

/-- The result window's one block covers its array in place. -/
theorem blk_emb (i : S1024x1024.Idx) : ((cfg0.win (2 : Fin 3)).blk t0_0).view.emb i = i := by
  funext a
  match a with
  | ⟨0, _⟩ => exact Fin.ext (by show 0 + 1 * (i 0).val = (i 0).val; omega)
  | ⟨1, _⟩ => exact Fin.ext (by show 0 + 1 * (i 1).val = (i 1).val; omega)

/-- The result array ends with what the body leaves in the output's buffer. -/
theorem finalA_out (c : Dev nD) : finalA m c (2 : Fin 3) = outAt (inp m) c := by
  refine (dats m 0 c).arrAt_eq_of_cover (2 : Fin 3) (outAt (inp m) c) (fun t _ => ?_) fun i => ⟨t0_0, flush0_2 t0_0, ?_⟩
  · rw [fin_N0 t]
    exact funext fun i => (congrArg (outAt (inp m) c) (blk_emb i)).symm
  · exact Finset.mem_map.2 ⟨i, Finset.mem_univ _, blk_emb i⟩

end Arrays

/-! ## The reference -/

/-- The reference's product at an index is the sum over the whole inner axis. -/
theorem dot_apply (X W : FVec Ideal ReferenceIdeal.S1024x1024 .f32) (i j : Fin 1024) :
    Host.dotGeneral (F := Ideal) ReferenceIdeal.dot_S1024x1024_S1024x1024_S1024x1024_1_0_0_1_n_n none X W (ix2 i j) = prod X W i j := by
  refine (Ideal.matmul_plain_apply (M := 1024) (K := 1024) (N := 1024) none X W (fun _ => (0 : EReal)) i j).trans ?_
  exact zero_add _

/-- The gelu of the whole product. -/
def gelProd (X W : (⟨2, ![1024, 1024]⟩ : Shape).Idx → EReal) : (⟨2, ![1024, 1024]⟩ : Shape).Idx → EReal := fun i => gelu1 (prod X W (i 0) (i 1))

/-- The contents every device leaves in its output buffer are the gelu of the whole product. -/
theorem outAt_gelProd (X W : (⟨2, ![1024, 1024]⟩ : Shape).Idx → EReal) (c : Dev nD) : outAt (cut X W) c = gelProd X W := by
  funext i
  rw [eq_ix2 i]
  exact outAt_apply X W c _ _

/-- The reference's run, its result named. -/
theorem run_ref (m' : (ℓ : Loc ReferenceIdeal.nD ReferenceIdeal.τ ReferenceIdeal.sig) → Buf (Elt Ideal) ℓ) (g' : Dev ReferenceIdeal.nD → PrngReg) :
    θ_run (ReferenceIdeal.defs (F := Ideal)) (onTc (τ := ReferenceIdeal.τ) (ReferenceIdeal.main (F := Ideal))) ⟨m', fun _ => 0, g'⟩ fun r => ∀ c : Dev ReferenceIdeal.nD,
      r.2.mem ((c.tc : Thread ReferenceIdeal.nD ReferenceIdeal.τ).loc ReferenceIdeal.main_v15)
        = gelProd (m' ((c.tc : Thread ReferenceIdeal.nD ReferenceIdeal.τ).loc ReferenceIdeal.main_arg0)) (m' ((c.tc : Thread ReferenceIdeal.nD ReferenceIdeal.τ).loc ReferenceIdeal.main_arg1))
      ∧ r.2.mem ((c.tc : Thread ReferenceIdeal.nD ReferenceIdeal.τ).loc ReferenceIdeal.main_arg0) = m' ((c.tc : Thread ReferenceIdeal.nD ReferenceIdeal.τ).loc ReferenceIdeal.main_arg0)
      ∧ r.2.mem ((c.tc : Thread ReferenceIdeal.nD ReferenceIdeal.τ).loc ReferenceIdeal.main_arg1) = m' ((c.tc : Thread ReferenceIdeal.nD ReferenceIdeal.τ).loc ReferenceIdeal.main_arg1) := by
  refine (θ_run ReferenceIdeal.defs _ _).mono (fun r h c => ⟨(h c).1.trans (funext fun i => ?_), (h c).2⟩) (ReferenceIdeal.Value.run (F := Ideal) m' g')
  rw [eq_ix2 i]
  have e := dot_apply (extf .f32 (m' ((c.tc : Thread ReferenceIdeal.nD ReferenceIdeal.τ).loc ReferenceIdeal.main_arg0)) ReferenceIdeal.Facts₀.bitsLt_bf16_f32)
    (extf .f32 (m' ((c.tc : Thread ReferenceIdeal.nD ReferenceIdeal.τ).loc ReferenceIdeal.main_arg1)) ReferenceIdeal.Facts₀.bitsLt_bf16_f32) (i 0) (i 1)
  exact congrArg gelu1 e

/-! ## The frame of the reference, and the claim -/

/-- The reference's frame: it runs, keeps its arguments, and has no semaphore. -/
theorem frame_ref : Cert.quiescent_ReferenceIdeal := fun m ρ _ =>
  (θ_run ReferenceIdeal.defs _ _).mono (fun r h => ⟨fun c => (h c).2, sem_eq_zero_of_no_sems (by decide) r.2⟩) (run_ref m ρ)

/-- From operands that are the blocks of two whole matrices, every device of the kernel ends with the reference's result. -/
theorem algebraic : Cert.algebraic_KernelIdeal_ReferenceIdeal := by
  intro m g m' g' _ hm
  refine ⟨gelProd (m' (((0 : Dev ReferenceIdeal.nD).tc : Thread ReferenceIdeal.nD ReferenceIdeal.τ).loc ReferenceIdeal.main_arg0))
    (m' (((0 : Dev ReferenceIdeal.nD).tc : Thread ReferenceIdeal.nD ReferenceIdeal.τ).loc ReferenceIdeal.main_arg1)), ?_, ?_⟩
  · refine (θ_run KernelIdeal.defs _ _).mono (fun r h c => ⟨?_, (h.1 c (0 : Fin 3)).trans (finalA_x m c), (h.1 c (1 : Fin 3)).trans (finalA_w m c)⟩)
      (run_main (F := Ideal) m g)
    refine (h.1 c (2 : Fin 3)).trans ((finalA_out m c).trans ?_)
    have hI : inp m = cut (m' (((0 : Dev ReferenceIdeal.nD).tc : Thread ReferenceIdeal.nD ReferenceIdeal.τ).loc ReferenceIdeal.main_arg0))
        (m' (((0 : Dev ReferenceIdeal.nD).tc : Thread ReferenceIdeal.nD ReferenceIdeal.τ).loc ReferenceIdeal.main_arg1)) := by
      have hx : (inp m).x = _ := funext fun c => (inp_x m c).trans (hm c).1
      have hw : (inp m).w = _ := funext fun c => (inp_w m c).trans (hm c).2
      exact (congrArg₂ Inp.mk hx hw)
    rw [hI]
    exact outAt_gelProd _ _ c
  · exact (θ_run ReferenceIdeal.defs _ _).mono (fun r h => h 0) (run_ref m' g')

end Cert.KProof

end
-- ==== Proof.lean ====
/-
# The proof of `Cert.Claim`

The facts the programs state come first, then the five claims: the frames of the printed kernel, of its reading at
extended reals and of the reference, that the reading keeps every operation, and that the two compute one result.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic

@[expose] public section

noncomputable section

namespace Cert.Proof

open Cert.KProof

/-- Everything the certificate claims. -/
theorem claim : Cert.Claim :=
  ⟨Cert.Kernel.Gen.facts, Cert.KernelIdeal.Gen.facts, Cert.ReferenceIdeal.Gen.facts,
    frame_kernel, frame_kernelIdeal, frame_ref, trivial, algebraic⟩

end Cert.Proof

end
